-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_steps [hPre_finite_steps : Cert.Pre_finite_steps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_steps [hPre_finite_steps : Cert.Pre_finite_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_steps [hKernelIdeal : Cert.KernelIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_steps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_steps [hReferenceIdeal : Cert.ReferenceIdeal.Facts] [hPre_finite_steps : Cert.Pre_finite_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_steps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_steps [hKernelIdeal : Cert.KernelIdeal.Facts] [hReferenceIdeal : Cert.ReferenceIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_steps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v45)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v43_0)) (v1 : (c : Dev Cert.Kernel3Ideal.nD) → Buf (Elt Ideal) ((c.tc : Thread Cert.Kernel3Ideal.nD Cert.Kernel3Ideal.τ).loc Cert.Kernel3Ideal.main_v43_1)) (v2 : (c : Dev Cert.Kernel3Ideal.nD) → Buf (Elt Ideal) ((c.tc : Thread Cert.Kernel3Ideal.nD Cert.Kernel3Ideal.τ).loc Cert.Kernel3Ideal.main_v43_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43_0) = v0 c
          ∧ r.2.mem ((c.tc : Thread Cert.Kernel3Ideal.nD Cert.Kernel3Ideal.τ).loc Cert.Kernel3Ideal.main_v43_1) = v1 c
          ∧ r.2.mem ((c.tc : Thread Cert.Kernel3Ideal.nD Cert.Kernel3Ideal.τ).loc Cert.Kernel3Ideal.main_v43_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v54_0)) (v1 : (c : Dev Cert.Kernel6Ideal.nD) → Buf (Elt Ideal) ((c.tc : Thread Cert.Kernel6Ideal.nD Cert.Kernel6Ideal.τ).loc Cert.Kernel6Ideal.main_v54_1)) (v2 : (c : Dev Cert.Kernel6Ideal.nD) → Buf (Elt Ideal) ((c.tc : Thread Cert.Kernel6Ideal.nD Cert.Kernel6Ideal.τ).loc Cert.Kernel6Ideal.main_v54_2)) (v3 : (c : Dev Cert.Kernel6Ideal.nD) → Buf (Elt Ideal) ((c.tc : Thread Cert.Kernel6Ideal.nD Cert.Kernel6Ideal.τ).loc Cert.Kernel6Ideal.main_v54_3)) (v4 : (c : Dev Cert.Kernel6Ideal.nD) → Buf (Elt Ideal) ((c.tc : Thread Cert.Kernel6Ideal.nD Cert.Kernel6Ideal.τ).loc Cert.Kernel6Ideal.main_v54_4)) (v5 : (c : Dev Cert.Kernel6Ideal.nD) → Buf (Elt Ideal) ((c.tc : Thread Cert.Kernel6Ideal.nD Cert.Kernel6Ideal.τ).loc Cert.Kernel6Ideal.main_v54_5)) (v6 : (c : Dev Cert.Kernel6Ideal.nD) → Buf (Elt Ideal) ((c.tc : Thread Cert.Kernel6Ideal.nD Cert.Kernel6Ideal.τ).loc Cert.Kernel6Ideal.main_v54_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v54_0) = v0 c
          ∧ r.2.mem ((c.tc : Thread Cert.Kernel6Ideal.nD Cert.Kernel6Ideal.τ).loc Cert.Kernel6Ideal.main_v54_1) = v1 c
          ∧ r.2.mem ((c.tc : Thread Cert.Kernel6Ideal.nD Cert.Kernel6Ideal.τ).loc Cert.Kernel6Ideal.main_v54_2) = v2 c
          ∧ r.2.mem ((c.tc : Thread Cert.Kernel6Ideal.nD Cert.Kernel6Ideal.τ).loc Cert.Kernel6Ideal.main_v54_3) = v3 c
          ∧ r.2.mem ((c.tc : Thread Cert.Kernel6Ideal.nD Cert.Kernel6Ideal.τ).loc Cert.Kernel6Ideal.main_v54_4) = v4 c
          ∧ r.2.mem ((c.tc : Thread Cert.Kernel6Ideal.nD Cert.Kernel6Ideal.τ).loc Cert.Kernel6Ideal.main_v54_5) = v5 c
          ∧ r.2.mem ((c.tc : Thread Cert.Kernel6Ideal.nD Cert.Kernel6Ideal.τ).loc Cert.Kernel6Ideal.main_v54_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v57) = v2 c
          ∧ r.2.mem ((c.tc : Thread Cert.Reference6Ideal.nD Cert.Reference6Ideal.τ).loc Cert.Reference6Ideal.main_v60) = v3 c
          ∧ r.2.mem ((c.tc : Thread Cert.Reference6Ideal.nD Cert.Reference6Ideal.τ).loc Cert.Reference6Ideal.main_v66) = v4 c
          ∧ r.2.mem ((c.tc : Thread Cert.Reference6Ideal.nD Cert.Reference6Ideal.τ).loc Cert.Reference6Ideal.main_v68) = v5 c
          ∧ r.2.mem ((c.tc : Thread Cert.Reference6Ideal.nD Cert.Reference6Ideal.τ).loc Cert.Reference6Ideal.main_v70) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_steps : Cert.Pre_finite_steps.Facts),
    quiescent_Kernel (hKernel := hKernel)
    ∧ quiescent_KernelIdeal (hKernelIdeal := hKernelIdeal)
    ∧ quiescent_KernelIdeal_pre_finite_steps (hKernelIdeal := hKernelIdeal) (hPre_finite_steps := hPre_finite_steps)
    ∧ quiescent_ReferenceIdeal (hReferenceIdeal := hReferenceIdeal)
    ∧ quiescent_ReferenceIdeal_pre_finite_steps (hReferenceIdeal := hReferenceIdeal) (hPre_finite_steps := hPre_finite_steps)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_steps (hKernelIdeal := hKernelIdeal) (hReferenceIdeal := hReferenceIdeal) (hPre_finite_steps := hPre_finite_steps)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_steps.lean ====
abbrev S16x2048x3072 : Shape := ⟨3, ![16, 2048, 3072]⟩
abbrev S16x2048x2048 : Shape := ⟨3, ![16, 2048, 2048]⟩
abbrev S16x2048x32 : Shape := ⟨3, ![16, 2048, 32]⟩
abbrev S32 : Shape := ⟨1, ![32]⟩
abbrev S2048 : Shape := ⟨1, ![2048]⟩
abbrev S_ : Shape := ⟨0, ![]⟩

class Facts : Prop where
  bcast_S_S16x2048x32 : S_.BroadcastsInDim S16x2048x32 (![] : Fin 0 → Fin S16x2048x32.rank)
  reducesTo_S16x2048x32_S_d0_1_2 : S16x2048x32.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S16x2048x3072 .f32) (main_arg1 : FVec F S16x2048x2048 .f32) (main_arg2 : FVec F S16x2048x32 .f32) (main_arg3 : FVec F S32 .f32) (main_arg4 : FVec F S32 .f32) (main_arg5 : FVec F S2048 .f32) : IVec S_ 1 :=
  let main_v0 : FVec F S16x2048x32 .f32 := Host.absf main_arg2
  let main_cst : FVec F S_ .f32 := constant S_ .f32 0x7F800000#32
  let main_v1 : FVec F S16x2048x32 .f32 := broadcastInDim S16x2048x32 ![] bcast_S_S16x2048x32 main_cst
  let main_v2 : IVec S16x2048x32 1 := cmpf .olt main_v0 main_v1
  let main_c : IVec S_ 1 := constantI S_ 1 1#1
  let main_v3 : IVec S_ 1 := (fun x v => Host.reduce IntOp.andi x v reducesTo_S16x2048x32_S_d0_1_2 h_S_) main_v2 main_c
  let main_cst_0 : FVec F S_ .f32 := constant S_ .f32 0x7F800000#32
  let main_v4 : FVec F S32 .f32 := broadcastInDim S32 ![] bcast_S_S32 main_cst_0
  let main_v5 : IVec S32 1 := cmpf .olt main_arg3 main_v4
  let main_c_1 : IVec S_ 1 := constantI S_ 1 1#1
  let main_v6 : IVec S_ 1 := (fun x v => Host.reduce IntOp.andi x v reducesTo_S32_S_d0 h_S_) main_v5 main_c_1
  let main_v7 : IVec S_ 1 := andi main_v3 main_v6
  main_v7
-- ==== Kernel.lean ====
abbrev S16x2048x3072 : Shape := ⟨3, ![16, 2048, 3072]⟩
abbrev S16x2048x2048 : Shape := ⟨3, ![16, 2048, 2048]⟩
abbrev S16x2048x32 : Shape := ⟨3, ![16, 2048, 32]⟩
abbrev S32 : Shape := ⟨1, ![32]⟩
abbrev S2048 : Shape := ⟨1, ![2048]⟩
abbrev S32768x3072 : Shape := ⟨2, ![32768, 3072]⟩
abbrev S32768x2048 : Shape := ⟨2, ![32768, 2048]⟩
abbrev S32768x32 : Shape := ⟨2, ![32768, 32]⟩
abbrev S_ : Shape := ⟨0, ![]⟩
abbrev S32768x128 : Shape := ⟨2, ![32768, 128]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S128x128 : Shape := ⟨2, ![128, 128]⟩
abbrev S4x384x1024 : Shape := ⟨3, ![4, 384, 1024]⟩
abbrev S256x2048 : Shape := ⟨2, ![256, 2048]⟩
abbrev S128x3072 : Shape := ⟨2, ![128, 3072]⟩
abbrev S128x2048 : Shape := ⟨2, ![128, 2048]⟩
abbrev S4x128x512 : Shape := ⟨3, ![4, 128, 512]⟩
abbrev S128x384 : Shape := ⟨2, ![128, 384]⟩
abbrev S128x256 : Shape := ⟨2, ![128, 256]⟩
abbrev S1x128x512 : Shape := ⟨3, ![1, 128, 512]⟩
abbrev S128x512 : Shape := ⟨2, ![128, 512]⟩
abbrev S1x384x1024 : Shape := ⟨3, ![1, 384, 1024]⟩
abbrev S384x1024 : Shape := ⟨2, ![384, 1024]⟩
abbrev S128x1024 : Shape := ⟨2, ![128, 1024]⟩
abbrev S256x128 : Shape := ⟨2, ![256, 128]⟩
abbrev S1x512 : Shape := ⟨2, ![1, 512]⟩
abbrev S128x1 : Shape := ⟨2, ![128, 1]⟩

abbrev nBuf : Space → Nat
  | .hbm => 123
  | .vmem => 15
  | .smem => 0
  | _ => 0

abbrev bufTy : (tb : Table) → Fin (tcTables nBuf tb) → BufTy
  | .hbm, ⟨0, _⟩ => ⟨S16x2048x3072, .f32⟩
  | .hbm, ⟨1, _⟩ => ⟨S16x2048x2048, .f32⟩
  | .hbm, ⟨2, _⟩ => ⟨S16x2048x32, .f32⟩
  | .hbm, ⟨3, _⟩ => ⟨S32, .f32⟩
  | .hbm, ⟨4, _⟩ => ⟨S32, .f32⟩
  | .hbm, ⟨5, _⟩ => ⟨S2048, .f32⟩
  | .hbm, ⟨6, _⟩ => ⟨S32768x3072, .f32⟩
  | .hbm, ⟨7, _⟩ => ⟨S32768x3072, .bf16⟩
  | .hbm, ⟨8, _⟩ => ⟨S32768x2048, .f32⟩
  | .hbm, ⟨9, _⟩ => ⟨S32768x2048, .bf16⟩
  | .hbm, ⟨10, _⟩ => ⟨S32768x32, .f32⟩
  | .hbm, ⟨11, _⟩ => ⟨S_, .i32⟩
  | .hbm, ⟨12, _⟩ => ⟨S_, .f32⟩
  | .hbm, ⟨13, _⟩ => ⟨S32768x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S32x64, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S128x128, .f32⟩
  | .hbm, ⟨26, _⟩ => ⟨S128x128, .bf16⟩
  | .hbm, ⟨27, _⟩ => ⟨S4x384x1024, .i32⟩
  | .hbm, ⟨28, _⟩ => ⟨S4x384x1024, .i32⟩
  | .hbm, ⟨29, _⟩ => ⟨S4x384x1024, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S4x384x1024, .i32⟩
  | .hbm, ⟨37, _⟩ => ⟨S4x384x1024, .i32⟩
  | .hbm, ⟨38, _⟩ => ⟨S_, .i32⟩
  | .hbm, ⟨39, _⟩ => ⟨S4x384x1024, .i32⟩
  | .hbm, ⟨40, _⟩ => ⟨S4x384x1024, .i1⟩
  | .hbm, ⟨41, _⟩ => ⟨S_, .i32⟩
  | .hbm, ⟨42, _⟩ => ⟨S4x384x1024, .i32⟩
  | .hbm, ⟨43, _⟩ => ⟨S4x384x1024, .i1⟩
  | .hbm, ⟨44, _⟩ => ⟨S_, .i32⟩
  | .hbm, ⟨45, _⟩ => ⟨S_, .i1⟩
  | .hbm, ⟨46, _⟩ => ⟨S4x384x1024, .i1⟩
  | .hbm, ⟨47, _⟩ => ⟨S4x384x1024, .i1⟩
  | .hbm, ⟨48, _⟩ => ⟨S4x384x1024, .i1⟩
  | .hbm, ⟨49, _⟩ => ⟨S4x384x1024, .i32⟩
  | .hbm, ⟨50, _⟩ => ⟨S4x384x1024, .i32⟩
  | .hbm, ⟨51, _⟩ => ⟨S4x384x1024, .i32⟩
  | .hbm, ⟨52, _⟩ => ⟨S_, .i32⟩
  | .hbm, ⟨53, _⟩ => ⟨S4x384x1024, .i32⟩
  | .hbm, ⟨54, _⟩ => ⟨S4x384x1024, .i32⟩
  | .hbm, ⟨55, _⟩ => ⟨S_, .i32⟩
  | .hbm, ⟨56, _⟩ => ⟨S_, .i32⟩
  | .hbm, ⟨57, _⟩ => ⟨S4x384x1024, .i32⟩
  | .hbm, ⟨58, _⟩ => ⟨S4x384x1024, .i32⟩
  | .hbm, ⟨59, _⟩ => ⟨S4x384x1024, .i32⟩
  | .hbm, ⟨60, _⟩ => ⟨S_, .i32⟩
  | .hbm, ⟨61, _⟩ => ⟨S4x384x1024, .i32⟩
  | .hbm, ⟨62, _⟩ => ⟨S4x384x1024, .i1⟩
  | .hbm, ⟨63, _⟩ => ⟨S4x384x1024, .i32⟩
  | .hbm, ⟨64, _⟩ => ⟨S4x384x1024, .i32⟩
  | .hbm, ⟨65, _⟩ => ⟨S_, .i32⟩
  | .hbm, ⟨66, _⟩ => ⟨S4x384x1024, .i32⟩
  | .hbm, ⟨67, _⟩ => ⟨S4x384x1024, .i1⟩
  | .hbm, ⟨68, _⟩ => ⟨S4x384x1024, .i1⟩
  | .hbm, ⟨69, _⟩ => ⟨S_, .i32⟩
  | .hbm, ⟨70, _⟩ => ⟨S4x384x1024, .i32⟩
  | .hbm, ⟨71, _⟩ => ⟨S4x384x1024, .i32⟩
  | .hbm, ⟨72, _⟩ => ⟨S4x384x1024, .i32⟩
  | .hbm, ⟨73, _⟩ => ⟨S4x384x1024, .i32⟩
  | .hbm, ⟨74, _⟩ => ⟨S4x384x1024, .i1⟩
  | .hbm, ⟨75, _⟩ => ⟨S4x384x1024, .f32⟩
  | .hbm, ⟨76, _⟩ => ⟨S4x384x1024, .bf16⟩
  | .hbm, ⟨77, _⟩ => ⟨S256x2048, .i32⟩
  | .hbm, ⟨78, _⟩ => ⟨S256x2048, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S256x2048, .i32⟩
  | .hbm, ⟨86, _⟩ => ⟨S256x2048, .i32⟩
  | .hbm, ⟨87, _⟩ => ⟨S_, .i32⟩
  | .hbm, ⟨88, _⟩ => ⟨S256x2048, .i32⟩
  | .hbm, ⟨89, _⟩ => ⟨S256x2048, .i1⟩
  | .hbm, ⟨90, _⟩ => ⟨S_, .i32⟩
  | .hbm, ⟨91, _⟩ => ⟨S256x2048, .i32⟩
  | .hbm, ⟨92, _⟩ => ⟨S256x2048, .i1⟩
  | .hbm, ⟨93, _⟩ => ⟨S_, .i32⟩
  | .hbm, ⟨94, _⟩ => ⟨S_, .i1⟩
  | .hbm, ⟨95, _⟩ => ⟨S256x2048, .i1⟩
  | .hbm, ⟨96, _⟩ => ⟨S256x2048, .i1⟩
  | .hbm, ⟨97, _⟩ => ⟨S256x2048, .i1⟩
  | .hbm, ⟨98, _⟩ => ⟨S256x2048, .i32⟩
  | .hbm, ⟨99, _⟩ => ⟨S256x2048, .i32⟩
  | .hbm, ⟨100, _⟩ => ⟨S256x2048, .i32⟩
  | .hbm, ⟨101, _⟩ => ⟨S_, .i32⟩
  | .hbm, ⟨102, _⟩ => ⟨S_, .i32⟩
  | .hbm, ⟨103, _⟩ => ⟨S256x2048, .i32⟩
  | .hbm, ⟨104, _⟩ => ⟨S256x2048, .i32⟩
  | .hbm, ⟨105, _⟩ => ⟨S256x2048, .i32⟩
  | .hbm, ⟨106, _⟩ => ⟨S_, .i32⟩
  | .hbm, ⟨107, _⟩ => ⟨S256x2048, .i32⟩
  | .hbm, ⟨108, _⟩ => ⟨S256x2048, .i1⟩
  | .hbm, ⟨109, _⟩ => ⟨S256x2048, .i32⟩
  | .hbm, ⟨110, _⟩ => ⟨S256x2048, .i32⟩
  | .hbm, ⟨111, _⟩ => ⟨S_, .i32⟩
  | .hbm, ⟨112, _⟩ => ⟨S256x2048, .i32⟩
  | .hbm, ⟨113, _⟩ => ⟨S256x2048, .i1⟩
  | .hbm, ⟨114, _⟩ => ⟨S256x2048, .i1⟩
  | .hbm, ⟨115, _⟩ => ⟨S_, .i32⟩
  | .hbm, ⟨116, _⟩ => ⟨S256x2048, .i32⟩
  | .hbm, ⟨117, _⟩ => ⟨S256x2048, .i32⟩
  | .hbm, ⟨118, _⟩ => ⟨S256x2048, .i32⟩
  | .hbm, ⟨119, _⟩ => ⟨S256x2048, .i1⟩
  | .hbm, ⟨120, _⟩ => ⟨S256x2048, .f32⟩
  | .hbm, ⟨121, _⟩ => ⟨S256x2048, .bf16⟩
  | .hbm, ⟨122, _⟩ => ⟨S32768x2048, .bf16⟩
  | .local _ .vmem, ⟨0, _⟩ => ⟨S128x3072, .bf16⟩
  | .local _ .vmem, ⟨1, _⟩ => ⟨S128x3072, .bf16⟩
  | .local _ .vmem, ⟨2, _⟩ => ⟨S128x2048, .bf16⟩
  | .local _ .vmem, ⟨3, _⟩ => ⟨S128x2048, .bf16⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x2048, .f32⟩
  | .local _ .vmem, ⟨8, _⟩ => ⟨S1x2048, .f32⟩
  | .local _ .vmem, ⟨9, _⟩ => ⟨S128x128, .bf16⟩
  | .local _ .vmem, ⟨10, _⟩ => ⟨S4x384x1024, .bf16⟩
  | .local _ .vmem, ⟨11, _⟩ => ⟨S256x2048, .bf16⟩
  | .local _ .vmem, ⟨12, _⟩ => ⟨S128x2048, .bf16⟩
  | .local _ .vmem, ⟨13, _⟩ => ⟨S128x2048, .bf16⟩
  | .local _ .vmem, ⟨14, _⟩ => ⟨S4x128x512, .f32⟩
  | _, _ => ⟨S16x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_c_1 : Ref sig .tc := ⟨.hbm, 38, rfl⟩
abbrev main_call2_v5 : Ref sig .tc := ⟨.hbm, 39, rfl⟩
abbrev main_call2_v6 : Ref sig .tc := ⟨.hbm, 40, rfl⟩
abbrev main_call2_c_2 : Ref sig .tc := ⟨.hbm, 41, rfl⟩
abbrev main_call2_v7 : Ref sig .tc := ⟨.hbm, 42, rfl⟩
abbrev main_call2_v8 : Ref sig .tc := ⟨.hbm, 43, rfl⟩
abbrev main_call2_c_3 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_v20 : Ref sig .tc := ⟨.hbm, 51, rfl⟩
abbrev main_c_2 : Ref sig .tc := ⟨.hbm, 52, rfl⟩
abbrev main_v21 : Ref sig .tc := ⟨.hbm, 53, rfl⟩
abbrev main_v22 : Ref sig .tc := ⟨.hbm, 54, rfl⟩
abbrev main_c_3 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_c : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_0 : Ref sig .tc := ⟨.hbm, 69, rfl⟩
abbrev main_call3_v12 : Ref sig .tc := ⟨.hbm, 70, rfl⟩
abbrev main_call3_v13 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_c_4 : Ref sig .tc := ⟨.hbm, 79, rfl⟩
abbrev main_call4_v0 : Ref sig .tc := ⟨.hbm, 80, rfl⟩
abbrev main_call4_c : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_c_1 : Ref sig .tc := ⟨.hbm, 87, rfl⟩
abbrev main_call4_v5 : Ref sig .tc := ⟨.hbm, 88, rfl⟩
abbrev main_call4_v6 : Ref sig .tc := ⟨.hbm, 89, rfl⟩
abbrev main_call4_c_2 : Ref sig .tc := ⟨.hbm, 90, rfl⟩
abbrev main_call4_v7 : Ref sig .tc := ⟨.hbm, 91, rfl⟩
abbrev main_call4_v8 : Ref sig .tc := ⟨.hbm, 92, rfl⟩
abbrev main_call4_c_3 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_v12 : Ref sig .tc := ⟨.hbm, 97, rfl⟩
abbrev main_call4_v13 : Ref sig .tc := ⟨.hbm, 98, rfl⟩
abbrev main_call4_v14 : Ref sig .tc := ⟨.hbm, 99, rfl⟩
abbrev main_v30 : Ref sig .tc := ⟨.hbm, 100, rfl⟩
abbrev main_c_5 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_c : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_0 : Ref sig .tc := ⟨.hbm, 115, rfl⟩
abbrev main_call5_v12 : Ref sig .tc := ⟨.hbm, 116, rfl⟩
abbrev main_call5_v13 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x3072 : Shape := ⟨3, ![16, 2048, 3072]⟩
abbrev S16x2048x2048 : Shape := ⟨3, ![16, 2048, 2048]⟩
abbrev S16x2048x32 : Shape := ⟨3, ![16, 2048, 32]⟩
abbrev S32 : Shape := ⟨1, ![32]⟩
abbrev S2048 : Shape := ⟨1, ![2048]⟩
abbrev S16x2048x32x64 : Shape := ⟨4, ![16, 2048, 32, 64]⟩
abbrev S16x2048x512 : Shape := ⟨3, ![16, 2048, 512]⟩
abbrev S16x2048x4x128 : Shape := ⟨4, ![16, 2048, 4, 128]⟩
abbrev S16x16x128x4x8x64 : Shape := ⟨6, ![16, 16, 128, 4, 8, 64]⟩
abbrev S16x16x128x4x8 : Shape := ⟨5, ![16, 16, 128, 4, 8]⟩
abbrev S16x16x128x4x128 : Shape := ⟨5, ![16, 16, 128, 4, 128]⟩
abbrev S4x8 : Shape := ⟨2, ![4, 8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128x1x1 : Shape := ⟨5, ![1, 128, 128, 1, 1]⟩
abbrev S_ : Shape := ⟨0, ![]⟩
abbrev S16x4x8x64x128 : Shape := ⟨5, ![16, 4, 8, 64, 128]⟩
abbrev S1x16x128x4x8x64 : Shape := ⟨6, ![1, 16, 128, 4, 8, 64]⟩
abbrev S16x128x4x8x64 : Shape := ⟨5, ![16, 128, 4, 8, 64]⟩
abbrev S1x16x128x4x8 : Shape := ⟨5, ![1, 16, 128, 4, 8]⟩
abbrev S16x128x4x8 : Shape := ⟨4, ![16, 128, 4, 8]⟩
abbrev S1x16x128x4x128 : Shape := ⟨5, ![1, 16, 128, 4, 128]⟩
abbrev S16x128x4x128 : Shape := ⟨4, ![16, 128, 4, 128]⟩
abbrev S1x1x4x8 : Shape := ⟨4, ![1, 1, 4, 8]⟩
abbrev S16x128x1x4x8 : Shape := ⟨5, ![16, 128, 1, 4, 8]⟩
abbrev S16x1x128x4x8 : Shape := ⟨5, ![16, 1, 128, 4, 8]⟩
abbrev S16x128x128x4x8 : Shape := ⟨5, ![16, 128, 128, 4, 8]⟩
abbrev S16x4x128x128 : Shape := ⟨4, ![16, 4, 128, 128]⟩
abbrev S16x128x128x4 : Shape := ⟨4, ![16, 128, 128, 4]⟩
abbrev S16x128x128x4x1 : Shape := ⟨5, ![16, 128, 128, 4, 1]⟩
abbrev S16x128x4x8x1 : Shape := ⟨5, ![16, 128, 4, 8, 1]⟩
abbrev S16x1x4x8 : Shape := ⟨4, ![16, 1, 4, 8]⟩
abbrev S16x4x8 : Shape := ⟨3, ![16, 4, 8]⟩
abbrev S16x4x8x1x1 : Shape := ⟨5, ![16, 4, 8, 1, 1]⟩
abbrev S32x1 : Shape := ⟨2, ![32, 1]⟩
abbrev S1x1x32x1 : Shape := ⟨4, ![1, 1, 32, 1]⟩
abbrev S16x2048x4x512 : Shape := ⟨4, ![16, 2048, 4, 512]⟩
abbrev S16x2048x4 : Shape := ⟨3, ![16, 2048, 4]⟩
abbrev S16x2048x4x1 : Shape := ⟨4, ![16, 2048, 4, 1]⟩
abbrev S1x1x2048 : Shape := ⟨3, ![1, 1, 2048]⟩
abbrev S32768x2048 : Shape := ⟨2, ![32768, 2048]⟩

abbrev nBuf : Space → Nat
  | .hbm => 171
  | .vmem => 0
  | .smem => 0
  | _ => 0

abbrev hbmTy0_0 (i : Nat) : BufTy := match i % 128 with
  | 0 => ⟨S16x2048x3072, .f32⟩
  | 1 => ⟨S16x2048x2048, .f32⟩
  | 2 => ⟨S16x2048x32, .f32⟩
  | 3 => ⟨S32, .f32⟩
  | 4 => ⟨S32, .f32⟩
  | 5 => ⟨S2048, .f32⟩
  | 6 => ⟨S16x2048x2048, .f32⟩
  | 7 => ⟨S16x2048x32x64, .f32⟩
  | 8 => ⟨S16x2048x512, .f32⟩
  | 9 => ⟨S16x2048x4x128, .f32⟩
  | 10 => ⟨S16x2048x512, .f32⟩
  | 11 => ⟨S16x2048x4x128, .f32⟩
  | 12 => ⟨S32, .f32⟩
  | 13 => ⟨S32, .f32⟩
  | 14 => ⟨S16x16x128x4x8x64, .f32⟩
  | 15 => ⟨S16x16x128x4x8x64, .f32⟩
  | 16 => ⟨S16x16x128x4x8, .f32⟩
  | 17 => ⟨S16x16x128x4x8, .f32⟩
  | 18 => ⟨S16x16x128x4x128, .f32⟩
  | 19 => ⟨S16x16x128x4x128, .f32⟩
  | 20 => ⟨S16x16x128x4x128, .f32⟩
  | 21 => ⟨S16x16x128x4x128, .f32⟩
  | 22 => ⟨S4x8, .f32⟩
  | 23 => ⟨S128, .i32⟩
  | 24 => ⟨S128x1, .i32⟩
  | 25 => ⟨S128, .i32⟩
  | 26 => ⟨S1x128, .i32⟩
  | 27 => ⟨S128x128, .i32⟩
  | 28 => ⟨S128x128, .i32⟩
  | 29 => ⟨S128x128, .i1⟩
  | 30 => ⟨S1x128x128x1x1, .i1⟩
  | 31 => ⟨S_, .f32⟩
  | 32 => ⟨S16x4x8x64x128, .f32⟩
  | 33 => ⟨S_, .f32⟩
  | 34 => ⟨S16x16x128x4x8x64, .f32⟩
  | 35 => ⟨S_, .i32⟩
  | 36 => ⟨S16x16x128x4x8x64, .f32⟩
  | 37 => ⟨S16x16x128x4x8, .f32⟩
  | 38 => ⟨S16x16x128x4x128, .f32⟩
  | 39 => ⟨S16x16x128x4x128, .f32⟩
  | 40 => ⟨S4x8, .f32⟩
  | 41 => ⟨S1x128x128x1x1, .i1⟩
  | 42 => ⟨S_, .i32⟩
  | 43 => ⟨S16x4x8x64x128, .f32⟩
  | 44 => ⟨S16x16x128x4x8x64, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1x16x128x4x8x64, .f32⟩
  | 53 => ⟨S16x128x4x8x64, .f32⟩
  | 54 => ⟨S_, .i32⟩
  | 55 => ⟨S_, .i32⟩
  | 56 => ⟨S_, .i32⟩
  | 57 => ⟨S_, .i32⟩
  | 58 => ⟨S1x16x128x4x8, .f32⟩
  | 59 => ⟨S16x128x4x8, .f32⟩
  | 60 => ⟨S_, .i32⟩
  | 61 => ⟨S_, .i32⟩
  | 62 => ⟨S_, .i32⟩
  | 63 => ⟨S_, .i32⟩
  | 64 => ⟨S1x16x128x4x128, .f32⟩
  | 65 => ⟨S16x128x4x128, .f32⟩
  | 66 => ⟨S_, .i32⟩
  | 67 => ⟨S_, .i32⟩
  | 68 => ⟨S_, .i32⟩
  | 69 => ⟨S_, .i32⟩
  | 70 => ⟨S1x16x128x4x128, .f32⟩
  | 71 => ⟨S16x128x4x128, .f32⟩
  | 72 => ⟨S1x1x4x8, .f32⟩
  | 73 => ⟨S16x128x4x8, .f32⟩
  | 74 => ⟨S16x128x4x8, .f32⟩
  | 75 => ⟨S_, .f32⟩
  | 76 => ⟨S_, .f32⟩
  | 77 => ⟨S16x128x4x8, .f32⟩
  | 78 => ⟨S16x128x1x4x8, .f32⟩
  | 79 => ⟨S16x1x128x4x8, .f32⟩
  | 80 => ⟨S16x128x128x4x8, .f32⟩
  | 81 => ⟨S16x128x128x4x8, .f32⟩
  | 82 => ⟨S16x128x128x4x8, .f32⟩
  | 83 => ⟨S_, .f32⟩
  | 84 => ⟨S_, .f32⟩
  | 85 => ⟨S16x128x128x4x8, .i1⟩
  | 86 => ⟨S16x128x128x4x8, .f32⟩
  | 87 => ⟨S16x128x128x4x8, .f32⟩
  | 88 => ⟨S16x128x128x4x8, .f32⟩
  | 89 => ⟨S16x4x128x128, .f32⟩
  | 90 => ⟨S16x128x128x4, .f32⟩
  | 91 => ⟨S16x128x128x4x1, .f32⟩
  | 92 => ⟨S16x128x128x4x8, .f32⟩
  | 93 => ⟨S16x128x128x4x8, .f32⟩
  | 94 => ⟨S16x1x128x4x8, .f32⟩
  | 95 => ⟨S16x128x128x4x8, .f32⟩
  | 96 => ⟨S16x128x128x4x8, .f32⟩
  | 97 => ⟨S16x4x8x64x128, .f32⟩
  | 98 => ⟨S16x128x4x8x64, .f32⟩
  | 99 => ⟨S16x4x8x64x128, .f32⟩
  | 100 => ⟨S16x128x4x8x64, .f32⟩
  | 101 => ⟨S16x128x4x8, .f32⟩
  | 102 => ⟨S16x128x4x8x1, .f32⟩
  | 103 => ⟨S16x128x4x8x64, .f32⟩
  | 104 => ⟨S16x128x4x8x64, .f32⟩
  | 105 => ⟨S16x128x4x8x64, .f32⟩
  | 106 => ⟨S16x1x4x8, .f32⟩
  | 107 => ⟨S16x128x4x8, .f32⟩
  | 108 => ⟨S16x128x4x8, .f32⟩
  | 109 => ⟨S16x128x4x8, .f32⟩
  | 110 => ⟨S16x128x4x8, .f32⟩
  | 111 => ⟨S16x1x4x8, .f32⟩
  | 112 => ⟨S16x4x8, .f32⟩
  | 113 => ⟨S16x4x8, .f32⟩
  | 114 => ⟨S16x4x8x1x1, .f32⟩
  | 115 => ⟨S16x4x8x64x128, .f32⟩
  | 116 => ⟨S16x4x8x64x128, .f32⟩
  | 117 => ⟨S16x128x4x8x1, .f32⟩
  | 118 => ⟨S16x128x4x8x64, .f32⟩
  | 119 => ⟨S16x128x4x8x64, .f32⟩
  | 120 => ⟨S16x4x8x64x128, .f32⟩
  | 121 => ⟨S16x4x8x64x128, .f32⟩
  | 122 => ⟨S1x16x128x4x8x64, .f32⟩
  | 123 => ⟨S_, .i32⟩
  | 124 => ⟨S_, .i32⟩
  | 125 => ⟨S_, .i32⟩
  | 126 => ⟨S_, .i32⟩
  | 127 => ⟨S_, .i32⟩
  | _ => ⟨S16x2048x3072, .f32⟩

abbrev hbmTy0_1 (i : Nat) : BufTy := match i % 128 with
  | 0 => ⟨S16x16x128x4x8x64, .f32⟩
  | 1 => ⟨S_, .i32⟩
  | 2 => ⟨S_, .i32⟩
  | 3 => ⟨S16x16x128x4x8x64, .f32⟩
  | 4 => ⟨S16x2048x32x64, .f32⟩
  | 5 => ⟨S32x1, .f32⟩
  | 6 => ⟨S16x2048x2048, .f32⟩
  | 7 => ⟨S16x2048x32x64, .f32⟩
  | 8 => ⟨S1x1x32x1, .f32⟩
  | 9 => ⟨S16x2048x32x64, .f32⟩
  | 10 => ⟨S16x2048x32x64, .f32⟩
  | 11 => ⟨S16x2048x32x64, .f32⟩
  | 12 => ⟨S16x2048x2048, .f32⟩
  | 13 => ⟨S16x2048x2048, .f32⟩
  | 14 => ⟨S16x2048x2048, .f32⟩
  | 15 => ⟨S_, .f32⟩
  | 16 => ⟨S16x2048x2048, .f32⟩
  | 17 => ⟨S16x2048x2048, .f32⟩
  | 18 => ⟨S_, .f32⟩
  | 19 => ⟨S16x2048x2048, .f32⟩
  | 20 => ⟨S16x2048x2048, .f32⟩
  | 21 => ⟨S16x2048x2048, .f32⟩
  | 22 => ⟨S16x2048x2048, .f32⟩
  | 23 => ⟨S16x2048x4x512, .f32⟩
  | 24 => ⟨S16x2048x4x512, .f32⟩
  | 25 => ⟨S_, .f32⟩
  | 26 => ⟨S16x2048x4, .f32⟩
  | 27 => ⟨S16x2048x4x1, .f32⟩
  | 28 => ⟨S_, .f32⟩
  | 29 => ⟨S16x2048x4x1, .f32⟩
  | 30 => ⟨S16x2048x4x1, .f32⟩
  | 31 => ⟨S_, .f32⟩
  | 32 => ⟨S16x2048x4x1, .f32⟩
  | 33 => ⟨S16x2048x4x1, .f32⟩
  | 34 => ⟨S16x2048x4x1, .f32⟩
  | 35 => ⟨S16x2048x4x512, .f32⟩
  | 36 => ⟨S16x2048x4x512, .f32⟩
  | 37 => ⟨S16x2048x2048, .f32⟩
  | 38 => ⟨S1x1x2048, .f32⟩
  | 39 => ⟨S16x2048x2048, .f32⟩
  | 40 => ⟨S16x2048x2048, .f32⟩
  | 41 => ⟨S32768x2048, .f32⟩
  | 42 => ⟨S32768x2048, .bf16⟩
  | _ => ⟨S16x2048x3072, .f32⟩

abbrev hbmTy (i : Nat) : BufTy := match i / 128 with
  | 0 => hbmTy0_0 i
  | 1 => hbmTy0_1 i
  | _ => ⟨S16x2048x3072, .f32⟩

abbrev bufTy : (tb : Table) → Fin (tcTables nBuf tb) → BufTy
  | .hbm, ⟨i, _⟩ => hbmTy i
  | _, _ => ⟨S16x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_c : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev main_v27_6 : Ref sig .tc := ⟨.hbm, 42, rfl⟩
abbrev main_v27_7 : Ref sig .tc := ⟨.hbm, 43, rfl⟩
abbrev main_v27_8 : Ref sig .tc := ⟨.hbm, 44, rfl⟩
abbrev main_while0c_c_12 : Ref sig .tc := ⟨.hbm, 45, rfl⟩
abbrev main_while0c_v57 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_c_2 : Ref sig .tc := ⟨.hbm, 50, rfl⟩
abbrev main_while0b_call0_c_3 : Ref sig .tc := ⟨.hbm, 51, rfl⟩
abbrev main_while0b_call0_v0 : Ref sig .tc := ⟨.hbm, 52, rfl⟩
abbrev main_while0b_v57 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_c_2 : Ref sig .tc := ⟨.hbm, 57, rfl⟩
abbrev main_while0b_call1_v0 : Ref sig .tc := ⟨.hbm, 58, rfl⟩
abbrev main_while0b_v58 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_c_2 : Ref sig .tc := ⟨.hbm, 63, rfl⟩
abbrev main_while0b_call2_v0 : Ref sig .tc := ⟨.hbm, 64, rfl⟩
abbrev main_while0b_v59 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_c_2 : Ref sig .tc := ⟨.hbm, 69, rfl⟩
abbrev main_while0b_call3_v0 : Ref sig .tc := ⟨.hbm, 70, rfl⟩
abbrev main_while0b_v60 : Ref sig .tc := ⟨.hbm, 71, rfl⟩
abbrev main_while0b_v61 : Ref sig .tc := ⟨.hbm, 72, rfl⟩
abbrev main_while0b_v62 : Ref sig .tc := ⟨.hbm, 73, rfl⟩
abbrev main_while0b_v63 : Ref sig .tc := ⟨.hbm, 74, rfl⟩
abbrev main_while0b_call4_call0_cst : Ref sig .tc := ⟨.hbm, 75, rfl⟩
abbrev main_while0b_call4_call0_v0 : Ref sig .tc := ⟨.hbm, 76, rfl⟩
abbrev main_while0b_v64 : Ref sig .tc := ⟨.hbm, 77, rfl⟩
abbrev main_while0b_v65 : Ref sig .tc := ⟨.hbm, 78, rfl⟩
abbrev main_while0b_v66 : Ref sig .tc := ⟨.hbm, 79, rfl⟩
abbrev main_while0b_v67 : Ref sig .tc := ⟨.hbm, 80, rfl⟩
abbrev main_while0b_v68 : Ref sig .tc := ⟨.hbm, 81, rfl⟩
abbrev main_while0b_v69 : Ref sig .tc := ⟨.hbm, 82, rfl⟩
abbrev main_while0b_cst_12 : Ref sig .tc := ⟨.hbm, 83, rfl⟩
abbrev main_while0b_call5_v0 : Ref sig .tc := ⟨.hbm, 84, rfl⟩
abbrev main_while0b_call5_v1 : Ref sig .tc := ⟨.hbm, 85, rfl⟩
abbrev main_while0b_call5_v2 : Ref sig .tc := ⟨.hbm, 86, rfl⟩
abbrev main_while0b_v70 : Ref sig .tc := ⟨.hbm, 87, rfl⟩
abbrev main_while0b_v71 : Ref sig .tc := ⟨.hbm, 88, rfl⟩
abbrev main_while0b_v72 : Ref sig .tc := ⟨.hbm, 89, rfl⟩
abbrev main_while0b_v73 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_v81 : Ref sig .tc := ⟨.hbm, 98, rfl⟩
abbrev main_while0b_v82 : Ref sig .tc := ⟨.hbm, 99, rfl⟩
abbrev main_while0b_v83 : Ref sig .tc := ⟨.hbm, 100, rfl⟩
abbrev main_while0b_v84 : Ref sig .tc := ⟨.hbm, 101, rfl⟩
abbrev main_while0b_v85 : Ref sig .tc := ⟨.hbm, 102, rfl⟩
abbrev main_while0b_v86 : Ref sig .tc := ⟨.hbm, 103, rfl⟩
abbrev main_while0b_v87 : Ref sig .tc := ⟨.hbm, 104, rfl⟩
abbrev main_while0b_v88 : Ref sig .tc := ⟨.hbm, 105, rfl⟩
abbrev main_while0b_v89 : Ref sig .tc := ⟨.hbm, 106, rfl⟩
abbrev main_while0b_v90 : Ref sig .tc := ⟨.hbm, 107, rfl⟩
abbrev main_while0b_v91 : Ref sig .tc := ⟨.hbm, 108, rfl⟩
abbrev main_while0b_v92 : Ref sig .tc := ⟨.hbm, 109, rfl⟩
abbrev main_while0b_v93 : Ref sig .tc := ⟨.hbm, 110, rfl⟩
abbrev main_while0b_v94 : Ref sig .tc := ⟨.hbm, 111, rfl⟩
abbrev main_while0b_v95 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_v100 : Ref sig .tc := ⟨.hbm, 117, rfl⟩
abbrev main_while0b_v101 : Ref sig .tc := ⟨.hbm, 118, rfl⟩
abbrev main_while0b_v102 : Ref sig .tc := ⟨.hbm, 119, rfl⟩
abbrev main_while0b_v103 : Ref sig .tc := ⟨.hbm, 120, rfl⟩
abbrev main_while0b_v104 : Ref sig .tc := ⟨.hbm, 121, rfl⟩
abbrev main_while0b_call6_v0 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_c_1 : Ref sig .tc := ⟨.hbm, 125, rfl⟩
abbrev main_while0b_call6_c_2 : Ref sig .tc := ⟨.hbm, 126, rfl⟩
abbrev main_while0b_call6_c_3 : Ref sig .tc := ⟨.hbm, 127, rfl⟩
abbrev main_while0b_v105 : Ref sig .tc := ⟨.hbm, 128, rfl⟩
abbrev main_while0b_c_13 : Ref sig .tc := ⟨.hbm, 129, rfl⟩
abbrev main_while0b_v106 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_call7_v0 : Ref sig .tc := ⟨.hbm, 141, rfl⟩
abbrev main_call7_v1 : Ref sig .tc := ⟨.hbm, 142, rfl⟩
abbrev main_call7_cst : Ref sig .tc := ⟨.hbm, 143, rfl⟩
abbrev main_call7_v2 : Ref sig .tc := ⟨.hbm, 144, rfl⟩
abbrev main_call7_v3 : Ref sig .tc := ⟨.hbm, 145, rfl⟩
abbrev main_call7_cst_0 : Ref sig .tc := ⟨.hbm, 146, rfl⟩
abbrev main_call7_v4 : Ref sig .tc := ⟨.hbm, 147, rfl⟩
abbrev main_call7_v5 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_cst_1 : Ref sig .tc := ⟨.hbm, 153, rfl⟩
abbrev main_v42 : Ref sig .tc := ⟨.hbm, 154, rfl⟩
abbrev main_v43 : Ref sig .tc := ⟨.hbm, 155, rfl⟩
abbrev main_cst_2 : Ref sig .tc := ⟨.hbm, 156, rfl⟩
abbrev main_v44 : Ref sig .tc := ⟨.hbm, 157, rfl⟩
abbrev main_v45 : Ref sig .tc := ⟨.hbm, 158, rfl⟩
abbrev main_cst_3 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16x2048x1024 : Shape := ⟨3, ![16, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1024x256 : Shape := ⟨2, ![1024, 256]⟩
abbrev S1024x4096 : Shape := ⟨2, ![1024, 4096]⟩
abbrev S1024x1536 : Shape := ⟨2, ![1024, 1536]⟩
abbrev S3x2816 : Shape := ⟨2, ![3, 2816]⟩
abbrev S2816 : Shape := ⟨1, ![2816]⟩
abbrev S1x2816 : Shape := ⟨2, ![1, 2816]⟩
abbrev S_ : Shape := ⟨0, ![]⟩
abbrev S4x2816 : Shape := ⟨2, ![4, 2816]⟩
abbrev S8x2816 : Shape := ⟨2, ![8, 2816]⟩
abbrev S8x11x256 : Shape := ⟨3, ![8, 11, 256]⟩
abbrev S11x8x256 : Shape := ⟨3, ![11, 8, 256]⟩
abbrev S11x256x1024 : Shape := ⟨3, ![11, 256, 1024]⟩
abbrev S1x1024 : Shape := ⟨2, ![1, 1024]⟩
abbrev S512x1024 : Shape := ⟨2, ![512, 1024]⟩
abbrev S528x1024 : Shape := ⟨2, ![528, 1024]⟩
abbrev S512 : Shape := ⟨1, ![512]⟩
abbrev S512x1 : Shape := ⟨2, ![512, 1]⟩
abbrev S16x1024 : Shape := ⟨2, ![16, 1024]⟩
abbrev S528x5632 : Shape := ⟨2, ![528, 5632]⟩
abbrev S528x256 : Shape := ⟨2, ![528, 256]⟩
abbrev S1x8x256 : Shape := ⟨3, ![1, 8, 256]⟩
abbrev S8x256 : Shape := ⟨2, ![8, 256]⟩
abbrev S1x256 : Shape := ⟨2, ![1, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 55
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1024x4096, .f32⟩
  | .hbm, ⟨31, _⟩ => ⟨S1024x1536, .f32⟩
  | .hbm, ⟨32, _⟩ => ⟨S1024x5632, .f32⟩
  | .hbm, ⟨33, _⟩ => ⟨S1024x5632, .bf16⟩
  | .hbm, ⟨34, _⟩ => ⟨S3x2816, .f32⟩
  | .hbm, ⟨35, _⟩ => ⟨S2816, .f32⟩
  | .hbm, ⟨36, _⟩ => ⟨S1x2816, .f32⟩
  | .hbm, ⟨37, _⟩ => ⟨S_, .f32⟩
  | .hbm, ⟨38, _⟩ => ⟨S4x2816, .f32⟩
  | .hbm, ⟨39, _⟩ => ⟨S8x2816, .f32⟩
  | .hbm, ⟨40, _⟩ => ⟨S8x11x256, .f32⟩
  | .hbm, ⟨41, _⟩ => ⟨S11x8x256, .f32⟩
  | .hbm, ⟨42, _⟩ => ⟨S3x2816, .f32⟩
  | .hbm, ⟨43, _⟩ => ⟨S2816, .f32⟩
  | .hbm, ⟨44, _⟩ => ⟨S1x2816, .f32⟩
  | .hbm, ⟨45, _⟩ => ⟨S_, .f32⟩
  | .hbm, ⟨46, _⟩ => ⟨S4x2816, .f32⟩
  | .hbm, ⟨47, _⟩ => ⟨S8x2816, .f32⟩
  | .hbm, ⟨48, _⟩ => ⟨S8x11x256, .f32⟩
  | .hbm, ⟨49, _⟩ => ⟨S11x8x256, .f32⟩
  | .hbm, ⟨50, _⟩ => ⟨S11x256x1024, .f32⟩
  | .hbm, ⟨51, _⟩ => ⟨S11x256x1024, .bf16⟩
  | .hbm, ⟨52, _⟩ => ⟨S1x1024, .f32⟩
  | .hbm, ⟨53, _⟩ => ⟨S1x1024, .f32⟩
  | .hbm, ⟨54, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S11x8x256, .f32⟩
  | .local _ .vmem, ⟨5, _⟩ => ⟨S11x8x256, .f32⟩
  | .local _ .vmem, ⟨6, _⟩ => ⟨S11x256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S528x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16x2048x1024 : Shape := ⟨3, ![16, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x5632, .f32⟩
  | .hbm, ⟨24, _⟩ => ⟨S_, .i32⟩
  | .hbm, ⟨25, _⟩ => ⟨S_, .f32⟩
  | .hbm, ⟨26, _⟩ => ⟨S16x2050x5632, .f32⟩
  | .hbm, ⟨27, _⟩ => ⟨S16x2048x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S16x2048x5632, .f32⟩
  | .hbm, ⟨32, _⟩ => ⟨S16x2048x5632, .f32⟩
  | .hbm, ⟨33, _⟩ => ⟨S_, .f32⟩
  | .hbm, ⟨34, _⟩ => ⟨S16x2048x5632, .f32⟩
  | .hbm, ⟨35, _⟩ => ⟨S16x2048x5632, .f32⟩
  | .hbm, ⟨36, _⟩ => ⟨S16x2048x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S16x2048x5632, .f32⟩
  | .hbm, ⟨41, _⟩ => ⟨S16x2048x5632, .f32⟩
  | .hbm, ⟨42, _⟩ => ⟨S16x2048x5632, .f32⟩
  | .hbm, ⟨43, _⟩ => ⟨S16x2048x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S16x2048x5632, .f32⟩
  | .hbm, ⟨48, _⟩ => ⟨S16x2048x5632, .f32⟩
  | .hbm, ⟨49, _⟩ => ⟨S16x2048x5632, .f32⟩
  | .hbm, ⟨50, _⟩ => ⟨S1x1x5632, .f32⟩
  | .hbm, ⟨51, _⟩ => ⟨S16x2048x5632, .f32⟩
  | .hbm, ⟨52, _⟩ => ⟨S16x2048x5632, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S_, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S32768x1024 : Shape := ⟨2, ![32768, 1024]⟩
abbrev S_ : Shape := ⟨0, ![]⟩
abbrev S2048 : Shape := ⟨1, ![2048]⟩
abbrev S2048x1024 : Shape := ⟨2, ![2048, 1024]⟩
abbrev S1024x256 : Shape := ⟨2, ![1024, 256]⟩
abbrev S1024x32 : Shape := ⟨2, ![1024, 32]⟩
abbrev S1024x128 : Shape := ⟨2, ![1024, 128]⟩
abbrev S1024x4096 : Shape := ⟨2, ![1024, 4096]⟩
abbrev S1024x1152 : Shape := ⟨2, ![1024, 1152]⟩
abbrev S1024x5248 : Shape := ⟨2, ![1024, 5248]⟩
abbrev S1x3072 : Shape := ⟨2, ![1, 3072]⟩
abbrev S3x3072 : Shape := ⟨2, ![3, 3072]⟩
abbrev S8x3072 : Shape := ⟨2, ![8, 3072]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S1x1024 : Shape := ⟨2, ![1, 1024]⟩
abbrev S32768x2048 : Shape := ⟨2, ![32768, 2048]⟩
abbrev S32768x3072 : Shape := ⟨2, ![32768, 3072]⟩
abbrev S32768x128 : Shape := ⟨2, ![32768, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S528x1024 : Shape := ⟨2, ![528, 1024]⟩
abbrev S512 : Shape := ⟨1, ![512]⟩
abbrev S512x1 : Shape := ⟨2, ![512, 1]⟩
abbrev S16x1024 : Shape := ⟨2, ![16, 1024]⟩
abbrev S1024x5120 : Shape := ⟨2, ![1024, 5120]⟩
abbrev S528x5120 : Shape := ⟨2, ![528, 5120]⟩
abbrev S528x256 : Shape := ⟨2, ![528, 256]⟩
abbrev S528x3072 : Shape := ⟨2, ![528, 3072]⟩
abbrev S512x256 : Shape := ⟨2, ![512, 256]⟩

abbrev nBuf : Space → Nat
  | .hbm => 62
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5152, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32768x1024, .f32⟩
  | .hbm, ⟨7, _⟩ => ⟨S_, .f32⟩
  | .hbm, ⟨8, _⟩ => ⟨S32, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048x1024, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x32, .f32⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S1024x4096, .f32⟩
  | .hbm, ⟨38, _⟩ => ⟨S1024x1152, .f32⟩
  | .hbm, ⟨39, _⟩ => ⟨S1024x5248, .f32⟩
  | .hbm, ⟨40, _⟩ => ⟨S1024x5248, .bf16⟩
  | .hbm, ⟨41, _⟩ => ⟨S1x3072, .f32⟩
  | .hbm, ⟨42, _⟩ => ⟨S_, .f32⟩
  | .hbm, ⟨43, _⟩ => ⟨S3x3072, .f32⟩
  | .hbm, ⟨44, _⟩ => ⟨S8x3072, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S32x64, .f32⟩
  | .hbm, ⟨54, _⟩ => ⟨S2048, .f32⟩
  | .hbm, ⟨55, _⟩ => ⟨S1x2048, .f32⟩
  | .hbm, ⟨56, _⟩ => ⟨S1x2048, .f32⟩
  | .hbm, ⟨57, _⟩ => ⟨S2048x1024, .bf16⟩
  | .hbm, ⟨58, _⟩ => ⟨S1x1024, .f32⟩
  | .hbm, ⟨59, _⟩ => ⟨S32768x2048, .bf16⟩
  | .hbm, ⟨60, _⟩ => ⟨S32768x3072, .bf16⟩
  | .hbm, ⟨61, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5248, .bf16⟩
  | .local _ .vmem, ⟨4, _⟩ => ⟨S8x3072, .f32⟩
  | .local _ .vmem, ⟨5, _⟩ => ⟨S1x128, .f32⟩
  | .local _ .vmem, ⟨6, _⟩ => ⟨S512x2048, .bf16⟩
  | .local _ .vmem, ⟨7, _⟩ => ⟨S512x2048, .bf16⟩
  | .local _ .vmem, ⟨8, _⟩ => ⟨S512x3072, .bf16⟩
  | .local _ .vmem, ⟨9, _⟩ => ⟨S512x3072, .bf16⟩
  | .local _ .vmem, ⟨10, _⟩ => ⟨S512x128, .f32⟩
  | .local _ .vmem, ⟨11, _⟩ => ⟨S512x128, .f32⟩
  | .local _ .vmem, ⟨12, _⟩ => ⟨S528x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_call2_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v43_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16x2048x1024 : Shape := ⟨3, ![16, 2048, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5152 : Shape := ⟨3, ![16, 2048, 5152]⟩
abbrev S16x2048x2048 : Shape := ⟨3, ![16, 2048, 2048]⟩
abbrev S16x2048x3072 : Shape := ⟨3, ![16, 2048, 3072]⟩
abbrev S16x2051x3072 : Shape := ⟨3, ![16, 2051, 3072]⟩
abbrev S1x3072 : Shape := ⟨2, ![1, 3072]⟩
abbrev S1x1x3072 : Shape := ⟨3, ![1, 1, 3072]⟩
abbrev S16x2048x32 : Shape := ⟨3, ![16, 2048, 32]⟩
abbrev S1x1x32 : Shape := ⟨3, ![1, 1, 32]⟩
abbrev S16x2048x128 : Shape := ⟨3, ![16, 2048, 128]⟩
abbrev S32768x2048 : Shape := ⟨2, ![32768, 2048]⟩
abbrev S32768x3072 : Shape := ⟨2, ![32768, 3072]⟩
abbrev S32768x128 : Shape := ⟨2, ![32768, 128]⟩

abbrev nBuf : Space → Nat
  | .hbm => 96
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5152, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x5152, .f32⟩
  | .hbm, ⟨23, _⟩ => ⟨S16x2048x2048, .f32⟩
  | .hbm, ⟨24, _⟩ => ⟨S16x2048x3072, .f32⟩
  | .hbm, ⟨25, _⟩ => ⟨S_, .i32⟩
  | .hbm, ⟨26, _⟩ => ⟨S_, .f32⟩
  | .hbm, ⟨27, _⟩ => ⟨S16x2051x3072, .f32⟩
  | .hbm, ⟨28, _⟩ => ⟨S16x2048x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S16x2048x3072, .f32⟩
  | .hbm, ⟨33, _⟩ => ⟨S16x2048x3072, .f32⟩
  | .hbm, ⟨34, _⟩ => ⟨S_, .f32⟩
  | .hbm, ⟨35, _⟩ => ⟨S16x2048x3072, .f32⟩
  | .hbm, ⟨36, _⟩ => ⟨S16x2048x3072, .f32⟩
  | .hbm, ⟨37, _⟩ => ⟨S16x2048x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S16x2048x3072, .f32⟩
  | .hbm, ⟨42, _⟩ => ⟨S16x2048x3072, .f32⟩
  | .hbm, ⟨43, _⟩ => ⟨S16x2048x3072, .f32⟩
  | .hbm, ⟨44, _⟩ => ⟨S16x2048x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S16x2048x3072, .f32⟩
  | .hbm, ⟨49, _⟩ => ⟨S16x2048x3072, .f32⟩
  | .hbm, ⟨50, _⟩ => ⟨S16x2048x3072, .f32⟩
  | .hbm, ⟨51, _⟩ => ⟨S16x2048x3072, .f32⟩
  | .hbm, ⟨52, _⟩ => ⟨S1x3072, .f32⟩
  | .hbm, ⟨53, _⟩ => ⟨S3072, .f32⟩
  | .hbm, ⟨54, _⟩ => ⟨S1x1x3072, .f32⟩
  | .hbm, ⟨55, _⟩ => ⟨S16x2048x3072, .f32⟩
  | .hbm, ⟨56, _⟩ => ⟨S16x2048x3072, .f32⟩
  | .hbm, ⟨57, _⟩ => ⟨S16x2048x3072, .f32⟩
  | .hbm, ⟨58, _⟩ => ⟨S1x1x3072, .f32⟩
  | .hbm, ⟨59, _⟩ => ⟨S16x2048x3072, .f32⟩
  | .hbm, ⟨60, _⟩ => ⟨S16x2048x3072, .f32⟩
  | .hbm, ⟨61, _⟩ => ⟨S16x2048x3072, .f32⟩
  | .hbm, ⟨62, _⟩ => ⟨S16x2048x3072, .f32⟩
  | .hbm, ⟨63, _⟩ => ⟨S_, .f32⟩
  | .hbm, ⟨64, _⟩ => ⟨S16x2048x3072, .f32⟩
  | .hbm, ⟨65, _⟩ => ⟨S16x2048x3072, .f32⟩
  | .hbm, ⟨66, _⟩ => ⟨S_, .f32⟩
  | .hbm, ⟨67, _⟩ => ⟨S16x2048x3072, .f32⟩
  | .hbm, ⟨68, _⟩ => ⟨S16x2048x3072, .f32⟩
  | .hbm, ⟨69, _⟩ => ⟨S16x2048x3072, .f32⟩
  | .hbm, ⟨70, _⟩ => ⟨S16x2048x32, .f32⟩
  | .hbm, ⟨71, _⟩ => ⟨S1x1x32, .f32⟩
  | .hbm, ⟨72, _⟩ => ⟨S16x2048x32, .f32⟩
  | .hbm, ⟨73, _⟩ => ⟨S16x2048x32, .f32⟩
  | .hbm, ⟨74, _⟩ => ⟨S_, .i32⟩
  | .hbm, ⟨75, _⟩ => ⟨S_, .f32⟩
  | .hbm, ⟨76, _⟩ => ⟨S16x2048x128, .f32⟩
  | .hbm, ⟨77, _⟩ => ⟨S_, .f32⟩
  | .hbm, ⟨78, _⟩ => ⟨S16x2048x128, .f32⟩
  | .hbm, ⟨79, _⟩ => ⟨S16x2048x128, .f32⟩
  | .hbm, ⟨80, _⟩ => ⟨S16x2048x128, .f32⟩
  | .hbm, ⟨81, _⟩ => ⟨S16x2048x128, .f32⟩
  | .hbm, ⟨82, _⟩ => ⟨S16x2048x128, .i1⟩
  | .hbm, ⟨83, _⟩ => ⟨S16x2048x128, .f32⟩
  | .hbm, ⟨84, _⟩ => ⟨S16x2048x128, .f32⟩
  | .hbm, ⟨85, _⟩ => ⟨S16x2048x128, .f32⟩
  | .hbm, ⟨86, _⟩ => ⟨S16x2048x128, .f32⟩
  | .hbm, ⟨87, _⟩ => ⟨S16x2048x128, .f32⟩
  | .hbm, ⟨88, _⟩ => ⟨S16x2048x128, .f32⟩
  | .hbm, ⟨89, _⟩ => ⟨S16x2048x128, .f32⟩
  | .hbm, ⟨90, _⟩ => ⟨S16x2048x128, .f32⟩
  | .hbm, ⟨91, _⟩ => ⟨S32768x2048, .f32⟩
  | .hbm, ⟨92, _⟩ => ⟨S32768x2048, .bf16⟩
  | .hbm, ⟨93, _⟩ => ⟨S32768x3072, .f32⟩
  | .hbm, ⟨94, _⟩ => ⟨S32768x3072, .bf16⟩
  | .hbm, ⟨95, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_3 : Ref sig .tc := ⟨.hbm, 74, rfl⟩
abbrev main_call2_v0 : Ref sig .tc := ⟨.hbm, 75, rfl⟩
abbrev main_v54 : Ref sig .tc := ⟨.hbm, 76, rfl⟩
abbrev main_call3_cst : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Kernel4.lean ====
abbrev S16x2048x2048 : Shape := ⟨3, ![16, 2048, 2048]⟩
abbrev S2048x1024 : Shape := ⟨2, ![2048, 1024]⟩
abbrev S1024 : Shape := ⟨1, ![1024]⟩
abbrev S16x2048x1024 : Shape := ⟨3, ![16, 2048, 1024]⟩
abbrev S32768x2048 : Shape := ⟨2, ![32768, 2048]⟩
abbrev S1x1024 : Shape := ⟨2, ![1, 1024]⟩
abbrev S32768x1024 : Shape := ⟨2, ![32768, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048x1024, .f32⟩
  | .hbm, ⟨2, _⟩ => ⟨S1024, .f32⟩
  | .hbm, ⟨3, _⟩ => ⟨S16x2048x1024, .f32⟩
  | .hbm, ⟨4, _⟩ => ⟨S32768x2048, .f32⟩
  | .hbm, ⟨5, _⟩ => ⟨S32768x2048, .bf16⟩
  | .hbm, ⟨6, _⟩ => ⟨S2048x1024, .bf16⟩
  | .hbm, ⟨7, _⟩ => ⟨S1x1024, .f32⟩
  | .hbm, ⟨8, _⟩ => ⟨S32768x1024, .f32⟩
  | .hbm, ⟨9, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel4Ideal.lean ====
abbrev S16x2048x2048 : Shape := ⟨3, ![16, 2048, 2048]⟩
abbrev S2048x1024 : Shape := ⟨2, ![2048, 1024]⟩
abbrev S1024 : Shape := ⟨1, ![1024]⟩
abbrev S16x2048x1024 : Shape := ⟨3, ![16, 2048, 1024]⟩
abbrev S32768x2048 : Shape := ⟨2, ![32768, 2048]⟩
abbrev S1x1024 : Shape := ⟨2, ![1, 1024]⟩
abbrev S32768x1024 : Shape := ⟨2, ![32768, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048x1024, .f32⟩
  | .hbm, ⟨2, _⟩ => ⟨S1024, .f32⟩
  | .hbm, ⟨3, _⟩ => ⟨S16x2048x1024, .f32⟩
  | .hbm, ⟨4, _⟩ => ⟨S32768x2048, .f32⟩
  | .hbm, ⟨5, _⟩ => ⟨S32768x2048, .bf16⟩
  | .hbm, ⟨6, _⟩ => ⟨S2048x1024, .bf16⟩
  | .hbm, ⟨7, _⟩ => ⟨S1x1024, .f32⟩
  | .hbm, ⟨8, _⟩ => ⟨S32768x1024, .f32⟩
  | .hbm, ⟨9, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16x2048x2048 : Shape := ⟨3, ![16, 2048, 2048]⟩
abbrev S2048x1024 : Shape := ⟨2, ![2048, 1024]⟩
abbrev S1024 : Shape := ⟨1, ![1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x1024, .f32⟩
  | .hbm, ⟨2, _⟩ => ⟨S1024, .f32⟩
  | .hbm, ⟨3, _⟩ => ⟨S16x2048x1024, .f32⟩
  | .hbm, ⟨4, _⟩ => ⟨S16x2048x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S32768x1024, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S32768x1024, .f32⟩
  | .hbm, ⟨5, _⟩ => ⟨S32768x1024, .bf16⟩
  | .hbm, ⟨6, _⟩ => ⟨S1024x1024, .bf16⟩
  | .hbm, ⟨7, _⟩ => ⟨S1x1024, .f32⟩
  | .hbm, ⟨8, _⟩ => ⟨S32768x1024, .f32⟩
  | .hbm, ⟨9, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S16x2048x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S16x2048x1024 : Shape := ⟨3, ![16, 2048, 1024]⟩
abbrev S1024 : Shape := ⟨1, ![1024]⟩
abbrev S1024x2608 : Shape := ⟨2, ![1024, 2608]⟩
abbrev S32x64x128 : Shape := ⟨3, ![32, 64, 128]⟩
abbrev S_ : Shape := ⟨0, ![]⟩
abbrev S2048x128 : Shape := ⟨2, ![2048, 128]⟩
abbrev S32768x1024 : Shape := ⟨2, ![32768, 1024]⟩
abbrev S1x1024 : Shape := ⟨2, ![1, 1024]⟩
abbrev S1024x1024 : Shape := ⟨2, ![1024, 1024]⟩
abbrev S1024x16x64 : Shape := ⟨3, ![1024, 16, 64]⟩
abbrev S1024x16x128 : Shape := ⟨3, ![1024, 16, 128]⟩
abbrev S1024x2048 : Shape := ⟨2, ![1024, 2048]⟩
abbrev S1024x1536 : Shape := ⟨2, ![1024, 1536]⟩
abbrev S1024x6x4x64 : Shape := ⟨4, ![1024, 6, 4, 64]⟩
abbrev S1024x1x4x64 : Shape := ⟨4, ![1024, 1, 4, 64]⟩
abbrev S1024x4x64 : Shape := ⟨3, ![1024, 4, 64]⟩
abbrev S1024x256 : Shape := ⟨2, ![1024, 256]⟩
abbrev S1024x4x128 : Shape := ⟨3, ![1024, 4, 128]⟩
abbrev S1024x512 : Shape := ⟨2, ![1024, 512]⟩
abbrev S1024x48 : Shape := ⟨2, ![1024, 48]⟩
abbrev S1024x4x12 : Shape := ⟨3, ![1024, 4, 12]⟩
abbrev S1024x5120 : Shape := ⟨2, ![1024, 5120]⟩
abbrev S16x4x4x128x2048 : Shape := ⟨5, ![16, 4, 4, 128, 2048]⟩
abbrev S16x4x2048x128 : Shape := ⟨4, ![16, 4, 2048, 128]⟩
abbrev S16x4x8x80x256 : Shape := ⟨5, ![16, 4, 8, 80, 256]⟩
abbrev S32768x512 : Shape := ⟨2, ![32768, 512]⟩
abbrev S256x1024 : Shape := ⟨2, ![256, 1024]⟩
abbrev S256x128 : Shape := ⟨2, ![256, 128]⟩
abbrev S1x4x4x128x256 : Shape := ⟨5, ![1, 4, 4, 128, 256]⟩
abbrev S1x4x256x128 : Shape := ⟨4, ![1, 4, 256, 128]⟩
abbrev S1x4x1x80x256 : Shape := ⟨5, ![1, 4, 1, 80, 256]⟩
abbrev S256x512 : Shape := ⟨2, ![256, 512]⟩
abbrev S256 : Shape := ⟨1, ![256]⟩
abbrev S256x1 : Shape := ⟨2, ![256, 1]⟩
abbrev S256x5120 : Shape := ⟨2, ![256, 5120]⟩
abbrev S1x128 : Shape := ⟨2, ![1, 128]⟩
abbrev S128x256 : Shape := ⟨2, ![128, 256]⟩
abbrev S1x1x1x128x256 : Shape := ⟨5, ![1, 1, 1, 128, 256]⟩
abbrev S1x1x256x128 : Shape := ⟨4, ![1, 1, 256, 128]⟩
abbrev S80x256 : Shape := ⟨2, ![80, 256]⟩
abbrev S1x1x1x80x256 : Shape := ⟨5, ![1, 1, 1, 80, 256]⟩

abbrev nBuf : Space → Nat
  | .hbm => 82
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2608, .f32⟩
  | .hbm, ⟨3, _⟩ => ⟨S32x64x128, .i32⟩
  | .hbm, ⟨4, _⟩ => ⟨S32x64x128, .i32⟩
  | .hbm, ⟨5, _⟩ => ⟨S_, .i32⟩
  | .hbm, ⟨6, _⟩ => ⟨S32x64x128, .i32⟩
  | .hbm, ⟨7, _⟩ => ⟨S32x64x128, .i32⟩
  | .hbm, ⟨8, _⟩ => ⟨S32x64x128, .i1⟩
  | .hbm, ⟨9, _⟩ => ⟨S_, .f32⟩
  | .hbm, ⟨10, _⟩ => ⟨S_, .f32⟩
  | .hbm, ⟨11, _⟩ => ⟨S32x64x128, .f32⟩
  | .hbm, ⟨12, _⟩ => ⟨S32x64x128, .f32⟩
  | .hbm, ⟨13, _⟩ => ⟨S32x64x128, .f32⟩
  | .hbm, ⟨14, _⟩ => ⟨S2048x128, .f32⟩
  | .hbm, ⟨15, _⟩ => ⟨S2048x128, .f32⟩
  | .hbm, ⟨16, _⟩ => ⟨S32768x1024, .f32⟩
  | .hbm, ⟨17, _⟩ => ⟨S1x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x16x64, .f32⟩
  | .hbm, ⟨23, _⟩ => ⟨S_, .i32⟩
  | .hbm, ⟨24, _⟩ => ⟨S_, .f32⟩
  | .hbm, ⟨25, _⟩ => ⟨S1024x16x128, .f32⟩
  | .hbm, ⟨26, _⟩ => ⟨S1024x2048, .f32⟩
  | .hbm, ⟨27, _⟩ => ⟨S1024x1536, .f32⟩
  | .hbm, ⟨28, _⟩ => ⟨S1024x6x4x64, .f32⟩
  | .hbm, ⟨29, _⟩ => ⟨S1024x1x4x64, .f32⟩
  | .hbm, ⟨30, _⟩ => ⟨S1024x4x64, .f32⟩
  | .hbm, ⟨31, _⟩ => ⟨S1024x256, .f32⟩
  | .hbm, ⟨32, _⟩ => ⟨S1024x4x64, .f32⟩
  | .hbm, ⟨33, _⟩ => ⟨S_, .i32⟩
  | .hbm, ⟨34, _⟩ => ⟨S_, .f32⟩
  | .hbm, ⟨35, _⟩ => ⟨S1024x4x128, .f32⟩
  | .hbm, ⟨36, _⟩ => ⟨S1024x512, .f32⟩
  | .hbm, ⟨37, _⟩ => ⟨S1024x1x4x64, .f32⟩
  | .hbm, ⟨38, _⟩ => ⟨S1024x4x64, .f32⟩
  | .hbm, ⟨39, _⟩ => ⟨S1024x256, .f32⟩
  | .hbm, ⟨40, _⟩ => ⟨S1024x4x64, .f32⟩
  | .hbm, ⟨41, _⟩ => ⟨S_, .i32⟩
  | .hbm, ⟨42, _⟩ => ⟨S_, .f32⟩
  | .hbm, ⟨43, _⟩ => ⟨S1024x4x128, .f32⟩
  | .hbm, ⟨44, _⟩ => ⟨S1024x512, .f32⟩
  | .hbm, ⟨45, _⟩ => ⟨S1024x1x4x64, .f32⟩
  | .hbm, ⟨46, _⟩ => ⟨S1024x4x64, .f32⟩
  | .hbm, ⟨47, _⟩ => ⟨S1024x256, .f32⟩
  | .hbm, ⟨48, _⟩ => ⟨S1024x4x64, .f32⟩
  | .hbm, ⟨49, _⟩ => ⟨S_, .i32⟩
  | .hbm, ⟨50, _⟩ => ⟨S_, .f32⟩
  | .hbm, ⟨51, _⟩ => ⟨S1024x4x128, .f32⟩
  | .hbm, ⟨52, _⟩ => ⟨S1024x512, .f32⟩
  | .hbm, ⟨53, _⟩ => ⟨S1024x1x4x64, .f32⟩
  | .hbm, ⟨54, _⟩ => ⟨S1024x4x64, .f32⟩
  | .hbm, ⟨55, _⟩ => ⟨S1024x256, .f32⟩
  | .hbm, ⟨56, _⟩ => ⟨S1024x4x64, .f32⟩
  | .hbm, ⟨57, _⟩ => ⟨S_, .i32⟩
  | .hbm, ⟨58, _⟩ => ⟨S_, .f32⟩
  | .hbm, ⟨59, _⟩ => ⟨S1024x4x128, .f32⟩
  | .hbm, ⟨60, _⟩ => ⟨S1024x512, .f32⟩
  | .hbm, ⟨61, _⟩ => ⟨S1024x1x4x64, .f32⟩
  | .hbm, ⟨62, _⟩ => ⟨S1024x4x64, .f32⟩
  | .hbm, ⟨63, _⟩ => ⟨S1024x1x4x64, .f32⟩
  | .hbm, ⟨64, _⟩ => ⟨S1024x4x64, .f32⟩
  | .hbm, ⟨65, _⟩ => ⟨S1024x4x128, .f32⟩
  | .hbm, ⟨66, _⟩ => ⟨S1024x512, .f32⟩
  | .hbm, ⟨67, _⟩ => ⟨S1024x48, .f32⟩
  | .hbm, ⟨68, _⟩ => ⟨S1024x4x12, .f32⟩
  | .hbm, ⟨69, _⟩ => ⟨S_, .i32⟩
  | .hbm, ⟨70, _⟩ => ⟨S_, .f32⟩
  | .hbm, ⟨71, _⟩ => ⟨S1024x4x128, .f32⟩
  | .hbm, ⟨72, _⟩ => ⟨S1024x512, .f32⟩
  | .hbm, ⟨73, _⟩ => ⟨S1024x5120, .f32⟩
  | .hbm, ⟨74, _⟩ => ⟨S1024x5120, .bf16⟩
  | .hbm, ⟨75, _⟩ => ⟨S16x4x4x128x2048, .bf16⟩
  | .hbm, ⟨76, _⟩ => ⟨S16x4x2048x128, .bf16⟩
  | .hbm, ⟨77, _⟩ => ⟨S16x4x8x80x256, .bf16⟩
  | .hbm, ⟨78, _⟩ => ⟨S16x4x2048x128, .bf16⟩
  | .hbm, ⟨79, _⟩ => ⟨S16x4x8x80x256, .bf16⟩
  | .hbm, ⟨80, _⟩ => ⟨S32768x512, .f32⟩
  | .hbm, ⟨81, _⟩ => ⟨S32768x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5120, .bf16⟩
  | .local _ .vmem, ⟨4, _⟩ => ⟨S256x128, .f32⟩
  | .local _ .vmem, ⟨5, _⟩ => ⟨S256x128, .f32⟩
  | .local _ .vmem, ⟨6, _⟩ => ⟨S1x4x4x128x256, .bf16⟩
  | .local _ .vmem, ⟨7, _⟩ => ⟨S1x4x4x128x256, .bf16⟩
  | .local _ .vmem, ⟨8, _⟩ => ⟨S1x4x256x128, .bf16⟩
  | .local _ .vmem, ⟨9, _⟩ => ⟨S1x4x256x128, .bf16⟩
  | .local _ .vmem, ⟨10, _⟩ => ⟨S1x4x1x80x256, .bf16⟩
  | .local _ .vmem, ⟨11, _⟩ => ⟨S1x4x1x80x256, .bf16⟩
  | .local _ .vmem, ⟨12, _⟩ => ⟨S1x4x256x128, .bf16⟩
  | .local _ .vmem, ⟨13, _⟩ => ⟨S1x4x256x128, .bf16⟩
  | .local _ .vmem, ⟨14, _⟩ => ⟨S1x4x1x80x256, .bf16⟩
  | .local _ .vmem, ⟨15, _⟩ => ⟨S1x4x1x80x256, .bf16⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call2_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_call3_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_call4_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_call5_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_call6_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54_0 : Ref sig .tc := ⟨.hbm, 75, rfl⟩
abbrev main_v54_1 : Ref sig .tc := ⟨.hbm, 76, rfl⟩
abbrev main_v54_2 : Ref sig .tc := ⟨.hbm, 77, rfl⟩
abbrev main_v54_3 : Ref sig .tc := ⟨.hbm, 78, rfl⟩
abbrev main_v54_4 : Ref sig .tc := ⟨.hbm, 79, rfl⟩
abbrev main_v54_5 : Ref sig .tc := ⟨.hbm, 80, rfl⟩
abbrev main_v54_6 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, c0_i32_12.toNat, v26.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x1x80x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16x2048x1024 : Shape := ⟨3, ![16, 2048, 1024]⟩
abbrev S1024 : Shape := ⟨1, ![1024]⟩
abbrev S1024x2608 : Shape := ⟨2, ![1024, 2608]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2608 : Shape := ⟨3, ![16, 2048, 2608]⟩
abbrev S16x2048x4x4x64 : Shape := ⟨5, ![16, 2048, 4, 4, 64]⟩
abbrev S16x2048x1536 : Shape := ⟨3, ![16, 2048, 1536]⟩
abbrev S16x2048x6x4x64 : Shape := ⟨5, ![16, 2048, 6, 4, 64]⟩
abbrev S16x2048x48 : Shape := ⟨3, ![16, 2048, 48]⟩
abbrev S16x2048x4x12 : Shape := ⟨4, ![16, 2048, 4, 12]⟩
abbrev S16x2048x1x4x64 : Shape := ⟨5, ![16, 2048, 1, 4, 64]⟩
abbrev S16x2048x4x64 : Shape := ⟨4, ![16, 2048, 4, 64]⟩
abbrev S32 : Shape := ⟨1, ![32]⟩
abbrev S32x1 : Shape := ⟨2, ![32, 1]⟩
abbrev S64 : Shape := ⟨1, ![64]⟩
abbrev S1x64 : Shape := ⟨2, ![1, 64]⟩
abbrev S32x64 : Shape := ⟨2, ![32, 64]⟩
abbrev S1x32x1x1x64 : Shape := ⟨5, ![1, 32, 1, 1, 64]⟩
abbrev S16x32x64x4x64 : Shape := ⟨5, ![16, 32, 64, 4, 64]⟩
abbrev S16x2048x4x4x128 : Shape := ⟨5, ![16, 2048, 4, 4, 128]⟩
abbrev S16x4x4x128x2048 : Shape := ⟨5, ![16, 4, 4, 128, 2048]⟩
abbrev S16x2048x4x128 : Shape := ⟨4, ![16, 2048, 4, 128]⟩
abbrev S16x4x2048x128 : Shape := ⟨4, ![16, 4, 2048, 128]⟩
abbrev S16x2048x4x1 : Shape := ⟨4, ![16, 2048, 4, 1]⟩
abbrev S16x2048x4x16 : Shape := ⟨4, ![16, 2048, 4, 16]⟩
abbrev S16x2048x4x80 : Shape := ⟨4, ![16, 2048, 4, 80]⟩
abbrev S16x8x256x4x80 : Shape := ⟨5, ![16, 8, 256, 4, 80]⟩
abbrev S16x4x8x80x256 : Shape := ⟨5, ![16, 4, 8, 80, 256]⟩
abbrev S32768x512 : Shape := ⟨2, ![32768, 512]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2608, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x2608, .f32⟩
  | .hbm, ⟨20, _⟩ => ⟨S16x2048x1024, .f32⟩
  | .hbm, ⟨21, _⟩ => ⟨S16x2048x4x4x64, .f32⟩
  | .hbm, ⟨22, _⟩ => ⟨S_, .f32⟩
  | .hbm, ⟨23, _⟩ => ⟨S16x2048x4x4x64, .f32⟩
  | .hbm, ⟨24, _⟩ => ⟨S16x2048x4x4x64, .f32⟩
  | .hbm, ⟨25, _⟩ => ⟨S16x2048x1536, .f32⟩
  | .hbm, ⟨26, _⟩ => ⟨S16x2048x6x4x64, .f32⟩
  | .hbm, ⟨27, _⟩ => ⟨S16x2048x48, .f32⟩
  | .hbm, ⟨28, _⟩ => ⟨S16x2048x4x12, .f32⟩
  | .hbm, ⟨29, _⟩ => ⟨S16x2048x1x4x64, .f32⟩
  | .hbm, ⟨30, _⟩ => ⟨S16x2048x4x64, .f32⟩
  | .hbm, ⟨31, _⟩ => ⟨S16x2048x1x4x64, .f32⟩
  | .hbm, ⟨32, _⟩ => ⟨S16x2048x4x64, .f32⟩
  | .hbm, ⟨33, _⟩ => ⟨S16x2048x1x4x64, .f32⟩
  | .hbm, ⟨34, _⟩ => ⟨S16x2048x4x64, .f32⟩
  | .hbm, ⟨35, _⟩ => ⟨S16x2048x1x4x64, .f32⟩
  | .hbm, ⟨36, _⟩ => ⟨S16x2048x4x64, .f32⟩
  | .hbm, ⟨37, _⟩ => ⟨S16x2048x1x4x64, .f32⟩
  | .hbm, ⟨38, _⟩ => ⟨S16x2048x4x64, .f32⟩
  | .hbm, ⟨39, _⟩ => ⟨S16x2048x1x4x64, .f32⟩
  | .hbm, ⟨40, _⟩ => ⟨S16x2048x4x64, .f32⟩
  | .hbm, ⟨41, _⟩ => ⟨S32, .i32⟩
  | .hbm, ⟨42, _⟩ => ⟨S32x1, .i32⟩
  | .hbm, ⟨43, _⟩ => ⟨S64, .i32⟩
  | .hbm, ⟨44, _⟩ => ⟨S1x64, .i32⟩
  | .hbm, ⟨45, _⟩ => ⟨S32x64, .i32⟩
  | .hbm, ⟨46, _⟩ => ⟨S32x64, .i32⟩
  | .hbm, ⟨47, _⟩ => ⟨S32x64, .i1⟩
  | .hbm, ⟨48, _⟩ => ⟨S_, .f32⟩
  | .hbm, ⟨49, _⟩ => ⟨S_, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S1x32x1x1x64, .f32⟩
  | .hbm, ⟨54, _⟩ => ⟨S16x32x64x4x64, .f32⟩
  | .hbm, ⟨55, _⟩ => ⟨S16x2048x4x64, .f32⟩
  | .hbm, ⟨56, _⟩ => ⟨S_, .i32⟩
  | .hbm, ⟨57, _⟩ => ⟨S_, .f32⟩
  | .hbm, ⟨58, _⟩ => ⟨S16x2048x4x4x128, .f32⟩
  | .hbm, ⟨59, _⟩ => ⟨S16x4x4x128x2048, .f32⟩
  | .hbm, ⟨60, _⟩ => ⟨S16x4x4x128x2048, .bf16⟩
  | .hbm, ⟨61, _⟩ => ⟨S16x2048x4x64, .f32⟩
  | .hbm, ⟨62, _⟩ => ⟨S16x2048x4x128, .f32⟩
  | .hbm, ⟨63, _⟩ => ⟨S16x4x2048x128, .f32⟩
  | .hbm, ⟨64, _⟩ => ⟨S16x4x2048x128, .bf16⟩
  | .hbm, ⟨65, _⟩ => ⟨S_, .f32⟩
  | .hbm, ⟨66, _⟩ => ⟨S16x2048x4x1, .f32⟩
  | .hbm, ⟨67, _⟩ => ⟨S_, .i32⟩
  | .hbm, ⟨68, _⟩ => ⟨S_, .f32⟩
  | .hbm, ⟨69, _⟩ => ⟨S16x2048x4x16, .f32⟩
  | .hbm, ⟨70, _⟩ => ⟨S16x2048x4x80, .f32⟩
  | .hbm, ⟨71, _⟩ => ⟨S16x8x256x4x80, .f32⟩
  | .hbm, ⟨72, _⟩ => ⟨S16x4x8x80x256, .f32⟩
  | .hbm, ⟨73, _⟩ => ⟨S16x4x8x80x256, .bf16⟩
  | .hbm, ⟨74, _⟩ => ⟨S_, .i32⟩
  | .hbm, ⟨75, _⟩ => ⟨S_, .f32⟩
  | .hbm, ⟨76, _⟩ => ⟨S16x2048x4x128, .f32⟩
  | .hbm, ⟨77, _⟩ => ⟨S16x4x2048x128, .f32⟩
  | .hbm, ⟨78, _⟩ => ⟨S16x4x2048x128, .bf16⟩
  | .hbm, ⟨79, _⟩ => ⟨S_, .f32⟩
  | .hbm, ⟨80, _⟩ => ⟨S16x2048x4x1, .f32⟩
  | .hbm, ⟨81, _⟩ => ⟨S_, .i32⟩
  | .hbm, ⟨82, _⟩ => ⟨S_, .f32⟩
  | .hbm, ⟨83, _⟩ => ⟨S16x2048x4x16, .f32⟩
  | .hbm, ⟨84, _⟩ => ⟨S16x2048x4x80, .f32⟩
  | .hbm, ⟨85, _⟩ => ⟨S16x8x256x4x80, .f32⟩
  | .hbm, ⟨86, _⟩ => ⟨S16x4x8x80x256, .f32⟩
  | .hbm, ⟨87, _⟩ => ⟨S16x4x8x80x256, .bf16⟩
  | .hbm, ⟨88, _⟩ => ⟨S16x2048x4x128, .f32⟩
  | .hbm, ⟨89, _⟩ => ⟨S32768x512, .f32⟩
  | .hbm, ⟨90, _⟩ => ⟨S_, .i32⟩
  | .hbm, ⟨91, _⟩ => ⟨S_, .f32⟩
  | .hbm, ⟨92, _⟩ => ⟨S16x2048x4x128, .f32⟩
  | .hbm, ⟨93, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c : Ref sig .tc := ⟨.hbm, 56, rfl⟩
abbrev main_call1_v0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_c_6 : Ref sig .tc := ⟨.hbm, 67, rfl⟩
abbrev main_call2_v0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_7 : Ref sig .tc := ⟨.hbm, 74, rfl⟩
abbrev main_call3_v0 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_c_9 : Ref sig .tc := ⟨.hbm, 81, rfl⟩
abbrev main_call4_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_10 : Ref sig .tc := ⟨.hbm, 90, rfl⟩
abbrev main_call5_v0 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Proof.Ssd.RefRun.lean ====
module

public import proofs.«01_k».proof.Proof.Gen.ReferenceIdeal.Run
public import proofs.«01_k».proof.Proof.Gen.ReferenceIdeal.Step

/-!
# The scan reference's run as an iterated step

The reference's loop over the chunks of a sequence carries the state and the outputs so far. Here the run's loop is the
sixteenfold application of the step of one chunk to the initial state.
-/

@[expose] public section

noncomputable section

namespace Cert.ReferenceIdeal.Ssd

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The loop's buffers, before chunk `j`, are those of the state `s`. -/
structure Tracks (V : Valuation τ sig (Elt F)) (s : State F) (j : ℕ) : Prop where
  st : V (Proc.devRef .tc main_v27_7) = s.main_v27_7
  ys : V (Proc.devRef .tc main_v27_8) = s.main_v27_8
  xs : V (Proc.devRef .tc main_v27_0) = s.main_v27_0
  dt : V (Proc.devRef .tc main_v27_1) = s.main_v27_1
  bs : V (Proc.devRef .tc main_v27_2) = s.main_v27_2
  cs : V (Proc.devRef .tc main_v27_3) = s.main_v27_3
  a : V (Proc.devRef .tc main_v27_4) = s.main_v27_4
  causal : V (Proc.devRef .tc main_v27_5) = K_main_v24 (F := F)
  no : V (Proc.devRef .tc main_v27_6) = constantI S_ 32 (BitVec.ofNat 32 j)

variable {V : Valuation τ sig (Elt F)} {s : State F} {j : ℕ}

/-! The chunk's slices and the cumulative sums. -/

theorem slice_x (h : Tracks V s j) : res_main_while0b_v57 V = b6 j s := by
  unfold res_main_while0b_v57
  rw [h.xs, h.no]
  rfl

theorem slice_dt (h : Tracks V s j) : res_main_while0b_v58 V = b12 j s := by
  unfold res_main_while0b_v58
  rw [h.dt, h.no]
  rfl

theorem slice_b (h : Tracks V s j) : res_main_while0b_v59 V = b18 j s := by
  unfold res_main_while0b_v59
  rw [h.bs, h.no]
  rfl

theorem slice_c (h : Tracks V s j) : res_main_while0b_v60 V = b24 j s := by
  unfold res_main_while0b_v60
  rw [h.cs, h.no]
  rfl

theorem sums (h : Tracks V s j) : res_main_while0b_v64 V = b30 j s := by
  unfold res_main_while0b_v64
  rw [slice_dt h, h.a]
  rfl

/-- The next state. -/
theorem next_st (h : Tracks V s j) : Value.step_main_v27_7 V = b74 j s := by
  unfold Value.step_main_v27_7
  rw [sums h, slice_dt h, slice_x h, slice_b h, h.st]
  rfl

/-- The outputs, with chunk `j`'s put in. -/
theorem next_ys (h : Tracks V s j) : Value.step_main_v27_8 V = b81 j s := by
  unfold Value.step_main_v27_8
  rw [slice_x h, slice_b h, slice_c h, sums h, slice_dt h, h.ys, h.causal, h.st, h.no]
  rfl

theorem next_no (h : Tracks V s j) :
    step_main_v27_6 V = constantI S_ 32 (BitVec.ofNat 32 (j + 1)) := by
  unfold step_main_v27_6
  rw [h.no]
  funext i
  exact (BitVec.ofNat_add j 1).symm

/-- One trip steps the state. -/
theorem Tracks.step (h : Tracks V s j) : Tracks (STEP V) (step j s) (j + 1) where
  st := (STEP_main_v27_7 V).trans ((next_st h).trans (Step.step_main_v27_7 j s).symm)
  ys := (STEP_main_v27_8 V).trans ((next_ys h).trans (Step.step_main_v27_8 j s).symm)
  xs := (STEP_main_v27_0 V).trans h.xs
  dt := (STEP_main_v27_1 V).trans h.dt
  bs := (STEP_main_v27_2 V).trans h.bs
  cs := (STEP_main_v27_3 V).trans h.cs
  a := (STEP_main_v27_4 V).trans h.a
  causal := (STEP_main_v27_5 V).trans h.causal
  no := (STEP_main_v27_6 V).trans (next_no h)

/-- The state before chunk `k`. -/
def stateAt (a0 : FVec F S16x2048x3072 .f32) (a2 : FVec F S16x2048x32 .f32) (a3 : FVec F S32 .f32) : ℕ → State F
  | 0 => init a0 a2 a3
  | k + 1 => step k (stateAt a0 a2 a3 k)

variable (m : (ℓ : Loc nD τ sig) → Buf (Elt F) ℓ) (c : Dev nD)

set_option maxRecDepth 65536 in
set_option maxHeartbeats 400000 in
theorem tracks_entry : Tracks (entryContents preI m c) (init (m ((c.tc : Thread nD τ).loc main_arg0))
    (m ((c.tc : Thread nD τ).loc main_arg2)) (m ((c.tc : Thread nD τ).loc main_arg3))) 0 := by
  constructor <;> (simp only [entryContents, afterL_cons, afterL_nil]; after_reads_simp) <;> rfl

theorem tracks_iter (k : ℕ) : Tracks (STEP^[k] (entryContents preI m c)) (stateAt (m ((c.tc : Thread nD τ).loc main_arg0))
    (m ((c.tc : Thread nD τ).loc main_arg2)) (m ((c.tc : Thread nD τ).loc main_arg3)) k) k := by
  induction k with
  | zero => exact tracks_entry m c
  | succ k ih =>
    rw [Function.iterate_succ_apply']
    exact ih.step

/-- The reference's result, of its arguments. -/
def result (a0 : FVec F S16x2048x3072 .f32) (a1 : FVec F S16x2048x2048 .f32) (a2 : FVec F S16x2048x32 .f32)
    (a3 : FVec F S32 .f32) (a4 : FVec F S32 .f32) (a5 : FVec F S2048 .f32) : FVec F S32768x2048 .bf16 :=
  R_main_v56 (stateAt a0 a2 a3 16) a0 a1 a4 a5

/-- The reference ends with `result` of its arguments, and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v56) = result (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  unfold out_main_v56 result R_main_v56
  rw [(tracks_iter m c 16).ys, iter_main_arg0, iter_main_arg1, iter_main_arg4, iter_main_arg5]
  rfl

end Cert.ReferenceIdeal.Ssd

end
-- ==== Proof.Ssd.Spec.lean ====
/-
  One chunk of the scan, column by column: what one column of one head (its values `x s`, its steps
  `t s`, the logarithmic decays `d s` of the steps, the group's rows `B s`, `C l`) gives at each row,
  and the state of the column after the chunk. Both programs are read in these functions.
-/
module

public import Idealize.ShloMosaic.Lib.Pointwise

@[expose] public section

noncomputable section

namespace Cert.Ssd

open Idealize.ShloMosaic

/-- The running sum of the logarithmic decays, up to and with row `l`. -/
def acs (d : Fin 128 → ℝ) (l : Fin 128) : ℝ := ∑ s : Fin 128, if s ≤ l then d s else 0

/-- The decay from row `s` to row `l`: zero where `s` comes after `l`. -/
def decay (d : Fin 128 → ℝ) (l s : Fin 128) : EReal := Ideal.exp (if s ≤ l then ((acs d l - acs d s : ℝ) : EReal) else ⊥)

/-- The chunk's own sum at row `l`. -/
def own (C B : Fin 128 → Fin 128 → EReal) (x t : Fin 128 → EReal) (d : Fin 128 → ℝ) (l : Fin 128) : EReal :=
  ∑ s : Fin 128, (∑ n : Fin 128, C l n * B s n) * decay d l s * t s * x s

/-- What the state before the chunk gives at row `l`. -/
def carried (C : Fin 128 → Fin 128 → EReal) (d : Fin 128 → ℝ) (st : Fin 128 → EReal) (l : Fin 128) : EReal :=
  (∑ n : Fin 128, C l n * st n) * Ideal.exp ((acs d l : ℝ) : EReal)

/-- The column at row `l`. -/
def col (C B : Fin 128 → Fin 128 → EReal) (x t : Fin 128 → EReal) (d : Fin 128 → ℝ) (st : Fin 128 → EReal) (l : Fin 128) : EReal :=
  own C B x t d l + carried C d st l

/-- The column's state after the chunk. -/
def next (B : Fin 128 → Fin 128 → EReal) (x t : Fin 128 → EReal) (d : Fin 128 → ℝ) (st : Fin 128 → EReal) (n : Fin 128) : EReal :=
  st n * Ideal.exp ((acs d 127 : ℝ) : EReal)
    + ∑ s : Fin 128, B s n * (x s * (Ideal.exp ((acs d 127 - acs d s : ℝ) : EReal) * t s))

/-- The output of one row of a group: `y` gated by `z`, divided by the root of its mean square, times the gain. -/
def gated (y z w : Fin 512 → EReal) (j : Fin 512) : EReal :=
  y j * (z j * Ideal.div 1 (1 + Ideal.exp (0 - z j)))
    * Ideal.rsqrt (Ideal.div (∑ x : Fin 512, y x * (z x * Ideal.div 1 (1 + Ideal.exp (0 - z x)))
        * (y x * (z x * Ideal.div 1 (1 + Ideal.exp (0 - z x))))) (Ideal.ofBits .f32 0x44000000#32) + Ideal.ofBits .f32 0x358637BD#32)
    * w j

theorem sum_oneHot (f : Fin 128 → EReal) (a : Fin 128) : (∑ x : Fin 128, f x * (if x = a then (1 : EReal) else 0)) = f a := by
  simp [mul_ite, Finset.sum_ite_eq']

theorem coe_sum (f : Fin 128 → ℝ) : (∑ s : Fin 128, (f s : EReal)) = ((∑ s : Fin 128, f s : ℝ) : EReal) :=
  (map_sum (⟨⟨Real.toEReal, rfl⟩, EReal.coe_add⟩ : ℝ →+ EReal) f Finset.univ).symm

theorem coe_sub_self (r : ℝ) : (r : EReal) - (r : EReal) = 0 := by rw [← EReal.coe_sub, sub_self, EReal.coe_zero]

end Cert.Ssd
-- ==== Proof.Ssd.CumSum.lean ====
/-
  The running sum along a chunk's rows, as the reference takes it: a window of the whole chunk, padded
  below by one row less.
-/
module

public import proofs.«01_k».proof.Proof.Ssd.Spec

@[expose] public section

noncomputable section

namespace Cert.Ssd

open Idealize.ShloMosaic

theorem foldl_sum {n : Nat} (f : Fin n → EReal) : ∀ (L : List (Fin n)) (a : EReal),
    L.foldl (fun r k => r + f k) a = a + (L.map f).sum
  | [], a => by simp
  | k :: L, a => by rw [List.foldl_cons, foldl_sum f L, List.map_cons, List.sum_cons, add_assoc]

theorem foldl_finRange {n : Nat} (f : Fin n → EReal) :
    (List.finRange n).foldl (fun r k => r + f k) 0 = ∑ k : Fin n, f k := by
  rw [foldl_sum, zero_add, ← List.ofFn_eq_map, List.sum_ofFn]

/-- The indices of the window are its rows. -/
theorem sum_window (f : (⟨4, ![1, 128, 1, 1]⟩ : Shape).Idx → EReal) :
    ∑ i, f i = ∑ r : Fin 128, f (ix4 0 r 0 0) := by
  refine (Function.Bijective.sum_comp (e := fun r : Fin 128 => (ix4 0 r 0 0 : (⟨4, ![1, 128, 1, 1]⟩ : Shape).Idx)) ⟨?_, ?_⟩ f).symm
  · intro a b h
    exact congrFun h 1
  · intro i
    refine ⟨i 1, funext fun a => ?_⟩
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)

theorem cumsum_rows {P Q R : Nat} (x : (⟨4, ![P, 128, Q, R]⟩ : Shape).Idx → EReal) (d : Fin 128 → ℝ) (p : Fin P) (q : Fin Q) (r : Fin R)
    (hd : ∀ s : Fin 128, x (ix4 p s q r) = (d s : EReal)) {u : Shape} (z : u.Idx → EReal) (hu : 0 < u.numel)
    (hz : z (Shape.Idx.first hu) = 0)
    (h : (⟨4, ![P, 128, Q, R]⟩ : Shape).ReduceWindows ![1, 128, 1, 1] ![1, 1, 1, 1] ![0, 127, 0, 0] ![0, 0, 0, 0] ⟨4, ![P, 128, Q, R]⟩)
    (l : Fin 128) :
    Host.reduceWindowAdd (F := Ideal) (φ := .f32) ![1, 128, 1, 1] ![1, 1, 1, 1] ![0, 127, 0, 0] ![0, 0, 0, 0] x z h hu (ix4 p l q r)
      = ((acs d l : ℝ) : EReal) := by
  show Ideal.hostReduceWindowAdd ![1, 128, 1, 1] ![1, 1, 1, 1] ![0, 127, 0, 0] ![0, 0, 0, 0] h x (z (Shape.Idx.first hu)) (ix4 p l q r) = _
  rw [hz]
  unfold Ideal.hostReduceWindowAdd Host.reduceWindow
  dsimp only
  rw [foldl_finRange, ← Equiv.sum_comp (⟨4, ![1, 128, 1, 1]⟩ : Shape).rowMajor]
  simp only [Equiv.symm_apply_apply]
  rw [sum_window]
  unfold acs
  rw [← coe_sum]
  refine Eq.trans ?_ (Equiv.sum_comp (Equiv.addLeft (l + 1)) fun s : Fin 128 => ((if s ≤ l then d s else 0 : ℝ) : EReal))
  refine Finset.sum_congr rfl fun k _ => ?_
  have hv : ((Equiv.addLeft (l + 1)) k).val = (l.val + 1 + k.val) % 128 := by
    show (l + 1 + k : Fin 128).val = _
    rw [Fin.val_add, Fin.val_add]
    omega
  have hl := l.isLt
  have hk := k.isLt
  have hp := p.isLt
  have hq := q.isLt
  have hr := r.isLt
  split
  · next hin =>
    have h1 : 127 ≤ l.val * 1 + k.val := (hin 1).1
    rw [if_pos (Fin.le_def.mpr (by omega)), ← hd]
    refine congrArg x (funext fun a => Fin.ext ?_)
    match a with
    | ⟨0, _⟩ => show p.val * 1 + 0 - 0 = p.val; omega
    | ⟨1, _⟩ => show l.val * 1 + k.val - 127 = ((Equiv.addLeft (l + 1)) k).val; omega
    | ⟨2, _⟩ => show q.val * 1 + 0 - 0 = q.val; omega
    | ⟨3, _⟩ => show r.val * 1 + 0 - 0 = r.val; omega
  · next hin =>
    rw [if_neg, EReal.coe_zero]
    intro hle
    have hle' := Fin.le_def.mp hle
    refine hin fun a => ?_
    match a with
    | ⟨0, _⟩ => show 0 ≤ p.val * 1 + 0 ∧ p.val * 1 + 0 - 0 < P; omega
    | ⟨1, _⟩ => show 127 ≤ l.val * 1 + k.val ∧ l.val * 1 + k.val - 127 < 128; omega
    | ⟨2, _⟩ => show 0 ≤ q.val * 1 + 0 ∧ q.val * 1 + 0 - 0 < Q; omega
    | ⟨3, _⟩ => show 0 ≤ r.val * 1 + 0 ∧ r.val * 1 + 0 - 0 < R; omega

end Cert.Ssd

end
-- ==== Proof.Ssd.RefRead.lean ====
/-
  The reference's step of one chunk, read at an index over the reals.
-/
module

public import proofs.«01_k».proof.Proof.Ssd.RefRun
public import proofs.«01_k».proof.Proof.Ssd.CumSum
public import Idealize.ShloMosaic.Lib.WordCmp

@[expose] public section

set_option maxRecDepth 16384

noncomputable section

namespace Cert.ReferenceIdeal.Ssd

open Cert.ReferenceIdeal Cert.ReferenceIdeal.Gen Cert.ReferenceIdeal.Step Cert.Ssd Idealize.ShloMosaic Idealize.ShloMosaic.WordCmp

/-- What the loop reads of the arguments, at every chunk. -/
structure Reads (a0 : FVec Ideal S16x2048x3072 .f32) (a2 : FVec Ideal S16x2048x32 .f32) (a3 : FVec Ideal S32 .f32)
    (s : State Ideal) : Prop where
  xs : s.main_v27_0 = A_main_v9 a0 a2 a3
  dt : s.main_v27_1 = A_main_v11 a0 a2 a3
  bs : s.main_v27_2 = A_main_v13 a0 a2 a3
  cs : s.main_v27_3 = A_main_v15 a0 a2 a3
  a : s.main_v27_4 = A_main_v16 a0 a2 a3

theorem reads_stateAt (a0 : FVec Ideal S16x2048x3072 .f32) (a2 : FVec Ideal S16x2048x32 .f32) (a3 : FVec Ideal S32 .f32) :
    ∀ k, Reads a0 a2 a3 (stateAt a0 a2 a3 k)
  | 0 => ⟨rfl, rfl, rfl, rfl, rfl⟩
  | k + 1 => ⟨(reads_stateAt a0 a2 a3 k).xs, (reads_stateAt a0 a2 a3 k).dt, (reads_stateAt a0 a2 a3 k).bs,
      (reads_stateAt a0 a2 a3 k).cs, (reads_stateAt a0 a2 a3 k).a⟩

section
variable {a0 : FVec Ideal S16x2048x3072 .f32} {a2 : FVec Ideal S16x2048x32 .f32} {a3 : FVec Ideal S32 .f32}

theorem xs_apply (k b : Fin 16) (l : Fin 128) (g : Fin 4) (h : Fin 8) (p : Fin 64) :
    A_main_v9 (F := Ideal) a0 a2 a3 (ix6 k b l g h p) = a0 (ix3 b ⟨k.val * 128 + l.val, by omega⟩ ⟨g.val * 512 + h.val * 64 + p.val, by omega⟩) := by
  pointwise [A_main_v9, A_main_v8, A_main_v1, A_main_v0]

theorem dt_apply (k b : Fin 16) (l : Fin 128) (g : Fin 4) (h : Fin 8) :
    A_main_v11 (F := Ideal) a0 a2 a3 (ix5 k b l g h) = a2 (ix3 b ⟨k.val * 128 + l.val, by omega⟩ ⟨g.val * 8 + h.val, by omega⟩) := by
  pointwise [A_main_v11, A_main_v10]

theorem bs_apply (k b : Fin 16) (l : Fin 128) (g : Fin 4) (n : Fin 128) :
    A_main_v13 (F := Ideal) a0 a2 a3 (ix5 k b l g n) = a0 (ix3 b ⟨k.val * 128 + l.val, by omega⟩ ⟨2048 + (g.val * 128 + n.val), by omega⟩) := by
  pointwise [A_main_v13, A_main_v12, A_main_v3, A_main_v2]

theorem cs_apply (k b : Fin 16) (l : Fin 128) (g : Fin 4) (n : Fin 128) :
    A_main_v15 (F := Ideal) a0 a2 a3 (ix5 k b l g n) = a0 (ix3 b ⟨k.val * 128 + l.val, by omega⟩ ⟨2560 + (g.val * 128 + n.val), by omega⟩) := by
  pointwise [A_main_v15, A_main_v14, A_main_v5, A_main_v4]

theorem a_apply (g : Fin 4) (h : Fin 8) :
    A_main_v16 (F := Ideal) a0 a2 a3 (ix2 g h) = -Ideal.exp (a3 (ix1 ⟨g.val * 8 + h.val, by omega⟩)) := by
  pointwise [A_main_v16, A_main_v7, A_main_v6]

end

section
variable (s : State Ideal) (k : Fin 16)

theorem chunkNo (k : Fin 16) : (BitVec.ofNat 32 k.val).toInt = (k.val : Int) := by
  revert k; decide

theorem start_zero {S T : Shape} (ht : T.rank = S.rank) (start : Fin S.rank → Int) (a : Fin S.rank) (h : start a = 0) :
    Host.clampedStart S T ht start a = 0 := by
  unfold Host.clampedStart; omega

theorem start_chunk {S T : Shape} (ht : T.rank = S.rank) (start : Fin S.rank → Int) (a : Fin S.rank) (k : Fin 16) (h : start a = (k.val : Int))
    (hs : S.size a = 16) (h1 : T.size (a.cast ht.symm) = 1) : Host.clampedStart S T ht start a = k.val :=
  Host.clampedStart_of_le ht start a k.val h (by omega)

theorem slice6_apply (x : FVec Ideal S16x16x128x4x8x64 .f32) (start : Fin 6 → Int) (k : Fin 16)
    (h0 : start 0 = (k.val : Int)) (h1 : start 1 = 0) (h2 : start 2 = 0) (h3 : start 3 = 0) (h4 : start 4 = 0) (h5 : start 5 = 0) (hf)
    (b : Fin 16) (l : Fin 128) (g : Fin 4) (h : Fin 8) (p : Fin 64) :
    Host.dynamicSlice (s := S16x16x128x4x8x64) S1x16x128x4x8x64 x start hf (ix6 0 b l g h p) = x (ix6 k b l g h p) := by
  pointwise
  simp only [start_chunk hf.1 start 0 k h0 rfl rfl, start_zero hf.1 start 1 h1, start_zero hf.1 start 2 h2, start_zero hf.1 start 3 h3,
    start_zero hf.1 start 4 h4, start_zero hf.1 start 5 h5, Nat.zero_add, Fin.eta]

theorem slice5_apply (x : FVec Ideal S16x16x128x4x8 .f32) (start : Fin 5 → Int) (k : Fin 16)
    (h0 : start 0 = (k.val : Int)) (h1 : start 1 = 0) (h2 : start 2 = 0) (h3 : start 3 = 0) (h4 : start 4 = 0) (hf)
    (b : Fin 16) (l : Fin 128) (g : Fin 4) (h : Fin 8) :
    Host.dynamicSlice (s := S16x16x128x4x8) S1x16x128x4x8 x start hf (ix5 0 b l g h) = x (ix5 k b l g h) := by
  pointwise
  simp only [start_chunk hf.1 start 0 k h0 rfl rfl, start_zero hf.1 start 1 h1, start_zero hf.1 start 2 h2, start_zero hf.1 start 3 h3,
    start_zero hf.1 start 4 h4, Nat.zero_add, Fin.eta]

theorem sliceN_apply (x : FVec Ideal S16x16x128x4x128 .f32) (start : Fin 5 → Int) (k : Fin 16)
    (h0 : start 0 = (k.val : Int)) (h1 : start 1 = 0) (h2 : start 2 = 0) (h3 : start 3 = 0) (h4 : start 4 = 0) (hf)
    (b : Fin 16) (l : Fin 128) (g : Fin 4) (n : Fin 128) :
    Host.dynamicSlice (s := S16x16x128x4x128) S1x16x128x4x128 x start hf (ix5 0 b l g n) = x (ix5 k b l g n) := by
  pointwise
  simp only [start_chunk hf.1 start 0 k h0 rfl rfl, start_zero hf.1 start 1 h1, start_zero hf.1 start 2 h2, start_zero hf.1 start 3 h3,
    start_zero hf.1 start 4 h4, Nat.zero_add, Fin.eta]

theorem b6_apply (b : Fin 16) (l : Fin 128) (g : Fin 4) (h : Fin 8) (p : Fin 64) :
    b6 k.val s (ix5 b l g h p) = s.main_v27_0 (ix6 k b l g h p) := by
  pointwise [b6]
  exact slice6_apply _ _ k (chunkNo k) rfl rfl rfl rfl rfl _ b l g h p

theorem b12_apply (b : Fin 16) (l : Fin 128) (g : Fin 4) (h : Fin 8) :
    b12 k.val s (ix4 b l g h) = s.main_v27_1 (ix5 k b l g h) := by
  pointwise [b12]
  exact slice5_apply _ _ k (chunkNo k) rfl rfl rfl rfl _ b l g h

theorem b18_apply (b : Fin 16) (l : Fin 128) (g : Fin 4) (n : Fin 128) :
    b18 k.val s (ix4 b l g n) = s.main_v27_2 (ix5 k b l g n) := by
  pointwise [b18]
  exact sliceN_apply _ _ k (chunkNo k) rfl rfl rfl rfl _ b l g n

theorem b24_apply (b : Fin 16) (l : Fin 128) (g : Fin 4) (n : Fin 128) :
    b24 k.val s (ix4 b l g n) = s.main_v27_3 (ix5 k b l g n) := by
  pointwise [b24]
  exact sliceN_apply _ _ k (chunkNo k) rfl rfl rfl rfl _ b l g n

theorem b27_apply (b : Fin 16) (l : Fin 128) (g : Fin 4) (h : Fin 8) :
    b27 k.val s (ix4 b l g h) = s.main_v27_1 (ix5 k b l g h) * s.main_v27_4 (ix2 g h) := by
  pointwise [b27, b26, b25]
  rw [b12_apply]

/-- The steps and the decays of one column of one chunk are finite. -/
structure Finite (b : Fin 16) (g : Fin 4) (h : Fin 8) (t d : Fin 128 → ℝ) : Prop where
  step : ∀ l, s.main_v27_1 (ix5 k b l g h) = (t l : EReal)
  rate : ∀ l, s.main_v27_1 (ix5 k b l g h) * s.main_v27_4 (ix2 g h) = (d l : EReal)

variable {s k} {b : Fin 16} {g : Fin 4} {h : Fin 8} {t d : Fin 128 → ℝ}

theorem b30_apply (H : Finite s k b g h t d) (l : Fin 128) : b30 k.val s (ix4 b l g h) = ((acs d l : ℝ) : EReal) := by
  unfold b30
  refine cumsum_rows _ d b g h (fun r => (b27_apply s k b r g h).trans (H.rate r)) _ _ ?_ _ l
  pointwise [b29, b28]

theorem negInf_eq : Ideal.ofBits .f32 0xFF800000#32 = (⊥ : EReal) := by
  simp [Ideal.ofBits, Ideal.ieee]

theorem b41_apply (H : Finite s k b g h t d) (l r : Fin 128) : b41 k.val s (ix5 b l r g h) = decay d l r := by
  pointwise [b41, b40, b39, b38, b37, b36, b35, b34, b33, b32, b31, K_main_v24, K_main_v23, K_main_v22, K_main_v21, K_main_v20, K_main_v19, K_main_v18, K_main_v17]
  rw [b30_apply H, b30_apply H]
  unfold decay
  have hl := l.isLt
  have hr := r.isLt
  by_cases h : r ≤ l
  · rw [if_pos h, Scalar.select_of_eq_one ((cmpi_sge_ofNat_eq_one_iff (by omega) (by omega)).mpr h), EReal.coe_sub]
  · rw [if_neg h, Scalar.select_of_eq_zero ((cmpi_sge_ofNat_eq_zero_iff (by omega) (by omega)).mpr h), negInf_eq]

theorem b58_apply (H : Finite s k b g h t d) (l : Fin 128) (p : Fin 64) :
    b58 k.val s (ix5 b l g h p)
      = col (fun l n => s.main_v27_3 (ix5 k b l g n)) (fun r n => s.main_v27_2 (ix5 k b r g n)) (fun r => s.main_v27_0 (ix6 k b r g h p))
          (fun r => (t r : EReal)) d (fun n => s.main_v27_7 (ix5 b g h p n)) l := by
  pointwise [b58, b57, b56, b55, b54, b53, b52, b51, b50, b49, b48, b47, b46, b45, b44, b43, b42]
  simp only [b41_apply H, b30_apply H, b6_apply, b12_apply, b18_apply, b24_apply, H.step]
  unfold col own carried
  refine congrArg₂ (· + ·) (Finset.sum_congr rfl fun r _ => ?_) (congrArg (· * _) (Finset.sum_congr rfl fun n _ => mul_comm _ _))
  rw [mul_comm]
  refine congrArg (· * _) (congrArg (· * _) (congrArg (· * _) (Finset.sum_congr rfl fun n _ => mul_comm _ _)))

theorem b74_apply (H : Finite s k b g h t d) (p : Fin 64) (n : Fin 128) :
    b74 k.val s (ix5 b g h p n)
      = next (fun r n => s.main_v27_2 (ix5 k b r g n)) (fun r => s.main_v27_0 (ix6 k b r g h p))
          (fun r => (t r : EReal)) d (fun n => s.main_v27_7 (ix5 b g h p n)) n := by
  pointwise [b74, b73, b72, b71, b70, b69, b68, b67, b66, b65, b64, b63, b62, b61, b60, b59]
  simp only [b41_apply H, b30_apply H, b6_apply, b12_apply, b18_apply, b24_apply, H.step]
  unfold next
  refine congrArg (_ + ·) (Finset.sum_congr rfl fun r _ => ?_)
  rw [EReal.coe_sub, mul_comm, mul_comm (_ * _) (s.main_v27_0 _)]

theorem update_apply (x : FVec Ideal S16x16x128x4x8x64 .f32) (u : FVec Ideal S1x16x128x4x8x64 .f32) (start : Fin 6 → Int) (k : Fin 16)
    (h0 : start 0 = (k.val : Int)) (h1 : start 1 = 0) (h2 : start 2 = 0) (h3 : start 3 = 0) (h4 : start 4 = 0) (h5 : start 5 = 0) (hf)
    (q b : Fin 16) (l : Fin 128) (g : Fin 4) (h : Fin 8) (p : Fin 64) :
    Host.dynamicUpdateSlice (s := S16x16x128x4x8x64) (u := S1x16x128x4x8x64) x u start hf (ix6 q b l g h p)
      = if q = k then u (ix6 0 b l g h p) else x (ix6 q b l g h p) := by
  pointwise
  have e0 := start_chunk hf.1 start 0 k h0 rfl rfl
  simp only [e0, start_zero hf.1 start 1 h1, start_zero hf.1 start 2 h2, start_zero hf.1 start 3 h3, start_zero hf.1 start 4 h4,
    start_zero hf.1 start 5 h5, Nat.zero_le, and_true, Nat.sub_zero]
  by_cases hq : q = k
  · subst hq
    rw [if_pos rfl]
    split
    · congr 2
      exact Fin.ext (Nat.sub_self _)
    · next hh =>
      exact absurd ⟨⟨Nat.le_refl _, Nat.lt_succ_self _⟩, ⟨trivial, b.isLt⟩, ⟨trivial, l.isLt⟩, ⟨trivial, g.isLt⟩, ⟨trivial, h.isLt⟩, trivial, p.isLt⟩ hh
  · rw [if_neg hq]
    split
    · next hh => exact absurd (Fin.ext (Nat.le_antisymm (Nat.lt_succ_iff.mp hh.1.2) hh.1.1)) hq
    · rfl

theorem b81_apply (s : State Ideal) (k q b : Fin 16) (l : Fin 128) (g : Fin 4) (h : Fin 8) (p : Fin 64) :
    b81 k.val s (ix6 q b l g h p) = if q = k then b58 k.val s (ix5 b l g h p) else s.main_v27_8 (ix6 q b l g h p) := by
  refine (update_apply _ _ _ k (chunkNo k) rfl rfl rfl rfl rfl _ q b l g h p).trans ?_
  pointwise [b75]

end

/-- The reference's result at an index, of what the loop has put out. -/
theorem out_apply (s : State Ideal) (a0 : FVec Ideal S16x2048x3072 .f32) (a1 : FVec Ideal S16x2048x2048 .f32) (a4 : FVec Ideal S32 .f32)
    (a5 : FVec Ideal S2048 .f32) (b k : Fin 16) (l : Fin 128) (g : Fin 4) (j : Fin 512) :
    R_main_v56 s a0 a1 a4 a5 (ix2 ⟨2048 * b.val + 128 * k.val + l.val, by omega⟩ ⟨512 * g.val + j.val, by omega⟩)
      = gated (fun j => s.main_v27_8 (ix6 k b l g ⟨j.val / 64, by omega⟩ ⟨j.val % 64, by omega⟩)
            + a4 (ix1 ⟨8 * g.val + j.val / 64, by omega⟩) * a0 (ix3 b ⟨128 * k.val + l.val, by omega⟩ ⟨512 * g.val + j.val, by omega⟩))
          (fun j => a1 (ix3 b ⟨128 * k.val + l.val, by omega⟩ ⟨512 * g.val + j.val, by omega⟩))
          (fun j => a5 (ix1 ⟨512 * g.val + j.val, by omega⟩)) j := by
  pointwise [R_main_v56]
  have hl := l.isLt
  have hk := k.isLt
  have e1 : ∀ x : Fin 512, (g.val * 512 + x.val) / 64 % 8 = x.val / 64 := fun x => by omega
  have e2 : ∀ x : Fin 512, (g.val * 512 + x.val) % 64 = x.val % 64 := fun x => by omega
  have e3 : ∀ x : Fin 512, (g.val * 512 + x.val) / 64 * 64 + x.val % 64 = 512 * g.val + x.val := fun x => by omega
  have e4 : ∀ x : Fin 512, (512 * g.val + x.val) / 64 = 8 * g.val + x.val / 64 := fun x => by omega
  have e5 : (2048 * b.val + 128 * k.val + l.val) % 2048 = 128 * k.val + l.val := by omega
  have e6 : g.val * 512 = 512 * g.val := by omega
  simp only [e1, e2, e3, e5]
  simp only [e6]
  simp only [e4, gated, sub_eq_add_neg, zero_add]

end Cert.ReferenceIdeal.Ssd

end
-- ==== Proof.Ssd.Chain.lean ====
/-
  The scan of a whole sequence, column by column: the state before each chunk and the column's outputs,
  of the array `X` that holds the values, the B rows and the C rows side by side, of the steps `T` and
  of the logarithmic decays `D`.
-/
module

public import proofs.«01_k».proof.Proof.Ssd.Spec

@[expose] public section

noncomputable section

namespace Cert.Ssd

open Idealize.ShloMosaic

/-- Row `l` of chunk `k` of a sequence. -/
def rowAt (k : ℕ) (l : Fin 128) : Fin 2048 := ⟨(128 * k + l.val) % 2048, by omega⟩

/-- The place of column `j` of group `g` among the values. -/
def xAt (g : Fin 4) (j : Fin 512) : Fin 3072 := ⟨512 * g.val + j.val, by omega⟩
/-- The place of entry `n` of group `g`'s B rows. -/
def bAt (g : Fin 4) (n : Fin 128) : Fin 3072 := ⟨2048 + 128 * g.val + n.val, by omega⟩
/-- The place of entry `n` of group `g`'s C rows. -/
def cAt (g : Fin 4) (n : Fin 128) : Fin 3072 := ⟨2560 + 128 * g.val + n.val, by omega⟩
/-- The head that column `j` of group `g` belongs to. -/
def headAt (g : Fin 4) (j : Fin 512) : Fin 32 := ⟨8 * g.val + j.val / 64, by omega⟩

section
variable (X : Fin 2048 → Fin 3072 → EReal) (T D : Fin 2048 → Fin 32 → ℝ) (g : Fin 4) (j : Fin 512)

/-- The column's state before chunk `k`. -/
def stateCol : ℕ → Fin 128 → EReal
  | 0 => fun _ => 0
  | k + 1 => next (fun s n => X (rowAt k s) (bAt g n)) (fun s => X (rowAt k s) (xAt g j)) (fun s => (T (rowAt k s) (headAt g j) : EReal))
      (fun s => D (rowAt k s) (headAt g j)) (stateCol k)

/-- The column at row `l` of chunk `k`. -/
def outCol (k : ℕ) (l : Fin 128) : EReal :=
  col (fun l n => X (rowAt k l) (cAt g n)) (fun s n => X (rowAt k s) (bAt g n)) (fun s => X (rowAt k s) (xAt g j))
    (fun s => (T (rowAt k s) (headAt g j) : EReal)) (fun s => D (rowAt k s) (headAt g j)) (stateCol X T D g j k) l

end

theorem rowAt_val (k : Fin 16) (l : Fin 128) : (rowAt k.val l).val = 128 * k.val + l.val := by
  have hk := k.isLt
  have hl := l.isLt
  show (128 * k.val + l.val) % 2048 = _
  omega

end Cert.Ssd

end
-- ==== Proof.Ssd.RefChain.lean ====
/-
  The reference's loop over the chunks is the scan of every column; its result is the gated outputs.
-/
module

public import proofs.«01_k».proof.Proof.Ssd.RefRead
public import proofs.«01_k».proof.Proof.Ssd.Chain

@[expose] public section

set_option maxRecDepth 16384

noncomputable section

namespace Cert.ReferenceIdeal.Ssd

open Cert.ReferenceIdeal Cert.ReferenceIdeal.Gen Cert.ReferenceIdeal.Step Cert.Ssd Idealize.ShloMosaic

variable (a0 : FVec Ideal S16x2048x3072 .f32) (a2 : FVec Ideal S16x2048x32 .f32) (a3 : FVec Ideal S32 .f32)
  (T D : Fin 16 → Fin 2048 → Fin 32 → ℝ)

/-- The steps and their decays as real numbers. -/
structure RealSteps : Prop where
  step : ∀ b r h, a2 (ix3 b r h) = (T b r h : EReal)
  rate : ∀ b r h, a2 (ix3 b r h) * -Ideal.exp (a3 (ix1 h)) = (D b r h : EReal)

/-- One sequence's rows. -/
abbrev rowsOf (b : Fin 16) : Fin 2048 → Fin 3072 → EReal := fun r c => a0 (ix3 b r c)

/-- Column `p` of head `h` of its group. -/
abbrev colAt (h : Fin 8) (p : Fin 64) : Fin 512 := ⟨64 * h.val + p.val, by omega⟩

variable {a0 a2 a3 T D}

theorem xs_eq (k b : Fin 16) (l : Fin 128) (g : Fin 4) (h : Fin 8) (p : Fin 64) :
    A_main_v9 (F := Ideal) a0 a2 a3 (ix6 k b l g h p) = rowsOf a0 b (rowAt k.val l) (xAt g (colAt h p)) := by
  rw [xs_apply]
  exact congrArg₂ (rowsOf a0 b) (Fin.ext (by rw [rowAt_val]; dsimp only; omega)) (Fin.ext (by simp only [xAt, colAt]; omega))

theorem bs_eq (k b : Fin 16) (l : Fin 128) (g : Fin 4) (n : Fin 128) :
    A_main_v13 (F := Ideal) a0 a2 a3 (ix5 k b l g n) = rowsOf a0 b (rowAt k.val l) (bAt g n) := by
  rw [bs_apply]
  exact congrArg₂ (rowsOf a0 b) (Fin.ext (by rw [rowAt_val]; dsimp only; omega)) (Fin.ext (by simp only [bAt]; omega))

theorem cs_eq (k b : Fin 16) (l : Fin 128) (g : Fin 4) (n : Fin 128) :
    A_main_v15 (F := Ideal) a0 a2 a3 (ix5 k b l g n) = rowsOf a0 b (rowAt k.val l) (cAt g n) := by
  rw [cs_apply]
  exact congrArg₂ (rowsOf a0 b) (Fin.ext (by rw [rowAt_val]; dsimp only; omega)) (Fin.ext (by simp only [cAt]; omega))

theorem finite (H : RealSteps a2 a3 T D) {s : State Ideal} (R : Reads a0 a2 a3 s) (k b : Fin 16) (g : Fin 4) (h : Fin 8) (p : Fin 64) :
    Finite s k b g h (fun l => T b (rowAt k.val l) (headAt g (colAt h p))) (fun l => D b (rowAt k.val l) (headAt g (colAt h p))) := by
  have hr : ∀ l : Fin 128, (⟨k.val * 128 + l.val, by omega⟩ : Fin 2048) = rowAt k.val l := fun l =>
    Fin.ext (by rw [rowAt_val]; dsimp only; omega)
  have hh : (⟨g.val * 8 + h.val, by omega⟩ : Fin 32) = headAt g (colAt h p) := Fin.ext (by simp only [headAt, colAt]; omega)
  constructor
  · intro l
    rw [R.dt, dt_apply, hr, hh, H.step]
  · intro l
    rw [R.dt, R.a, dt_apply, a_apply, hr, hh, H.rate]

theorem state_eq (H : RealSteps a2 a3 T D) (b : Fin 16) (g : Fin 4) (h : Fin 8) (p : Fin 64) : ∀ k ≤ 16, ∀ n : Fin 128,
    (stateAt a0 a2 a3 k).main_v27_7 (ix5 b g h p n) = stateCol (rowsOf a0 b) (T b) (D b) g (colAt h p) k n
  | 0, _, n => by
    show K_main_v25 (F := Ideal) (ix5 b g h p n) = 0
    pointwise [K_main_v25, K_main_cst]
  | k + 1, hk, n => by
    have R := reads_stateAt a0 a2 a3 k
    have ih := state_eq H b g h p k (by omega)
    show b74 (⟨k, by omega⟩ : Fin 16).val (stateAt a0 a2 a3 k) (ix5 b g h p n) = _
    rw [b74_apply (finite H R ⟨k, by omega⟩ b g h p) p n]
    simp only [R.xs, R.bs, xs_eq, bs_eq, ih]
    rfl

theorem ys_eq (H : RealSteps a2 a3 T D) (q b : Fin 16) (l : Fin 128) (g : Fin 4) (h : Fin 8) (p : Fin 64) : ∀ k ≤ 16, q.val < k →
    (stateAt a0 a2 a3 k).main_v27_8 (ix6 q b l g h p) = outCol (rowsOf a0 b) (T b) (D b) g (colAt h p) q.val l
  | 0, _, hq => absurd hq (Nat.not_lt_zero _)
  | k + 1, hk, hq => by
    have R := reads_stateAt a0 a2 a3 k
    show b81 (⟨k, by omega⟩ : Fin 16).val (stateAt a0 a2 a3 k) (ix6 q b l g h p) = _
    rw [b81_apply]
    by_cases he : q = ⟨k, by omega⟩
    · rw [if_pos he, b58_apply (finite H R ⟨k, by omega⟩ b g h p) l p]
      simp only [R.xs, R.bs, R.cs, xs_eq, bs_eq, cs_eq, state_eq H b g h p k (by omega)]
      rw [he]
      rfl
    · rw [if_neg he]
      exact ys_eq H q b l g h p k (by omega) (by
        have : q.val ≠ k := fun e => he (Fin.ext e)
        omega)

/-- The result at row `l` of chunk `k` of sequence `b`, at column `j` of group `g`. -/
def outAt (a0 : FVec Ideal S16x2048x3072 .f32) (a1 : FVec Ideal S16x2048x2048 .f32) (a4 : FVec Ideal S32 .f32)
    (a5 : FVec Ideal S2048 .f32) (T D : Fin 16 → Fin 2048 → Fin 32 → ℝ) (b k : Fin 16) (l : Fin 128) (g : Fin 4) : Fin 512 → EReal :=
  gated (fun j => outCol (rowsOf a0 b) (T b) (D b) g j k.val l + a4 (ix1 (headAt g j)) * a0 (ix3 b (rowAt k.val l) (xAt g j)))
    (fun j => a1 (ix3 b (rowAt k.val l) ⟨512 * g.val + j.val, by omega⟩)) (fun j => a5 (ix1 ⟨512 * g.val + j.val, by omega⟩))

theorem result_apply (H : RealSteps a2 a3 T D) (a1 : FVec Ideal S16x2048x2048 .f32) (a4 : FVec Ideal S32 .f32) (a5 : FVec Ideal S2048 .f32)
    (b k : Fin 16) (l : Fin 128) (g : Fin 4) (j : Fin 512) :
    result a0 a1 a2 a3 a4 a5 (ix2 ⟨2048 * b.val + 128 * k.val + l.val, by omega⟩ ⟨512 * g.val + j.val, by omega⟩)
      = outAt a0 a1 a4 a5 T D b k l g j := by
  unfold result outAt
  rw [out_apply]
  have hr : (⟨128 * k.val + l.val, by omega⟩ : Fin 2048) = rowAt k.val l := Fin.ext (rowAt_val k l).symm
  simp only [hr]
  congr 1
  funext j
  rw [ys_eq H k b l g _ _ 16 (Nat.le_refl _) k.isLt]
  have hc : colAt ⟨j.val / 64, by omega⟩ ⟨j.val % 64, by omega⟩ = j := Fin.ext (by simp only [colAt]; omega)
  rw [hc]
  rfl

end Cert.ReferenceIdeal.Ssd

end
-- ==== Proof.Ssd.Pre.lean ====
/-
  The precondition makes the steps and their decays real numbers.
-/
module

public import proofs.«01_k».proof.Proof.Gen.Pre_finite_steps
public import proofs.«01_k».proof.Proof.Ssd.RefChain
public import Idealize.ShloMosaic.Lib.ReduceAll

@[expose] public section

set_option maxRecDepth 16384

noncomputable section

namespace Cert.Ssd

open Cert.Pre_finite_steps Cert.Pre_finite_steps.Gen Idealize.ShloMosaic

theorem inf_eq : (Ideal.ofBits .f32 0x7F800000#32 : EReal) = ⊤ := by simp [Ideal.ofBits, Ideal.ieee]

theorem lt_top_of_cmp {x y : EReal} (hy : y = ⊤) (h : Ideal.cmp .olt x y = 1#1) : x < ⊤ := by
  subst hy
  by_contra hn
  rw [Ideal.cmp, decide_eq_false hn] at h
  exact absurd h (by decide)

theorem real_of_abs_lt {x : EReal} (h : max x (-x) < ⊤) : ∃ r : ℝ, x = (r : EReal) := by
  induction x using EReal.rec with
  | bot => exact absurd h (by simp)
  | coe r => exact ⟨r, rfl⟩
  | top => exact absurd h (by simp)

theorem exp_real {x : EReal} (h : x < ⊤) : ∃ r : ℝ, Ideal.exp x = (r : EReal) := by
  induction x using EReal.rec with
  | bot => exact ⟨0, EReal.coe_zero.symm⟩
  | coe r => exact ⟨Real.exp r, Ideal.exp_coe r⟩
  | top => exact absurd h (lt_irrefl _)

instance : Subsingleton S_.Idx := ⟨fun a b => funext fun x => x.elim0⟩

theorem realSteps {a0 : FVec Ideal S16x2048x3072 .f32} {a1 : FVec Ideal S16x2048x2048 .f32} {a2 : FVec Ideal S16x2048x32 .f32}
    {a3 a4 : FVec Ideal S32 .f32} {a5 : FVec Ideal S2048 .f32} (h : fn (F := Ideal) a0 a1 a2 a3 a4 a5 = fun _ => 1#1) :
    ∃ T D : Fin 16 → Fin 2048 → Fin 32 → ℝ, Cert.ReferenceIdeal.Ssd.RealSteps a2 a3 T D := by
  have h0 := congrFun h ix0
  unfold fn at h0
  obtain ⟨hs, hr⟩ := IntOp.andi_eq_one.1 h0
  have hs' : ∀ i, max (a2 i) (-a2 i) < (⊤ : EReal) := fun i =>
    lt_top_of_cmp inf_eq (Host.reduce_andi_all _ _ _ _ ix0 hs i)
  have hr' : ∀ i, a3 i < (⊤ : EReal) := fun i =>
    lt_top_of_cmp inf_eq (Host.reduce_andi_all _ _ _ _ ix0 hr i)
  choose T hT using fun (b : Fin 16) (r : Fin 2048) (h : Fin 32) => real_of_abs_lt (hs' (ix3 b r h))
  choose E hE using fun (h : Fin 32) => exp_real (hr' (ix1 h))
  refine ⟨T, fun b r h => T b r h * -E h, hT, fun b r h => ?_⟩
  rw [hT, hE, ← EReal.coe_neg, ← EReal.coe_mul]

end Cert.Ssd

end
-- ==== Proof.Ssd.Entry.lean ====
/-
  What the launch's arguments hold, read at an index, of the arguments of the program.
-/
module

public import proofs.«01_k».proof.Proof.Gen.KernelIdeal.Value
public import Idealize.ShloMosaic.Lib.Pointwise
public import Idealize.ShloMosaic.Lib.Claim
public import Idealize.ShloMosaic.Lib.WordCmp
public import Idealize.ShloMosaic.Lib.StableHlo.ReadAt
public import Idealize.ShloMosaic.Lib.Routing.Words

@[expose] public section

set_option maxRecDepth 16384

noncomputable section

namespace Cert.KernelIdeal.Ssd

open Cert.KernelIdeal Cert.KernelIdeal.Gen Idealize.ShloMosaic Idealize.ShloMosaic.TcCoe Idealize.ShloMosaic.WordCmp

variable (m : (ℓ : Loc nD τ sig) → Buf (Elt Ideal) ℓ) (c : Dev nD)

theorem sitofp_zero : (FloatOps.sitofp FTy.f32 (0#32) : Ideal .f32) = 0 := by
  show ((((0#32 : BitVec 32).toInt : ℤ) : ℝ) : EReal) = 0
  simp

theorem uitofp_one : (FloatOps.uitofp FTy.f32 (1#1) : Ideal .f32) = 1 := by
  show (((1#1 : BitVec 1).toNat : ℝ) : EReal) = 1
  simp

theorem uitofp_zero : (FloatOps.uitofp FTy.f32 (0#1) : Ideal .f32) = 0 := by
  show (((0#1 : BitVec 1).toNat : ℝ) : EReal) = 0
  simp

theorem cmpi_eq_zero_of_ne_one {b : BitVec 1} (h : ¬ b = 1#1) : b = 0#1 := by
  revert b; decide

/-- The remainder modulo 128, as the words of the program compute it. -/
theorem rem_word (q : ℕ) (hq : q < 384) :
    Scalar.select
          (IntOp.andi
            (IntOp.cmpi CmpIPredicate.ne
              (IntOp.cmpi CmpIPredicate.slt
                (IntOp.remsi ArithUnit.host (BitVec.ofNat 32 q) (128#32))
                0#32)
              (IntOp.cmpi CmpIPredicate.slt (128#32) 0#32))
            (IntOp.cmpi CmpIPredicate.ne
              (IntOp.remsi ArithUnit.host (BitVec.ofNat 32 q) (128#32))
              0#32))
          (IntOp.addi
            (IntOp.remsi ArithUnit.host (BitVec.ofNat 32 q) (128#32))
            (128#32))
          (IntOp.remsi ArithUnit.host (BitVec.ofNat 32 q) (128#32)) = BitVec.ofNat 32 (q % 128) := by
  have h : ∀ q : Fin 384, Scalar.select
          (IntOp.andi
            (IntOp.cmpi CmpIPredicate.ne
              (IntOp.cmpi CmpIPredicate.slt
                (IntOp.remsi ArithUnit.host (BitVec.ofNat 32 q.val) (128#32))
                0#32)
              (IntOp.cmpi CmpIPredicate.slt (128#32) 0#32))
            (IntOp.cmpi CmpIPredicate.ne
              (IntOp.remsi ArithUnit.host (BitVec.ofNat 32 q.val) (128#32))
              0#32))
          (IntOp.addi
            (IntOp.remsi ArithUnit.host (BitVec.ofNat 32 q.val) (128#32))
            (128#32))
          (IntOp.remsi ArithUnit.host (BitVec.ofNat 32 q.val) (128#32)) = BitVec.ofNat 32 (q.val % 128) := by
    decide +kernel
  exact h ⟨q, hq⟩

/-- The quotient by `k`, as the words of the program compute it. -/
def quotWord (j k : BitVec 32) : BitVec 32 :=
  Scalar.select
          (IntOp.andi
            (IntOp.cmpi CmpIPredicate.ne
              (if j = 0 then (0 : BitVec 32) else if j.msb = true then -1 else 1)
              (if k = 0 then 0
              else if BitVec.msb k = true then -1 else 1))
            (IntOp.cmpi CmpIPredicate.ne
              (IntOp.remsi ArithUnit.host j k) 0#32))
          (IntOp.subi (IntOp.divsi ArithUnit.host j k) 1#32)
          (IntOp.divsi ArithUnit.host j k)

theorem quotWord_eq (j k : ℕ) (hj : j < 2048) (hk0 : 0 < k) (hk : k < 2048) :
    quotWord (BitVec.ofNat 32 j) (BitVec.ofNat 32 k) = BitVec.ofNat 32 (j / k) := by
  have hz : ∀ n, 0 < n → n < 2048 → BitVec.ofNat 32 n ≠ 0 := fun n h0 h e => by
    have := congrArg BitVec.toNat e
    simp at this
    omega
  have hm : ∀ n, n < 2048 → (BitVec.ofNat 32 n).msb = false := fun n h => by
    rw [BitVec.msb_eq_false_iff_two_mul_lt]
    simp
    omega
  unfold quotWord
  rw [Routing.divsi_word _ (by omega) hk0 (by omega), Routing.remsi_word _ (by omega) hk0 (by omega), if_neg (hz k hk0 hk), hm k hk, hm j hj]
  rcases Nat.eq_zero_or_pos j with rfl | h
  · rw [Nat.zero_mod, Nat.zero_div]
    rfl
  · rw [if_neg (hz j h hj)]
    have e : ∀ b : BitVec 1, IntOp.andi (IntOp.cmpi CmpIPredicate.ne (1 : BitVec 32) 1) b = 0#1 := by decide
    simp only [Bool.false_eq_true, if_false, e]
    rfl

theorem xbc_apply (r : Fin 32768) (j : Fin 3072) :
    V m c main_v1 (ix2 r j) = m ((c : Thread nD τ).loc main_arg0) (ix3 ⟨r.val / 2048, by omega⟩ ⟨r.val % 2048, by omega⟩ j) := by
  unfold V
  after_reads_at

theorem z_apply (r : Fin 32768) (j : Fin 2048) :
    V m c main_v3 (ix2 r j) = m ((c : Thread nD τ).loc main_arg1) (ix3 ⟨r.val / 2048, by omega⟩ ⟨r.val % 2048, by omega⟩ j) := by
  unfold V
  after_reads_at

theorem dt_apply (r : Fin 32768) (h : Fin 128) :
    V m c main_v5 (ix2 r h) = if hh : h.val < 32 then m ((c : Thread nD τ).loc main_arg2) (ix3 ⟨r.val / 2048, by omega⟩ ⟨r.val % 2048, by omega⟩ ⟨h.val, hh⟩)
      else (0 : EReal) := by
  unfold V
  after_reads_at
  rw [sitofp_zero]

theorem alog_apply (h : Fin 128) :
    V m c main_v7 (ix2 0 h) = if hh : h.val < 32 then m ((c : Thread nD τ).loc main_arg3) (ix1 ⟨h.val, hh⟩)
      else (0 : EReal) := by
  unfold V
  after_reads_at
  rw [sitofp_zero]

theorem dskip_apply (j : Fin 2048) :
    V m c main_v10 (ix2 0 j) = m ((c : Thread nD τ).loc main_arg4) (ix1 ⟨j.val / 64, by omega⟩) := by
  unfold V
  after_reads_at

theorem normw_apply (j : Fin 2048) :
    V m c main_v11 (ix2 0 j) = m ((c : Thread nD τ).loc main_arg5) (ix1 j) := by
  unfold V
  after_reads_at

theorem tri_apply (l s : Fin 128) :
    V m c main_v16 (ix2 l s) = if s ≤ l then (1 : EReal) else 0 := by
  unfold V
  after_reads_at
  by_cases h : s ≤ l
  · rw [if_pos h, (cmpi_sge_ofNat_eq_one_iff (by omega) (by omega)).2 h]
    exact uitofp_one
  · rw [if_neg h, cmpi_eq_zero_of_ne_one (mt (cmpi_sge_ofNat_eq_one_iff (by omega) (by omega)).1 h)]
    exact uitofp_zero

theorem sel_apply (g : Fin 4) (q : Fin 384) (j : Fin 1024) :
    V m c main_v27 (ix3 g q j) = if q.val % 128 = 8 * g.val + j.val / 128 then (1 : EReal) else 0 := by
  unfold V
  after_reads_at
  have e1 : Scalar.select (IntOp.cmpi CmpIPredicate.eq (id (constantI S_ 32 128#32) ix0) 0#32) (1#32)
                    (id (constantI S_ 32 128#32) ix0) = 128#32 := by decide +kernel
  have e2 : id (constantI S_ 32 128#32) ix0 = 128#32 := rfl
  simp only [e1]
  simp only [e2]
  rw [rem_word q.val (by omega)]
  refine Eq.trans (b := (FloatOps.uitofp FTy.f32 (IntOp.cmpi .eq (BitVec.ofNat 32 (q.val % 128)) (IntOp.addi (IntOp.muli (BitVec.ofNat 32 g.val) 8#32)
    (quotWord (BitVec.ofNat 32 j.val) 128#32))) : Ideal .f32)) (by unfold quotWord; congr) ?_
  rw [quotWord_eq j.val 128 (by omega) (by omega) (by omega)]
  have e3 : IntOp.addi (IntOp.muli (BitVec.ofNat 32 g.val) 8#32) (BitVec.ofNat 32 (j.val / 128)) = BitVec.ofNat 32 (8 * g.val + j.val / 128) := by
    apply BitVec.eq_of_toNat_eq
    simp [IntOp.addi, IntOp.muli]
    omega
  rw [e3]
  by_cases h : q.val % 128 = 8 * g.val + j.val / 128
  · rw [if_pos h, (cmpi_eq_ofNat_eq_one_iff (by omega) (by omega)).2 h]
    exact uitofp_one
  · rw [if_neg h, cmpi_eq_zero_of_ne_one (mt (cmpi_eq_ofNat_eq_one_iff (by omega) (by omega)).1 h)]
    exact uitofp_zero

theorem spread_apply (q : Fin 256) (j : Fin 2048) :
    V m c main_v34 (ix2 q j) = if q.val % 128 = j.val / 64 then (1 : EReal) else 0 := by
  unfold V
  after_reads_at
  have e1 : Scalar.select (IntOp.cmpi CmpIPredicate.eq (id (constantI S_ 32 128#32) ix0) 0#32) (1#32)
                    (id (constantI S_ 32 128#32) ix0) = 128#32 := by decide +kernel
  have e2 : id (constantI S_ 32 64#32) ix0 = 64#32 := rfl
  simp only [e1]
  simp only [e2]
  rw [rem_word q.val (by omega)]
  refine Eq.trans (b := (FloatOps.uitofp FTy.f32 (IntOp.cmpi .eq (BitVec.ofNat 32 (q.val % 128)) (quotWord (BitVec.ofNat 32 j.val) 64#32)) : Ideal .f32))
    (by unfold quotWord; congr) ?_
  rw [quotWord_eq j.val 64 (by omega) (by omega) (by omega)]
  by_cases h : q.val % 128 = j.val / 64
  · rw [if_pos h, (cmpi_eq_ofNat_eq_one_iff (by omega) (by omega)).2 h]
    exact uitofp_one
  · rw [if_neg h, cmpi_eq_zero_of_ne_one (mt (cmpi_eq_ofNat_eq_one_iff (by omega) (by omega)).1 h)]
    exact uitofp_zero

end Cert.KernelIdeal.Ssd

end
-- ==== Proof.Ssd.Group.lean ====
/-
  One head group of the scan kernel's block, as named functions of the values the block loads: the
  gated and normalised output of the group's 512 columns, and the state the group leaves behind.
  The kernel writes the same lines four times, once per group; `g` says which group is meant.
-/
module

public import proofs.«01_k».proof.Proof.Gen.KernelIdeal.Value
public import Idealize.ShloMosaic.Lib.Tactic

@[expose] public section

noncomputable section

namespace Cert.KernelIdeal.Ssd

open Cert.KernelIdeal Cert.KernelIdeal.Gen Idealize.ShloMosaic Idealize.ShloMosaic.TcCoe Idealize.SL.Sem

variable {F : FTy → Type} [FloatOps F] [Named F]

theorem slicesCols (k : Fin 8) : S128x1024.Slices ![0, 128 * k.val] S128x128 := by revert k; decide
theorem slicesRow (h : Fin 32) : S128x128.Slices ![h.val, 0] S1x128 := by revert h; decide
theorem slicesPair (p : Fin 4) : S128x512.Slices ![0, 128 * p.val] S128x128 := by revert p; decide
theorem slicesGroup (g : Fin 4) : S128x2048.Slices ![0, 512 * g.val] S128x512 := by revert g; decide

/-- The head number `8 g + k` of head `k` of group `g`. -/
abbrev headNo (g : Fin 4) (k : Fin 8) : Fin 32 := ⟨8 * g.val + k.val, by omega⟩

/-- The weights of one head: the group's products of C and B times the decay between the two rows
    times the step, zero above the diagonal. -/
def headW (g : Fin 4) (k : Fin 8) (acsT dtT cb : FVec F S128x128 .f32) (cols : FVec F S128x1024 .f32) :
    FVec F S128x128 .bf16 :=
  truncf .bf16 (mulf (mulf cb (exp (select (k0_pay14) (subf
      (extractStridedSlice S128x128 ![0, 128 * k.val] cols (slicesCols k))
      (broadcastTo S128x128 (extractStridedSlice S1x128 ![(headNo g k).val, 0] acsT (slicesRow _)) broadcasts_S1x128_S128x128))
      (broadcast S128x128 (Named.named κ "mask" 0xF149F2CA#32)))))
      (broadcastTo S128x128 (extractStridedSlice S1x128 ![(headNo g k).val, 0] dtT (slicesRow _)) broadcasts_S1x128_S128x128))
    bitsLt_bf16_f32

/-- The products of two heads' weights with their columns, side by side. -/
def pairY (w0 w1 x : FVec F S128x128 .bf16) : FVec F S128x128 .f32 :=
  matmul dot_S128x256_S256x128_S128x128_1_0_0_1_n_n none
    (concatenate S128x256 1 [⟨S128x128, w0⟩, ⟨S128x128, w1⟩] concatenates_S128x128_S128x128_S128x256_d1)
    (concatenate S256x128 0 [⟨S128x128, select (k0_pay15) x (k0_pay16)⟩, ⟨S128x128, select (k0_pay15) (k0_pay16) x⟩]
      concatenates_S128x128_S128x128_S256x128_d0)
    (constant S128x128 .f32 0x00000000#32)

/-- The pair `p` of group `g`: heads `2 p` and `2 p + 1`. -/
def pairOf (g : Fin 4) (p : Fin 4) (acsT dtT cb : FVec F S128x128 .f32) (cols : FVec F S128x1024 .f32)
    (x : FVec F S128x512 .bf16) : FVec F S128x128 .f32 :=
  pairY (headW g ⟨2 * p.val, by omega⟩ acsT dtT cb cols) (headW g ⟨2 * p.val + 1, by omega⟩ acsT dtT cb cols)
    (extractStridedSlice S128x128 ![0, 128 * p.val] x (slicesPair p))

/-- The products of C with B. -/
def cbOf (B C : Vec F S128x128 .bf16) : FVec F S128x128 .f32 := k0_pay19 B C

/-- The decays of the group's heads: the running sums, one per block of 128 columns. -/
def colsOf (parts : FVec F S128x384 .bf16) (sel : Vec F S1x384x1024 .bf16) : FVec F S128x1024 .f32 := k0_pay24 parts sel

/-- The state's contribution, the skip term and the chunk's own sum, added. -/
def groupY (g : Fin 4) (acsT dtT : FVec F S128x128 .f32) (parts : FVec F S128x384 .bf16) (e : FVec F S128x2048 .f32)
    (B C : Vec F S128x128 .bf16) (st : Vec F S1x128x512 .f32) (x : Vec F S128x512 .bf16) (sel : Vec F S1x384x1024 .bf16)
    (dsk : Vec F S1x512 .f32) : FVec F S128x512 .f32 :=
  addf (addf
    (concatenate S128x512 1 [⟨S128x128, pairOf g 0 acsT dtT (cbOf B C) (colsOf parts sel) (k0_pay23 x)⟩,
        ⟨S128x128, pairOf g 1 acsT dtT (cbOf B C) (colsOf parts sel) (k0_pay23 x)⟩,
        ⟨S128x128, pairOf g 2 acsT dtT (cbOf B C) (colsOf parts sel) (k0_pay23 x)⟩,
        ⟨S128x128, pairOf g 3 acsT dtT (cbOf B C) (colsOf parts sel) (k0_pay23 x)⟩]
      concatenates_S128x128_S128x128_S128x128_S128x128_S128x512_d1)
    (mulf (k0_pay22 C st) (extractStridedSlice S128x512 ![0, 512 * g.val] e (slicesGroup g))))
    (mulf (broadcastTo S128x512 (shapeCast S1x512 dsk shapeCasts_S1x512_S1x512) broadcasts_S1x512_S128x512)
      (extf .f32 (k0_pay23 x) bitsLt_bf16_f32))

/-- The group's output: gated by `z`, divided by the root of its mean square, times the gain. -/
def groupOut (y : FVec F S128x512 .f32) (z : Vec F S128x512 .bf16) (nw : Vec F S1x512 .f32) : FVec F S128x512 .bf16 :=
  k0_pay39 y (k0_pay38 z) nw

/-- The group's state after the chunk. -/
def groupSt (g : Fin 4) (e dec : FVec F S128x2048 .f32) (B : Vec F S128x128 .bf16) (st : Vec F S1x128x512 .f32)
    (x : Vec F S128x512 .bf16) : FVec F S1x128x512 .f32 :=
  shapeCast S1x128x512 (addf
    (mulf (k0_pay21 st) (broadcastTo S128x512 (extractStridedSlice S1x512 ![127, 0]
      (extractStridedSlice S128x512 ![0, 512 * g.val] e (slicesGroup g)) slices_S128x512_o127_0_S1x512) broadcasts_S1x512_S128x512))
    (matmul dot_S128x128_S128x512_S128x512_1_0_0_1_n_n none (k0_pay20 B)
      (truncf .bf16 (mulf (extf .f32 (k0_pay23 x) bitsLt_bf16_f32)
        (extractStridedSlice S128x512 ![0, 512 * g.val] dec (slicesGroup g))) bitsLt_bf16_f32)
      (constant S128x512 .f32 0x00000000#32))) shapeCasts_S128x512_S1x128x512

/-- What the group's decays read: the running sums' transpose and so on, from the loaded blocks. -/
def eOf (x2 : Vec F S128x128 .f32) (x3 : Vec F S1x128 .f32) (x6 : Vec F S128x128 .bf16) (x8 : Vec F S256x2048 .bf16) :
    FVec F S128x2048 .f32 := k0_pay12 (k0_pay10 x2 x3 x6) (k0_pay11 x2 x3 x6) x8

def decOf (x2 : Vec F S128x128 .f32) (x3 : Vec F S1x128 .f32) (x6 : Vec F S128x128 .bf16) (x8 : Vec F S256x2048 .bf16) :
    FVec F S128x2048 .f32 := k0_pay13 (k0_pay3 x2) (k0_pay4 x2 x3 x6) (k0_pay8 x2 x3 x6) x8

theorem inbB (g : Fin 4) : ∀ a, (![0, 2048 + 128 * g.val] : Fin 2 → Nat) a + S128x128.size a ≤ S128x3072.size a := by
  revert g; decide
theorem inbC (g : Fin 4) : ∀ a, (![0, 2560 + 128 * g.val] : Fin 2 → Nat) a + S128x128.size a ≤ S128x3072.size a := by
  revert g; decide
theorem inbX (g : Fin 4) : ∀ a, (![0, 512 * g.val] : Fin 2 → Nat) a + S128x512.size a ≤ S128x3072.size a := by
  revert g; decide
theorem inbZ (g : Fin 4) : ∀ a, (![0, 512 * g.val] : Fin 2 → Nat) a + S128x512.size a ≤ S128x2048.size a := by
  revert g; decide
theorem inbN (g : Fin 4) : ∀ a, (![0, 512 * g.val] : Fin 2 → Nat) a + S1x512.size a ≤ S1x2048.size a := by
  revert g; decide
theorem inbS (g : Fin 4) : ∀ a, (![g.val, 0, 0] : Fin 3 → Nat) a + S1x128x512.size a ≤ S4x128x512.size a := by
  revert g; decide
theorem inbSel (g : Fin 4) : ∀ a, (![g.val, 0, 0] : Fin 3 → Nat) a + S1x384x1024.size a ≤ S4x384x1024.size a := by
  revert g; decide

def ldB (g : Fin 4) (x0 : Vec F S128x3072 .bf16) : Vec F S128x128 .bf16 :=
  View.ld x0 (Rect.unit ![0, 2048 + 128 * g.val] S128x128.size (inbB g))
def ldC (g : Fin 4) (x0 : Vec F S128x3072 .bf16) : Vec F S128x128 .bf16 :=
  View.ld x0 (Rect.unit ![0, 2560 + 128 * g.val] S128x128.size (inbC g))
def ldX (g : Fin 4) (x0 : Vec F S128x3072 .bf16) : Vec F S128x512 .bf16 :=
  View.ld x0 (Rect.unit ![0, 512 * g.val] S128x512.size (inbX g))
def ldZ (g : Fin 4) (x1 : Vec F S128x2048 .bf16) : Vec F S128x512 .bf16 :=
  View.ld x1 (Rect.unit ![0, 512 * g.val] S128x512.size (inbZ g))
def ldN (g : Fin 4) (x4 : Vec F S1x2048 .f32) : Vec F S1x512 .f32 :=
  View.ld x4 (Rect.unit ![0, 512 * g.val] S1x512.size (inbN g))
def ldS (g : Fin 4) (xs : Vec F S4x128x512 .f32) : Vec F S1x128x512 .f32 :=
  View.ld xs (Rect.unit ![g.val, 0, 0] S1x128x512.size (inbS g))
def ldSel (g : Fin 4) (x7 : Vec F S4x384x1024 .bf16) : Vec F S1x384x1024 .bf16 :=
  View.ld x7 (Rect.unit ![g.val, 0, 0] S1x384x1024.size (inbSel g))

/-- The piece of the output that group `g` stores, from the blocks. -/
def outPiece (g : Fin 4) (x0 : Vec F S128x3072 .bf16) (x1 : Vec F S128x2048 .bf16) (x2 : Vec F S128x128 .f32)
    (x3 : Vec F S1x128 .f32) (x4 x5 : Vec F S1x2048 .f32) (x6 : Vec F S128x128 .bf16) (x7 : Vec F S4x384x1024 .bf16)
    (x8 : Vec F S256x2048 .bf16) (xs : Vec F S4x128x512 .f32) : FVec F S128x512 .bf16 :=
  groupOut (groupY g (k0_pay5 x2 x3 x6) (k0_pay6 x2) (k0_pay7 x2 x3 x6) (eOf x2 x3 x6 x8) (ldB g x0) (ldC g x0)
    (ldS g xs) (ldX g x0) (ldSel g x7) (ldN g x4)) (ldZ g x1) (ldN g x5)

/-- The piece of the state that group `g` stores, from the blocks. -/
def stPiece (g : Fin 4) (x0 : Vec F S128x3072 .bf16) (x2 : Vec F S128x128 .f32) (x3 : Vec F S1x128 .f32)
    (x6 : Vec F S128x128 .bf16) (x8 : Vec F S256x2048 .bf16) (xs : Vec F S4x128x512 .f32) : FVec F S1x128x512 .f32 :=
  groupSt g (eOf x2 x3 x6 x8) (decOf x2 x3 x6 x8) (ldB g x0) (ldS g xs) (ldX g x0)

end Cert.KernelIdeal.Ssd
-- ==== Proof.Ssd.Read.lean ====
/-
  The pieces of one block, read at an index over the reals: every column is `Cert.Ssd.col` of its
  head's data and every state column is `Cert.Ssd.next`.
-/
module

public import proofs.«01_k».proof.Proof.Ssd.Group
public import proofs.«01_k».proof.Proof.Ssd.Spec
public import Idealize.ShloMosaic.Lib.WordCmp

@[expose] public section

set_option maxRecDepth 16384

noncomputable section

namespace Cert.KernelIdeal.Ssd

open Cert.KernelIdeal Cert.KernelIdeal.Gen Cert.Ssd Idealize.ShloMosaic Idealize.ShloMosaic.WordCmp

/-- The values of the tables and of the steps a block is run with: `t` the steps, `d` the steps times
    the decay rates, both finite; the three tables of zeros and ones. -/
structure BlockData (x2 : Vec Ideal S128x128 .f32) (x3 : Vec Ideal S1x128 .f32) (x6 : Vec Ideal S128x128 .bf16)
    (x7 : Vec Ideal S4x384x1024 .bf16) (x8 : Vec Ideal S256x2048 .bf16) (t d : Fin 128 → Fin 128 → ℝ) : Prop where
  tri : ∀ l s : Fin 128, x6 (ix2 l s) = if s ≤ l then (1 : EReal) else 0
  sel : ∀ (g : Fin 4) (q : Fin 384) (c : Fin 1024), x7 (ix3 g q c) = if q.val % 128 = 8 * g.val + c.val / 128 then (1 : EReal) else 0
  spr : ∀ (q : Fin 256) (j : Fin 2048), x8 (ix2 q j) = if q.val % 128 = j.val / 64 then (1 : EReal) else 0
  step : ∀ s h : Fin 128, x2 (ix2 s h) = (t h s : EReal)
  rate : ∀ s h : Fin 128, x2 (ix2 s h) * (0 - Ideal.exp (x3 (ix2 0 h))) = (d h s : EReal)

theorem mask_eq : (Named.named κ "mask" 0xF149F2CA#32 : Ideal .f32) = (⊥ : EReal) :=
  IdealRules.named_const.ideal_named_scalar _ _ _ _ rfl

section
variable {x2 : Vec Ideal S128x128 .f32} {x3 : Vec Ideal S1x128 .f32} {x6 : Vec Ideal S128x128 .bf16}
  {x7 : Vec Ideal S4x384x1024 .bf16} {x8 : Vec Ideal S256x2048 .bf16} {t d : Fin 128 → Fin 128 → ℝ}

theorem acs_apply (H : BlockData x2 x3 x6 x7 x8 t d) (l h : Fin 128) :
    k0_pay4 x2 x3 x6 (ix2 l h) = ((acs (d h) l : ℝ) : EReal) := by
  pointwise [k0_pay4, k0_pay3]
  simp only [H.rate, coe_sub_self, H.tri, ite_mul, one_mul, zero_mul, mul_zero, sub_zero, ite_self, Finset.sum_const_zero, add_zero]
  unfold acs
  rw [← coe_sum]
  refine Finset.sum_congr rfl fun s _ => ?_
  split <;> simp

theorem e_apply (H : BlockData x2 x3 x6 x7 x8 t d) (l : Fin 128) (j : Fin 2048) :
    eOf x2 x3 x6 x8 (ix2 l j) = Ideal.exp ((acs (d ⟨j.val / 64, by omega⟩) l : ℝ) : EReal) := by
  pointwise [eOf, k0_pay12, k0_pay10, k0_pay11, k0_pay9]
  simp only [acs_apply H, Ideal.exp_coe, coe_sub_self, zero_mul, Finset.sum_const_zero, add_zero, H.spr]
  rw [← Ideal.exp_coe, ← sum_oneHot (fun x => Ideal.exp ((acs (d x) l : ℝ) : EReal)) ⟨j.val / 64, by omega⟩]
  refine Finset.sum_congr rfl fun x _ => ?_
  simp only [Ideal.exp_coe, Fin.ext_iff, Nat.mod_eq_of_lt x.isLt]

theorem dec_apply (H : BlockData x2 x3 x6 x7 x8 t d) (l : Fin 128) (j : Fin 2048) :
    decOf x2 x3 x6 x8 (ix2 l j) = Ideal.exp ((acs (d ⟨j.val / 64, by omega⟩) 127 - acs (d ⟨j.val / 64, by omega⟩) l : ℝ) : EReal)
      * (t ⟨j.val / 64, by omega⟩ l : EReal) := by
  pointwise [decOf, k0_pay13, k0_pay8, k0_pay3]
  simp only [acs_apply H, H.step, ← EReal.coe_sub, Ideal.exp_coe, ← EReal.coe_mul, sub_self, EReal.coe_zero, zero_mul,
    Finset.sum_const_zero, add_zero, H.spr]
  rw [← sum_oneHot (fun x => ((Real.exp (acs (d x) 127 - acs (d x) l) * t x l : ℝ) : EReal)) ⟨j.val / 64, by omega⟩]
  refine Finset.sum_congr rfl fun x _ => ?_
  simp only [Fin.ext_iff, Nat.mod_eq_of_lt x.isLt]

theorem cols_apply (H : BlockData x2 x3 x6 x7 x8 t d) (g : Fin 4) (l : Fin 128) (c : Fin 1024) :
    colsOf (k0_pay7 x2 x3 x6) (ldSel g x7) (ix2 l c) = ((acs (d ⟨8 * g.val + c.val / 128, by omega⟩) l : ℝ) : EReal) := by
  pointwise [colsOf, k0_pay24, k0_pay7, ldSel]
  simp only [acs_apply H, coe_sub_self, sub_zero, dite_eq_ite, ite_self, H.sel]
  rw [Fin.sum_univ_two_halves 128 256 rfl]
  have hz : ∀ x : Fin 256, ¬ (128 + x.val < 128) := fun x => by omega
  simp only [hz, Fin.is_lt, dite_true, dite_false, zero_mul, Finset.sum_const_zero, add_zero]
  rw [← sum_oneHot (fun x => ((acs (d x) l : ℝ) : EReal)) ⟨8 * g.val + c.val / 128, by omega⟩]
  refine Finset.sum_congr rfl fun x _ => ?_
  simp only [Fin.ext_iff, Nat.mod_eq_of_lt x.isLt]

theorem headW_apply (H : BlockData x2 x3 x6 x7 x8 t d) (g : Fin 4) (k : Fin 8) (cb : FVec Ideal S128x128 .f32) (l s : Fin 128) :
    headW g k (k0_pay5 x2 x3 x6) (k0_pay6 x2) cb (colsOf (k0_pay7 x2 x3 x6) (ldSel g x7)) (ix2 l s)
      = cb (ix2 l s) * decay (d ⟨8 * g.val + k.val, by omega⟩) l s * (t ⟨8 * g.val + k.val, by omega⟩ s : EReal) := by
  have hc : ∀ (h : 128 * k.val + s.val < 1024), colsOf (k0_pay7 x2 x3 x6) (ldSel g x7) (ix2 l ⟨128 * k.val + s.val, h⟩)
      = ((acs (d ⟨8 * g.val + k.val, by omega⟩) l : ℝ) : EReal) := fun h => by
    rw [cols_apply H]
    have e : (⟨8 * g.val + (128 * k.val + s.val) / 128, by omega⟩ : Fin 128) = ⟨8 * g.val + k.val, by omega⟩ := Fin.ext (by dsimp only; omega)
    rw [e]
  pointwise [headW, k0_pay14, k0_pay5, k0_pay6, k0_pay3]
  rw [hc, acs_apply H, H.step, mask_eq]
  unfold decay
  have hl := l.isLt
  have hs := s.isLt
  by_cases h : s ≤ l
  · rw [if_pos h, Scalar.select_of_eq_one ((cmpi_sge_ofNat_eq_one_iff (by omega) (by omega)).mpr h), EReal.coe_sub]
  · rw [if_neg h, Scalar.select_of_eq_zero ((cmpi_sge_ofNat_eq_zero_iff (by omega) (by omega)).mpr h)]

theorem pairY_apply (w0 w1 x : FVec Ideal S128x128 .bf16) (l s : Fin 128) :
    pairY w0 w1 x (ix2 l s) = ∑ r : Fin 128, (if s.val < 64 then w0 else w1) (ix2 l r) * x (ix2 r s) := by
  pointwise [pairY, k0_pay15, k0_pay16]
  have hs := s.isLt
  by_cases h : s.val < 64
  · simp only [Scalar.select_of_eq_one ((cmpi_slt_ofNat_eq_one_iff (w := 32) (a := s.val) (b := 64) (by omega) (by omega)).mpr h),
      Finset.sum_const_zero, add_zero, if_pos h]
  · simp only [Scalar.select_of_eq_zero ((cmpi_slt_ofNat_eq_zero_iff (w := 32) (a := s.val) (b := 64) (by omega) (by omega)).mpr (by omega)),
      Finset.sum_const_zero, zero_add, if_neg h]

theorem pairOf_apply (g : Fin 4) (p : Fin 4) (acsT dtT cb : FVec Ideal S128x128 .f32) (cols : FVec Ideal S128x1024 .f32)
    (x : FVec Ideal S128x512 .bf16) (l s : Fin 128) (j : Fin 512) (hj : j.val = 128 * p.val + s.val) :
    pairOf g p acsT dtT cb cols x (ix2 l s)
      = ∑ r : Fin 128, headW g ⟨j.val / 64, by omega⟩ acsT dtT cb cols (ix2 l r) * x (ix2 r j) := by
  unfold pairOf
  rw [pairY_apply]
  refine Finset.sum_congr rfl fun r _ => ?_
  pointwise
  have hx : ∀ h, (⟨128 * p.val + s.val, h⟩ : Fin 512) = j := fun h => Fin.ext hj.symm
  rw [hx]
  congr 1
  have hp := p.isLt
  have hs := s.isLt
  by_cases h : s.val < 64
  · rw [if_pos h]; congr 2; omega
  · rw [if_neg h]; congr 2; omega

theorem groupY_apply (H : BlockData x2 x3 x6 x7 x8 t d) (g : Fin 4) (B C : Vec Ideal S128x128 .bf16) (st : Vec Ideal S1x128x512 .f32)
    (x : Vec Ideal S128x512 .bf16) (dsk : Vec Ideal S1x512 .f32) (l : Fin 128) (j : Fin 512) :
    groupY g (k0_pay5 x2 x3 x6) (k0_pay6 x2) (k0_pay7 x2 x3 x6) (eOf x2 x3 x6 x8) B C st x (ldSel g x7) dsk (ix2 l j)
      = col (fun l n => C (ix2 l n)) (fun s n => B (ix2 s n)) (fun s => x (ix2 s j))
          (fun s => (t ⟨8 * g.val + j.val / 64, by omega⟩ s : EReal)) (d ⟨8 * g.val + j.val / 64, by omega⟩) (fun n => st (ix3 0 n j)) l
        + dsk (ix2 0 j) * x (ix2 l j) := by
  have hx : k0_pay23 x = x := by funext i; pointwise [k0_pay23]
  pointwise [groupY, k0_pay22, k0_pay18, k0_pay21]
  rw [hx]
  unfold col
  congr 2
  · have hj := j.isLt
    have key : ∀ (p : Fin 4) (s : Fin 128) (hs : j.val = 128 * p.val + s.val),
        pairOf g p (k0_pay5 x2 x3 x6) (k0_pay6 x2) (cbOf B C) (colsOf (k0_pay7 x2 x3 x6) (ldSel g x7)) x (ix2 l s)
        = own (fun l n => C (ix2 l n)) (fun s n => B (ix2 s n)) (fun s => x (ix2 s j))
          (fun s => (t ⟨8 * g.val + j.val / 64, by omega⟩ s : EReal)) (d ⟨8 * g.val + j.val / 64, by omega⟩) l := by
      intro p s hs
      rw [pairOf_apply _ _ _ _ _ _ _ _ _ j hs]
      unfold own
      refine Finset.sum_congr rfl fun r _ => ?_
      rw [headW_apply H]
      congr 3
      pointwise [cbOf, k0_pay19, k0_pay17, k0_pay18]
    split
    · exact key 0 _ (by simp)
    · split
      · exact key 1 _ (by simp; omega)
      · split
        · exact key 2 _ (by simp; omega)
        · exact key 3 _ (by simp; omega)
  · unfold carried
    rw [e_apply H]
    congr 5
    exact Fin.ext (by dsimp only; omega)

theorem groupSt_apply (H : BlockData x2 x3 x6 x7 x8 t d) (g : Fin 4) (B : Vec Ideal S128x128 .bf16) (st : Vec Ideal S1x128x512 .f32)
    (x : Vec Ideal S128x512 .bf16) (n : Fin 128) (j : Fin 512) :
    groupSt g (eOf x2 x3 x6 x8) (decOf x2 x3 x6 x8) B st x (ix3 0 n j)
      = next (fun s n => B (ix2 s n)) (fun s => x (ix2 s j))
          (fun s => (t ⟨8 * g.val + j.val / 64, by omega⟩ s : EReal)) (d ⟨8 * g.val + j.val / 64, by omega⟩) (fun n => st (ix3 0 n j)) n := by
  pointwise [groupSt, k0_pay20, k0_pay17, k0_pay21, k0_pay23]
  have e : (⟨(512 * g.val + j.val) / 64, by omega⟩ : Fin 128) = ⟨8 * g.val + j.val / 64, by omega⟩ := Fin.ext (by dsimp only; omega)
  simp only [e_apply H, dec_apply H, e]
  rfl

theorem groupOut_apply (y : FVec Ideal S128x512 .f32) (z : Vec Ideal S128x512 .bf16) (nw : Vec Ideal S1x512 .f32) (l : Fin 128) (j : Fin 512) :
    groupOut y z nw (ix2 l j) = gated (fun j => y (ix2 l j)) (fun j => z (ix2 l j)) (fun j => nw (ix2 0 j)) j := by
  pointwise [groupOut, k0_pay38, k0_pay39]
  rfl

/-- The output piece of group `g`, read at row `l` and column `j`. -/
theorem outPiece_apply (H : BlockData x2 x3 x6 x7 x8 t d) (g : Fin 4) (x0 : Vec Ideal S128x3072 .bf16) (x1 : Vec Ideal S128x2048 .bf16)
    (x4 x5 : Vec Ideal S1x2048 .f32) (xs : Vec Ideal S4x128x512 .f32) (l : Fin 128) (j : Fin 512) :
    outPiece g x0 x1 x2 x3 x4 x5 x6 x7 x8 xs (ix2 l j)
      = gated (fun j => col (fun l n => x0 (ix2 l ⟨2560 + 128 * g.val + n.val, by omega⟩))
            (fun s n => x0 (ix2 s ⟨2048 + 128 * g.val + n.val, by omega⟩)) (fun s => x0 (ix2 s ⟨512 * g.val + j.val, by omega⟩))
            (fun s => (t ⟨8 * g.val + j.val / 64, by omega⟩ s : EReal)) (d ⟨8 * g.val + j.val / 64, by omega⟩) (fun n => xs (ix3 g n j)) l
          + x4 (ix2 0 ⟨512 * g.val + j.val, by omega⟩) * x0 (ix2 l ⟨512 * g.val + j.val, by omega⟩))
        (fun j => x1 (ix2 l ⟨512 * g.val + j.val, by omega⟩)) (fun j => x5 (ix2 0 ⟨512 * g.val + j.val, by omega⟩)) j := by
  unfold outPiece
  rw [groupOut_apply]
  simp only [groupY_apply H]
  pointwise [ldB, ldC, ldX, ldZ, ldN, ldS]

/-- The state piece of group `g`, read at state row `n` and column `j`. -/
theorem stPiece_apply (H : BlockData x2 x3 x6 x7 x8 t d) (g : Fin 4) (x0 : Vec Ideal S128x3072 .bf16) (xs : Vec Ideal S4x128x512 .f32)
    (n : Fin 128) (j : Fin 512) :
    stPiece g x0 x2 x3 x6 x8 xs (ix3 0 n j)
      = next (fun s n => x0 (ix2 s ⟨2048 + 128 * g.val + n.val, by omega⟩)) (fun s => x0 (ix2 s ⟨512 * g.val + j.val, by omega⟩))
          (fun s => (t ⟨8 * g.val + j.val / 64, by omega⟩ s : EReal)) (d ⟨8 * g.val + j.val / 64, by omega⟩) (fun n => xs (ix3 g n j)) n := by
  unfold stPiece
  rw [groupSt_apply H]
  pointwise [ldB, ldX, ldS]

end

end Cert.KernelIdeal.Ssd
-- ==== Proof.Ssd.Blocks.lean ====
/-
  The blocks the kernel's body reads at a grid point, of the arguments of the program.
-/
module

public import proofs.«01_k».proof.Proof.Ssd.Entry
public import proofs.«01_k».proof.Proof.Ssd.Read
public import proofs.«01_k».proof.Proof.Ssd.Chain
public import Idealize.ShloMosaic.Lib.Pipeline.ValueKit

@[expose] public section

set_option maxRecDepth 16384

noncomputable section

namespace Cert.KernelIdeal.Ssd

open Cert.KernelIdeal Cert.KernelIdeal.Gen Cert.Ssd Idealize.ShloMosaic Idealize.ShloMosaic.TcCoe

variable (m : (ℓ : Loc nD τ sig) → Buf (Elt Ideal) ℓ) (c : Dev nD)

theorem lt_points (t : Fin cfg0.N) : t.val < 256 := lt_of_lt_of_eq t.isLt (show cfg0.N = 256 from N_0)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0, 0] := by decide +kernel
theorem idx8 : ∀ t : Fin cfg0.N, win0_8.index t = ![0, 0] := by decide +kernel

theorem blk0_apply (t : Fin cfg0.N) (l : Fin 128) (j : Fin 3072) :
    (iblk m c 0 t : Vec Ideal S128x3072 .bf16) (ix2 l j) = V m c main_v1 (ix2 ⟨128 * t.val + l.val, by have := lt_points t; omega⟩ j) := by
  blk_ext [iblk, idx0 t]

theorem blk1_apply (t : Fin cfg0.N) (l : Fin 128) (j : Fin 2048) :
    (iblk m c 1 t : Vec Ideal S128x2048 .bf16) (ix2 l j) = V m c main_v3 (ix2 ⟨128 * t.val + l.val, by have := lt_points t; omega⟩ j) := by
  blk_ext [iblk, idx1 t]

theorem blk2_apply (t : Fin cfg0.N) (l h : Fin 128) :
    (iblk m c 2 t : Vec Ideal S128x128 .f32) (ix2 l h) = V m c main_v5 (ix2 ⟨128 * t.val + l.val, by have := lt_points t; omega⟩ h) := by
  blk_ext [iblk, idx2 t]

theorem blk3_apply (t : Fin cfg0.N) (h : Fin 128) :
    (iblk m c 3 t : Vec Ideal S1x128 .f32) (ix2 0 h) = V m c main_v7 (ix2 0 h) := by
  blk_ext [iblk, idx3 t]

theorem blk4_apply (t : Fin cfg0.N) (j : Fin 2048) :
    (iblk m c 4 t : Vec Ideal S1x2048 .f32) (ix2 0 j) = V m c main_v10 (ix2 0 j) := by
  blk_ext [iblk, idx4 t]

theorem blk5_apply (t : Fin cfg0.N) (j : Fin 2048) :
    (iblk m c 5 t : Vec Ideal S1x2048 .f32) (ix2 0 j) = V m c main_v11 (ix2 0 j) := by
  blk_ext [iblk, idx5 t]

theorem blk6_apply (t : Fin cfg0.N) (l s : Fin 128) :
    (iblk m c 6 t : Vec Ideal S128x128 .bf16) (ix2 l s) = V m c main_v16 (ix2 l s) := by
  blk_ext [iblk, idx6 t]

theorem blk7_apply (t : Fin cfg0.N) (g : Fin 4) (q : Fin 384) (j : Fin 1024) :
    (iblk m c 7 t : Vec Ideal S4x384x1024 .bf16) (ix3 g q j) = V m c main_v27 (ix3 g q j) := by
  blk_ext [iblk, idx7 t]

theorem blk8_apply (t : Fin cfg0.N) (q : Fin 256) (j : Fin 2048) :
    (iblk m c 8 t : Vec Ideal S256x2048 .bf16) (ix2 q j) = V m c main_v34 (ix2 q j) := by
  blk_ext [iblk, idx8 t]

end Cert.KernelIdeal.Ssd

end
-- ==== Proof.Ssd.Open.lean ====
/- The block's found pieces are the named ones: at a sequence's first chunk (case A) and at the others (case B). -/
module

public import proofs.«01_k».proof.Proof.Ssd.Group
public import Idealize.ShloMosaic.Lib.Pipeline.ReadBack

@[expose] public section

noncomputable section

namespace Cert.KernelIdeal.Ssd

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl

/-- The state at a sequence's first chunk. -/
def zeroSt : Vec F S4x128x512 .f32 := k0_pay2

theorem sout_B (c : Dev nD) (i : grid0.Coords) (a2 : Memref sig .tc .vmem S128x3072 .bf16) (h2 : a2.IsWhole) (a3 : Memref sig .tc .vmem S128x2048 .bf16) (h3 : a3.IsWhole) (a4 : Memref sig .tc .vmem S128x128 .f32) (h4 : a4.IsWhole) (a5 : Memref sig .tc .vmem S1x128 .f32) (h5 : a5.IsWhole) (a6 : Memref sig .tc .vmem S1x2048 .f32) (h6 : a6.IsWhole) (a7 : Memref sig .tc .vmem S1x2048 .f32) (h7 : a7.IsWhole) (a8 : Memref sig .tc .vmem S128x128 .bf16) (h8 : a8.IsWhole) (a9 : Memref sig .tc .vmem S4x384x1024 .bf16) (h9 : a9.IsWhole) (a10 : Memref sig .tc .vmem S256x2048 .bf16) (h10 : a10.IsWhole) (a11 : Memref sig .tc .vmem S128x2048 .bf16) (h11 : a11.IsWhole) (a12 : Memref sig .tc .vmem S4x128x512 .f32) (h12 : a12.IsWhole) (hc : ¬ cond0_0 i)
    (x0 : Vec F S128x3072 .bf16) (x1 : Vec F S128x2048 .bf16) (x2 : Vec F S128x128 .f32) (x3 : Vec F S1x128 .f32) (x4 : Vec F S1x2048 .f32) (x5 : Vec F S1x2048 .f32) (x6 : Vec F S128x128 .bf16) (x7 : Vec F S4x384x1024 .bf16) (x8 : Vec F S256x2048 .bf16) (xs : Vec F S4x128x512 .f32) :
    sout0_B_0 c i a2 h2 a3 h3 a4 h4 a5 h5 a6 h6 a7 h7 a8 h8 a9 h9 a10 h10 a11 h11 a12 h12 hc x0 x1 x2 x3 x4 x5 x6 x7 x8 xs = View.canon
    [⟨Rect.unit ![3, 0, 0] ![1, 128, 512] inb_S4x128x512_S1x128x512_3_0_0, stPiece 3 x0 x2 x3 x6 x8 xs⟩,
      ⟨Rect.unit ![2, 0, 0] ![1, 128, 512] inb_S4x128x512_S1x128x512_2_0_0, stPiece 2 x0 x2 x3 x6 x8 xs⟩,
      ⟨Rect.unit ![1, 0, 0] ![1, 128, 512] inb_S4x128x512_S1x128x512_1_0_0, stPiece 1 x0 x2 x3 x6 x8 xs⟩,
      ⟨Rect.unit ![0, 0, 0] ![1, 128, 512] inb_S4x128x512_S1x128x512_0_0_0, stPiece 0 x0 x2 x3 x6 x8 xs⟩] := by
  unfold sout0_B_0
  rw [View.read_writes_eq_canon _ _ _ (scover0_B_0 c i a2 h2 a3 h3 a4 h4 a5 h5 a6 h6 a7 h7 a8 h8 a9 h9 a10 h10 a11 h11 a12 h12 hc x0 x1 x2 x3 x4 x5 x6 x7 x8 xs)]
  unfold kernelRun0_B
  dsimp only
  sl_unfold_words
  simp only [View.readAt_eq_ld, h2.read_unread, h3.read_unread, h4.read_unread, h5.read_unread, h6.read_unread,
    h7.read_unread, h8.read_unread, h9.read_unread, h10.read_unread, h12.read_unread,
    View.ld_unit_zero (S := S128x128) hz2, View.ld_unit_zero (S := S1x128) hz2, View.ld_unit_zero (S := S256x2048) hz2]
  rfl

theorem out_B (c : Dev nD) (i : grid0.Coords) (a2 : Memref sig .tc .vmem S128x3072 .bf16) (h2 : a2.IsWhole) (a3 : Memref sig .tc .vmem S128x2048 .bf16) (h3 : a3.IsWhole) (a4 : Memref sig .tc .vmem S128x128 .f32) (h4 : a4.IsWhole) (a5 : Memref sig .tc .vmem S1x128 .f32) (h5 : a5.IsWhole) (a6 : Memref sig .tc .vmem S1x2048 .f32) (h6 : a6.IsWhole) (a7 : Memref sig .tc .vmem S1x2048 .f32) (h7 : a7.IsWhole) (a8 : Memref sig .tc .vmem S128x128 .bf16) (h8 : a8.IsWhole) (a9 : Memref sig .tc .vmem S4x384x1024 .bf16) (h9 : a9.IsWhole) (a10 : Memref sig .tc .vmem S256x2048 .bf16) (h10 : a10.IsWhole) (a11 : Memref sig .tc .vmem S128x2048 .bf16) (h11 : a11.IsWhole) (a12 : Memref sig .tc .vmem S4x128x512 .f32) (h12 : a12.IsWhole) (hc : ¬ cond0_0 i)
    (x0 : Vec F S128x3072 .bf16) (x1 : Vec F S128x2048 .bf16) (x2 : Vec F S128x128 .f32) (x3 : Vec F S1x128 .f32) (x4 : Vec F S1x2048 .f32) (x5 : Vec F S1x2048 .f32) (x6 : Vec F S128x128 .bf16) (x7 : Vec F S4x384x1024 .bf16) (x8 : Vec F S256x2048 .bf16) (xs : Vec F S4x128x512 .f32) :
    out0_B_9 c i a2 h2 a3 h3 a4 h4 a5 h5 a6 h6 a7 h7 a8 h8 a9 h9 a10 h10 a11 h11 a12 h12 hc x0 x1 x2 x3 x4 x5 x6 x7 x8 xs = View.canon
    [⟨Rect.unit ![0, 1536] ![128, 512] inb_S128x2048_S128x512_0_1536, outPiece 3 x0 x1 x2 x3 x4 x5 x6 x7 x8 xs⟩,
      ⟨Rect.unit ![0, 1024] ![128, 512] inb_S128x2048_S128x512_0_1024, outPiece 2 x0 x1 x2 x3 x4 x5 x6 x7 x8 xs⟩,
      ⟨Rect.unit ![0, 512] ![128, 512] inb_S128x2048_S128x512_0_512, outPiece 1 x0 x1 x2 x3 x4 x5 x6 x7 x8 xs⟩,
      ⟨Rect.unit ![0, 0] ![128, 512] inb_S128x2048_S128x512_0_0, outPiece 0 x0 x1 x2 x3 x4 x5 x6 x7 x8 xs⟩] := by
  unfold out0_B_9
  rw [View.read_writes_eq_canon _ _ _ (cover0_B_9 c i a2 h2 a3 h3 a4 h4 a5 h5 a6 h6 a7 h7 a8 h8 a9 h9 a10 h10 a11 h11 a12 h12 hc x0 x1 x2 x3 x4 x5 x6 x7 x8 xs)]
  unfold kernelRun0_B
  dsimp only
  sl_unfold_words
  simp only [View.readAt_eq_ld, h2.read_unread, h3.read_unread, h4.read_unread, h5.read_unread, h6.read_unread,
    h7.read_unread, h8.read_unread, h9.read_unread, h10.read_unread, h12.read_unread,
    View.ld_unit_zero (S := S128x128) hz2, View.ld_unit_zero (S := S1x128) hz2, View.ld_unit_zero (S := S256x2048) hz2]
  rfl

theorem sout_A (c : Dev nD) (i : grid0.Coords) (a2 : Memref sig .tc .vmem S128x3072 .bf16) (h2 : a2.IsWhole) (a3 : Memref sig .tc .vmem S128x2048 .bf16) (h3 : a3.IsWhole) (a4 : Memref sig .tc .vmem S128x128 .f32) (h4 : a4.IsWhole) (a5 : Memref sig .tc .vmem S1x128 .f32) (h5 : a5.IsWhole) (a6 : Memref sig .tc .vmem S1x2048 .f32) (h6 : a6.IsWhole) (a7 : Memref sig .tc .vmem S1x2048 .f32) (h7 : a7.IsWhole) (a8 : Memref sig .tc .vmem S128x128 .bf16) (h8 : a8.IsWhole) (a9 : Memref sig .tc .vmem S4x384x1024 .bf16) (h9 : a9.IsWhole) (a10 : Memref sig .tc .vmem S256x2048 .bf16) (h10 : a10.IsWhole) (a11 : Memref sig .tc .vmem S128x2048 .bf16) (h11 : a11.IsWhole) (a12 : Memref sig .tc .vmem S4x128x512 .f32) (h12 : a12.IsWhole) (hc : cond0_0 i)
    (x0 : Vec F S128x3072 .bf16) (x1 : Vec F S128x2048 .bf16) (x2 : Vec F S128x128 .f32) (x3 : Vec F S1x128 .f32) (x4 : Vec F S1x2048 .f32) (x5 : Vec F S1x2048 .f32) (x6 : Vec F S128x128 .bf16) (x7 : Vec F S4x384x1024 .bf16) (x8 : Vec F S256x2048 .bf16) :
    sout0_A_0 c i a2 h2 a3 h3 a4 h4 a5 h5 a6 h6 a7 h7 a8 h8 a9 h9 a10 h10 a11 h11 a12 h12 hc x0 x1 x2 x3 x4 x5 x6 x7 x8 = View.canon
    [⟨Rect.unit ![3, 0, 0] ![1, 128, 512] inb_S4x128x512_S1x128x512_3_0_0, stPiece 3 x0 x2 x3 x6 x8 (zeroSt)⟩,
      ⟨Rect.unit ![2, 0, 0] ![1, 128, 512] inb_S4x128x512_S1x128x512_2_0_0, stPiece 2 x0 x2 x3 x6 x8 (zeroSt)⟩,
      ⟨Rect.unit ![1, 0, 0] ![1, 128, 512] inb_S4x128x512_S1x128x512_1_0_0, stPiece 1 x0 x2 x3 x6 x8 (zeroSt)⟩,
      ⟨Rect.unit ![0, 0, 0] ![1, 128, 512] inb_S4x128x512_S1x128x512_0_0_0, stPiece 0 x0 x2 x3 x6 x8 (zeroSt)⟩,
      ⟨Rect.unit ![0, 0, 0] ![4, 128, 512] inb_S4x128x512_S4x128x512_0_0_0, zeroSt⟩] := by
  unfold sout0_A_0
  rw [View.read_writes_eq_canon _ _ _ (scover0_A_0 c i a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  simp (disch := decide) only [↓ View.readCov_skip, ↓ View.readCov_fill]
  simp only [View.readAt_eq_ld, h2.read_unread, h3.read_unread, h4.read_unread, h5.read_unread, h6.read_unread,
    h7.read_unread, h8.read_unread, h9.read_unread, h10.read_unread,
    View.ld_unit_zero (S := S128x128) hz2, View.ld_unit_zero (S := S1x128) hz2, View.ld_unit_zero (S := S256x2048) hz2]
  rfl

theorem out_A (c : Dev nD) (i : grid0.Coords) (a2 : Memref sig .tc .vmem S128x3072 .bf16) (h2 : a2.IsWhole) (a3 : Memref sig .tc .vmem S128x2048 .bf16) (h3 : a3.IsWhole) (a4 : Memref sig .tc .vmem S128x128 .f32) (h4 : a4.IsWhole) (a5 : Memref sig .tc .vmem S1x128 .f32) (h5 : a5.IsWhole) (a6 : Memref sig .tc .vmem S1x2048 .f32) (h6 : a6.IsWhole) (a7 : Memref sig .tc .vmem S1x2048 .f32) (h7 : a7.IsWhole) (a8 : Memref sig .tc .vmem S128x128 .bf16) (h8 : a8.IsWhole) (a9 : Memref sig .tc .vmem S4x384x1024 .bf16) (h9 : a9.IsWhole) (a10 : Memref sig .tc .vmem S256x2048 .bf16) (h10 : a10.IsWhole) (a11 : Memref sig .tc .vmem S128x2048 .bf16) (h11 : a11.IsWhole) (a12 : Memref sig .tc .vmem S4x128x512 .f32) (h12 : a12.IsWhole) (hc : cond0_0 i)
    (x0 : Vec F S128x3072 .bf16) (x1 : Vec F S128x2048 .bf16) (x2 : Vec F S128x128 .f32) (x3 : Vec F S1x128 .f32) (x4 : Vec F S1x2048 .f32) (x5 : Vec F S1x2048 .f32) (x6 : Vec F S128x128 .bf16) (x7 : Vec F S4x384x1024 .bf16) (x8 : Vec F S256x2048 .bf16) :
    out0_A_9 c i a2 h2 a3 h3 a4 h4 a5 h5 a6 h6 a7 h7 a8 h8 a9 h9 a10 h10 a11 h11 a12 h12 hc x0 x1 x2 x3 x4 x5 x6 x7 x8 = View.canon
    [⟨Rect.unit ![0, 1536] ![128, 512] inb_S128x2048_S128x512_0_1536, outPiece 3 x0 x1 x2 x3 x4 x5 x6 x7 x8 (zeroSt)⟩,
      ⟨Rect.unit ![0, 1024] ![128, 512] inb_S128x2048_S128x512_0_1024, outPiece 2 x0 x1 x2 x3 x4 x5 x6 x7 x8 (zeroSt)⟩,
      ⟨Rect.unit ![0, 512] ![128, 512] inb_S128x2048_S128x512_0_512, outPiece 1 x0 x1 x2 x3 x4 x5 x6 x7 x8 (zeroSt)⟩,
      ⟨Rect.unit ![0, 0] ![128, 512] inb_S128x2048_S128x512_0_0, outPiece 0 x0 x1 x2 x3 x4 x5 x6 x7 x8 (zeroSt)⟩] := by
  unfold out0_A_9
  rw [View.read_writes_eq_canon _ _ _ (cover0_A_9 c i a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  simp (disch := decide) only [↓ View.readCov_skip, ↓ View.readCov_fill]
  simp only [View.readAt_eq_ld, h2.read_unread, h3.read_unread, h4.read_unread, h5.read_unread, h6.read_unread,
    h7.read_unread, h8.read_unread, h9.read_unread, h10.read_unread,
    View.ld_unit_zero (S := S128x128) hz2, View.ld_unit_zero (S := S1x128) hz2, View.ld_unit_zero (S := S256x2048) hz2]
  rfl

end Cert.KernelIdeal.Ssd
-- ==== Proof.Ssd.Tiles.lean ====
/-
  A buffer stored group by group, read at an index of one group.
-/
module

public import proofs.«01_k».proof.Proof.Ssd.Open
public import Idealize.ShloMosaic.Lib.Pipeline.ValueKit
public import Idealize.ShloMosaic.Lib.Pipeline.ReadBack

@[expose] public section

set_option maxRecDepth 16384

noncomputable section

namespace Cert.KernelIdeal.Ssd

open Cert.KernelIdeal Cert.KernelIdeal.Gen Idealize.ShloMosaic Idealize.ShloMosaic.TcCoe

theorem cols_canon (P : Fin 4 → FVec Ideal S128x512 .bf16) (g : Fin 4) (l : Fin 128) (j : Fin 512) :
    View.canon
    [(⟨Rect.unit ![0, 1536] ![128, 512] inb_S128x2048_S128x512_0_1536, P 3⟩ : View.Piece (Elt Ideal) S128x2048 .bf16),
      ⟨Rect.unit ![0, 1024] ![128, 512] inb_S128x2048_S128x512_0_1024, P 2⟩,
      ⟨Rect.unit ![0, 512] ![128, 512] inb_S128x2048_S128x512_0_512, P 1⟩,
      ⟨Rect.unit ![0, 0] ![128, 512] inb_S128x2048_S128x512_0_0, P 0⟩] (ix2 l ⟨512 * g.val + j.val, by omega⟩) = P g (ix2 l j) := by
  canon_tiles x h
  · have hj := j.isLt
    have hg := g.isLt
    have h1' : 512 * g.val + j.val = 1536 + (x 1).val := h1
    have e : g = 3 := Fin.ext (by show g.val = 3; omega)
    subst e
    refine congrArg (P 3) (funext fun a => Fin.ext ?_)
    match a with
    | ⟨0, _⟩ => exact h0.symm
    | ⟨1, _⟩ => show (x 1).val = j.val; change 512 * 3 + j.val = _ at h1'; omega
  · have hj := j.isLt
    have hg := g.isLt
    have h1' : 512 * g.val + j.val = 1024 + (x 1).val := h1
    have e : g = 2 := Fin.ext (by show g.val = 2; omega)
    subst e
    refine congrArg (P 2) (funext fun a => Fin.ext ?_)
    match a with
    | ⟨0, _⟩ => exact h0.symm
    | ⟨1, _⟩ => show (x 1).val = j.val; change 512 * 2 + j.val = _ at h1'; omega
  · have hj := j.isLt
    have hg := g.isLt
    have h1' : 512 * g.val + j.val = 512 + (x 1).val := h1
    have e : g = 1 := Fin.ext (by show g.val = 1; omega)
    subst e
    refine congrArg (P 1) (funext fun a => Fin.ext ?_)
    match a with
    | ⟨0, _⟩ => exact h0.symm
    | ⟨1, _⟩ => show (x 1).val = j.val; change 512 * 1 + j.val = _ at h1'; omega
  · have hj := j.isLt
    have hg := g.isLt
    have h1' : 512 * g.val + j.val = (x 1).val := h1
    have e : g = 0 := Fin.ext (by show g.val = 0; omega)
    subst e
    refine congrArg (P 0) (funext fun a => Fin.ext ?_)
    match a with
    | ⟨0, _⟩ => exact h0.symm
    | ⟨1, _⟩ => show (x 1).val = j.val; change 512 * 0 + j.val = _ at h1'; omega

theorem groups_canon (P : Fin 4 → FVec Ideal S1x128x512 .f32) (L : List (View.Piece (Elt Ideal) S4x128x512 .f32)) (g : Fin 4) (n : Fin 128)
    (j : Fin 512) :
    View.canon
    ((⟨Rect.unit ![3, 0, 0] ![1, 128, 512] inb_S4x128x512_S1x128x512_3_0_0, P 3⟩ : View.Piece (Elt Ideal) S4x128x512 .f32) ::
      ⟨Rect.unit ![2, 0, 0] ![1, 128, 512] inb_S4x128x512_S1x128x512_2_0_0, P 2⟩ ::
      ⟨Rect.unit ![1, 0, 0] ![1, 128, 512] inb_S4x128x512_S1x128x512_1_0_0, P 1⟩ ::
      ⟨Rect.unit ![0, 0, 0] ![1, 128, 512] inb_S4x128x512_S1x128x512_0_0_0, P 0⟩ :: L) (ix3 g n j) = P g (ix3 0 n j) := by
  refine View.canon_append_of_piecesOf (fun i => P (i 0) (ix3 0 (i 1) (i 2))) L [_, _, _, _] ⟨?_, ?_, ?_, ?_, trivial⟩ (ix3 g n j) ?_
  · intro x
    have e : (Rect.unit ![3, 0, 0] ![1, 128, 512] inb_S4x128x512_S1x128x512_3_0_0).emb x = (ix3 3 (x 1) (x 2) : S4x128x512.Idx) := by
      have h0 : (x 0).val < 1 := (x 0).isLt
      funext a
      apply Fin.ext
      match a with
      | ⟨0, _⟩ => show 3 + 1 * (x 0).val = 3; omega
      | ⟨1, _⟩ => show 0 + 1 * (x 1).val = (x 1).val; omega
      | ⟨2, _⟩ => show 0 + 1 * (x 2).val = (x 2).val; omega
    rw [e]
    refine congrArg (P 3) (funext fun a => Fin.ext ?_)
    have h0 : (x 0).val < 1 := (x 0).isLt
    match a with
    | ⟨0, _⟩ => show (x 0).val = 0; omega
    | ⟨1, _⟩ => rfl
    | ⟨2, _⟩ => rfl
  · intro x
    have e : (Rect.unit ![2, 0, 0] ![1, 128, 512] inb_S4x128x512_S1x128x512_2_0_0).emb x = (ix3 2 (x 1) (x 2) : S4x128x512.Idx) := by
      have h0 : (x 0).val < 1 := (x 0).isLt
      funext a
      apply Fin.ext
      match a with
      | ⟨0, _⟩ => show 2 + 1 * (x 0).val = 2; omega
      | ⟨1, _⟩ => show 0 + 1 * (x 1).val = (x 1).val; omega
      | ⟨2, _⟩ => show 0 + 1 * (x 2).val = (x 2).val; omega
    rw [e]
    refine congrArg (P 2) (funext fun a => Fin.ext ?_)
    have h0 : (x 0).val < 1 := (x 0).isLt
    match a with
    | ⟨0, _⟩ => show (x 0).val = 0; omega
    | ⟨1, _⟩ => rfl
    | ⟨2, _⟩ => rfl
  · intro x
    have e : (Rect.unit ![1, 0, 0] ![1, 128, 512] inb_S4x128x512_S1x128x512_1_0_0).emb x = (ix3 1 (x 1) (x 2) : S4x128x512.Idx) := by
      have h0 : (x 0).val < 1 := (x 0).isLt
      funext a
      apply Fin.ext
      match a with
      | ⟨0, _⟩ => show 1 + 1 * (x 0).val = 1; omega
      | ⟨1, _⟩ => show 0 + 1 * (x 1).val = (x 1).val; omega
      | ⟨2, _⟩ => show 0 + 1 * (x 2).val = (x 2).val; omega
    rw [e]
    refine congrArg (P 1) (funext fun a => Fin.ext ?_)
    have h0 : (x 0).val < 1 := (x 0).isLt
    match a with
    | ⟨0, _⟩ => show (x 0).val = 0; omega
    | ⟨1, _⟩ => rfl
    | ⟨2, _⟩ => rfl
  · intro x
    have e : (Rect.unit ![0, 0, 0] ![1, 128, 512] inb_S4x128x512_S1x128x512_0_0_0).emb x = (ix3 0 (x 1) (x 2) : S4x128x512.Idx) := by
      have h0 : (x 0).val < 1 := (x 0).isLt
      funext a
      apply Fin.ext
      match a with
      | ⟨0, _⟩ => show 0 + 1 * (x 0).val = 0; omega
      | ⟨1, _⟩ => show 0 + 1 * (x 1).val = (x 1).val; omega
      | ⟨2, _⟩ => show 0 + 1 * (x 2).val = (x 2).val; omega
    rw [e]
    refine congrArg (P 0) (funext fun a => Fin.ext ?_)
    have h0 : (x 0).val < 1 := (x 0).isLt
    match a with
    | ⟨0, _⟩ => show (x 0).val = 0; omega
    | ⟨1, _⟩ => rfl
    | ⟨2, _⟩ => rfl
  · exact View.cover_of_tiledL _ ![1, 128, 512] rfl _

end Cert.KernelIdeal.Ssd

end
-- ==== Proof.Ssd.KernelChain.lean ====
/-
  The kernel's launch, point by point, is the scan of every column.
-/
module

public import proofs.«01_k».proof.Proof.Ssd.Blocks
public import proofs.«01_k».proof.Proof.Ssd.Tiles
public import proofs.«01_k».proof.Proof.Ssd.RefChain

@[expose] public section

set_option maxRecDepth 16384

noncomputable section

namespace Cert.KernelIdeal.Ssd

open Cert.KernelIdeal Cert.KernelIdeal.Gen Cert.Ssd Idealize.ShloMosaic Idealize.ShloMosaic.TcCoe
open Cert.ReferenceIdeal.Ssd (RealSteps rowsOf outAt)

variable (m : (ℓ : Loc nD τ sig) → Buf (Elt Ideal) ℓ) (c : Dev nD)

/-- The arguments of the program on one device. -/
abbrev A0 : FVec Ideal S16x2048x3072 .f32 := m ((c : Thread nD τ).loc main_arg0)
abbrev A1 : FVec Ideal S16x2048x2048 .f32 := m ((c : Thread nD τ).loc main_arg1)
abbrev A2 : FVec Ideal S16x2048x32 .f32 := m ((c : Thread nD τ).loc main_arg2)
abbrev A3 : FVec Ideal S32 .f32 := m ((c : Thread nD τ).loc main_arg3)
abbrev A4 : FVec Ideal S32 .f32 := m ((c : Thread nD τ).loc main_arg4)
abbrev A5 : FVec Ideal S2048 .f32 := m ((c : Thread nD τ).loc main_arg5)

theorem skip_eq (t : Fin cfg0.N) (j : Fin 2048) : (iblk m c 4 t : Vec Ideal S1x2048 .f32) (ix2 0 j) = A4 m c (ix1 ⟨j.val / 64, by omega⟩) :=
  (blk4_apply m c t j).trans (dskip_apply m c j)

theorem gain_eq (t : Fin cfg0.N) (j : Fin 2048) : (iblk m c 5 t : Vec Ideal S1x2048 .f32) (ix2 0 j) = A5 m c (ix1 j) :=
  (blk5_apply m c t j).trans (normw_apply m c j)

section
variable {m c} (b k : Fin 16) (t : Fin cfg0.N) (ht : t.val = 16 * b.val + k.val)
include ht

theorem seq_eq (l : Fin 128) (h) : (⟨(128 * t.val + l.val) / 2048, h⟩ : Fin 16) = b :=
  Fin.ext (by dsimp only; omega)

theorem row_eq (l : Fin 128) (h) : (⟨(128 * t.val + l.val) % 2048, h⟩ : Fin 2048) = rowAt k.val l :=
  Fin.ext (by rw [rowAt_val]; dsimp only; omega)

theorem x_eq (l : Fin 128) (j : Fin 3072) : (iblk m c 0 t : Vec Ideal S128x3072 .bf16) (ix2 l j) = rowsOf (A0 m c) b (rowAt k.val l) j := by
  rw [blk0_apply, xbc_apply, seq_eq b k t ht, row_eq b k t ht]

theorem z_eq (l : Fin 128) (j : Fin 2048) : (iblk m c 1 t : Vec Ideal S128x2048 .bf16) (ix2 l j) = A1 m c (ix3 b (rowAt k.val l) j) := by
  rw [blk1_apply, z_apply, seq_eq b k t ht, row_eq b k t ht]

/-- A family over the heads, continued by zero. -/
def padded (f : Fin 32 → ℝ) (h : Fin 128) : ℝ := if hh : h.val < 32 then f ⟨h.val, hh⟩ else 0

omit ht in
theorem padded_head (f : Fin 32 → ℝ) (g : Fin 4) (j : Fin 512) (h) : padded f ⟨8 * g.val + j.val / 64, h⟩ = f (headAt g j) :=
  dif_pos (show 8 * g.val + j.val / 64 < 32 by omega)

variable {T D : Fin 16 → Fin 2048 → Fin 32 → ℝ}

theorem data (H : RealSteps (A2 m c) (A3 m c) T D) : BlockData (iblk m c 2 t) (iblk m c 3 t) (iblk m c 6 t) (iblk m c 7 t) (iblk m c 8 t)
    (fun h s => padded (T b (rowAt k.val s)) h) (fun h s => padded (D b (rowAt k.val s)) h) where
  tri l s := by rw [blk6_apply, tri_apply]
  sel g q j := by rw [blk7_apply, sel_apply]
  spr q j := by rw [blk8_apply, spread_apply]
  step s h := by
    rw [blk2_apply, dt_apply, seq_eq b k t ht, row_eq b k t ht]
    unfold padded
    split
    · exact H.step _ _ _
    · exact EReal.coe_zero.symm
  rate s h := by
    rw [blk2_apply, dt_apply, seq_eq b k t ht, row_eq b k t ht, blk3_apply, alog_apply]
    unfold padded
    split
    · rw [sub_eq_add_neg, zero_add]
      exact H.rate _ _ _
    · rw [zero_mul]
      exact EReal.coe_zero.symm

theorem st_eq (H : RealSteps (A2 m c) (A3 m c) T D) (xs : Vec Ideal S4x128x512 .f32) (g : Fin 4) (n : Fin 128) (j : Fin 512)
    (hxs : ∀ n, xs (ix3 g n j) = stateCol (rowsOf (A0 m c) b) (T b) (D b) g j k.val n) :
    stPiece g (iblk m c 0 t) (iblk m c 2 t) (iblk m c 3 t) (iblk m c 6 t) (iblk m c 8 t) xs (ix3 0 n j)
      = stateCol (rowsOf (A0 m c) b) (T b) (D b) g j (k.val + 1) n := by
  rw [stPiece_apply (data b k t ht H)]
  simp only [x_eq b k t ht, hxs, padded_head]
  rfl

theorem out_eq (H : RealSteps (A2 m c) (A3 m c) T D) (xs : Vec Ideal S4x128x512 .f32) (g : Fin 4) (l : Fin 128)
    (hxs : ∀ j n, xs (ix3 g n j) = stateCol (rowsOf (A0 m c) b) (T b) (D b) g j k.val n) (j : Fin 512) :
    outPiece g (iblk m c 0 t) (iblk m c 1 t) (iblk m c 2 t) (iblk m c 3 t) (iblk m c 4 t) (iblk m c 5 t) (iblk m c 6 t) (iblk m c 7 t) (iblk m c 8 t) xs (ix2 l j)
      = outAt (A0 m c) (A1 m c) (A4 m c) (A5 m c) T D b k l g j := by
  rw [outPiece_apply (data b k t ht H)]
  simp only [x_eq b k t ht, z_eq b k t ht, hxs, padded_head, skip_eq, gain_eq]
  unfold outAt
  have e : ∀ j : Fin 512, (⟨(512 * g.val + j.val) / 64, by omega⟩ : Fin 32) = headAt g j := fun j => Fin.ext (by simp only [headAt]; omega)
  simp only [e]
  rfl

end

theorem zeroSt_apply (i : S4x128x512.Idx) : (zeroSt : Vec Ideal S4x128x512 .f32) i = (0 : EReal) := by
  unfold zeroSt
  pointwise [k0_pay2]

section
variable {m c} {T D : Fin 16 → Fin 2048 → Fin 32 → ℝ} (H : RealSteps (A2 m c) (A3 m c) T D) (b k : Fin 16) (t : Fin cfg0.N) (ht : t.val = 16 * b.val + k.val)
include H ht

/-- A sequence's first point. -/
theorem first_eq (h0 : k.val = 0) :
    (∀ g n j, (outsAt0 m c t.val t.isLt).2 (ix3 g n j) = stateCol (rowsOf (A0 m c) b) (T b) (D b) g j (k.val + 1) n)
    ∧ ∀ (g : Fin 4) (l : Fin 128) (j : Fin 512), (outsAt0 m c t.val t.isLt).1 (ix2 l ⟨512 * g.val + j.val, by omega⟩)
        = outAt (A0 m c) (A1 m c) (A4 m c) (A5 m c) T D b k l g j := by
  have hz : ∀ g j n, (zeroSt : Vec Ideal S4x128x512 .f32) (ix3 g n j) = stateCol (rowsOf (A0 m c) b) (T b) (D b) g j k.val n := fun g j n => by
    rw [zeroSt_apply, h0]
    rfl
  rw [outsAt0_A m c t (by omega)]
  constructor
  · intro g n j
    dsimp only
    rw [sout_A]
    exact (groups_canon (fun g => stPiece g (iblk m c 0 t) (iblk m c 2 t) (iblk m c 3 t) (iblk m c 6 t) (iblk m c 8 t) zeroSt)
      [⟨Rect.unit ![0, 0, 0] ![4, 128, 512] inb_S4x128x512_S4x128x512_0_0_0, zeroSt⟩] g n j).trans (st_eq b k t ht H zeroSt g n j (hz g j))
  · intro g l j
    dsimp only
    rw [out_A]
    exact (cols_canon (fun g => outPiece g (iblk m c 0 t) (iblk m c 1 t) (iblk m c 2 t) (iblk m c 3 t) (iblk m c 4 t) (iblk m c 5 t) (iblk m c 6 t) (iblk m c 7 t) (iblk m c 8 t) zeroSt) g l j).trans
      (out_eq b k t ht H zeroSt g l (hz g) j)

/-- A later point of a sequence, from the states the point before left. -/
theorem later_eq (h0 : k.val ≠ 0) (h) (hxs : ∀ g j n, (outsAt0 m c (t.val - 1) h).2 (ix3 g n j) = stateCol (rowsOf (A0 m c) b) (T b) (D b) g j k.val n) :
    (∀ g n j, (outsAt0 m c t.val t.isLt).2 (ix3 g n j) = stateCol (rowsOf (A0 m c) b) (T b) (D b) g j (k.val + 1) n)
    ∧ ∀ (g : Fin 4) (l : Fin 128) (j : Fin 512), (outsAt0 m c t.val t.isLt).1 (ix2 l ⟨512 * g.val + j.val, by omega⟩)
        = outAt (A0 m c) (A1 m c) (A4 m c) (A5 m c) T D b k l g j := by
  rw [outsAt0_B m c t (by omega)]
  generalize (outsAt0 m c (t.val - 1) h).2 = xs at hxs ⊢
  constructor
  · intro g n j
    dsimp only
    rw [sout_B]
    exact (groups_canon (fun g => stPiece g (iblk m c 0 t) (iblk m c 2 t) (iblk m c 3 t) (iblk m c 6 t) (iblk m c 8 t) xs) [] g n j).trans (st_eq b k t ht H xs g n j (hxs g j))
  · intro g l j
    dsimp only
    rw [out_B]
    exact (cols_canon (fun g => outPiece g (iblk m c 0 t) (iblk m c 1 t) (iblk m c 2 t) (iblk m c 3 t) (iblk m c 4 t) (iblk m c 5 t) (iblk m c 6 t) (iblk m c 7 t) (iblk m c 8 t) xs) g l j).trans
      (out_eq b k t ht H xs g l (hxs g) j)

end

/-- What a point leaves: the columns' states after its chunk, and the gated outputs of its rows. -/
theorem point_eq {T D : Fin 16 → Fin 2048 → Fin 32 → ℝ} (H : RealSteps (A2 m c) (A3 m c) T D) (b : Fin 16) : ∀ (q : ℕ) (hq : q < 16) (hn : 16 * b.val + q < cfg0.N),
    (∀ g n j, (outsAt0 m c (16 * b.val + q) hn).2 (ix3 g n j) = stateCol (rowsOf (A0 m c) b) (T b) (D b) g j (q + 1) n)
    ∧ ∀ (g : Fin 4) (l : Fin 128) (j : Fin 512), (outsAt0 m c (16 * b.val + q) hn).1 (ix2 l ⟨512 * g.val + j.val, by omega⟩)
        = outAt (A0 m c) (A1 m c) (A4 m c) (A5 m c) T D b ⟨q, hq⟩ l g j
  | 0, hq, hn => first_eq H b ⟨0, hq⟩ ⟨16 * b.val + 0, hn⟩ rfl rfl
  | q + 1, hq, hn => later_eq H b ⟨q + 1, hq⟩ ⟨16 * b.val + (q + 1), hn⟩ rfl (Nat.succ_ne_zero q) (Nat.lt_of_succ_lt hn) fun g j n =>
    (point_eq H b q (by omega) (Nat.lt_of_succ_lt hn)).1 g n j

/-- The launch's result at row `l` of chunk `k` of sequence `b`, at column `j` of group `g`. -/
theorem G9_apply {T D : Fin 16 → Fin 2048 → Fin 32 → ℝ} (H : RealSteps (A2 m c) (A3 m c) T D) (b k : Fin 16) (l : Fin 128) (g : Fin 4) (j : Fin 512) :
    Value.G9 m c (ix2 ⟨2048 * b.val + 128 * k.val + l.val, by omega⟩ ⟨512 * g.val + j.val, by omega⟩ : S32768x2048.Idx)
      = outAt (A0 m c) (A1 m c) (A4 m c) (A5 m c) T D b k l g j := by
  have hN : cfg0.N = 256 := N_0
  have hp : Value.pt9Of (ix2 ⟨2048 * b.val + 128 * k.val + l.val, by omega⟩ ⟨512 * g.val + j.val, by omega⟩ : S32768x2048.Idx) = 16 * b.val + k.val := by
    show 1 * ((2048 * b.val + 128 * k.val + l.val) / 128 - 0) + 1 * ((512 * g.val + j.val) / 2048 - 0) = _
    omega
  have hn : 16 * b.val + k.val < cfg0.N := by omega
  have hl : Value.loc9Of (ix2 ⟨2048 * b.val + 128 * k.val + l.val, by omega⟩ ⟨512 * g.val + j.val, by omega⟩ : S32768x2048.Idx)
      = (ix2 l ⟨512 * g.val + j.val, by omega⟩ : S128x2048.Idx) := by
    funext a
    apply Fin.ext
    match a with
    | ⟨0, _⟩ => show (2048 * b.val + 128 * k.val + l.val) % 128 = l.val; omega
    | ⟨1, _⟩ => show (512 * g.val + j.val) % 2048 = 512 * g.val + j.val; omega
  unfold Value.G9
  simp only [hp, hl]
  rw [dif_pos hn, ← Value.outsAt0_sweep m c _ hn]
  exact (point_eq m c H b k.val k.isLt hn).2 g l j

end Cert.KernelIdeal.Ssd

end
-- ==== Proof.Ssd.Claim.lean ====
/-
  The scan's claims: its frames, its idealization, and its value.
-/
module

public import proofs.«01_k».proof.Defs
public import proofs.«01_k».proof.Proof.Gen.Kernel.Frame
public import proofs.«01_k».proof.Proof.Ssd.Pre
public import proofs.«01_k».proof.Proof.Ssd.KernelChain
public import Idealize.ShloMosaic.Adequacy
public import Idealize.ShloMosaic.Init

@[expose] public section

set_option maxRecDepth 16384

noncomputable section

namespace Cert.Ssd

open Idealize.ShloMosaic Idealize.SL.Sem Idealize.ShloMosaic.TcCoe

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Ssd.run (F := Ideal) m ρ)

theorem frame_reference_pre : Cert.quiescent_ReferenceIdeal_pre_finite_steps := fun m ρ _ => frame_reference m ρ trivial

/-- A place of the result is a row of a chunk of a sequence and a column of a group. -/
theorem place (i : Cert.KernelIdeal.S32768x2048.Idx) : ∃ (b k : Fin 16) (l : Fin 128) (g : Fin 4) (j : Fin 512),
    i = (ix2 ⟨2048 * b.val + 128 * k.val + l.val, by omega⟩ ⟨512 * g.val + j.val, by omega⟩ : Cert.KernelIdeal.S32768x2048.Idx) := by
  have h0 : (i 0).val < 32768 := (i 0).isLt
  have h1 : (i 1).val < 2048 := (i 1).isLt
  refine ⟨⟨(i 0).val / 2048, by omega⟩, ⟨(i 0).val % 2048 / 128, by omega⟩, ⟨(i 0).val % 128, by omega⟩, ⟨(i 1).val / 512, by omega⟩,
    ⟨(i 1).val % 512, by omega⟩, ?_⟩
  funext a
  apply Fin.ext
  match a with
  | ⟨0, _⟩ => show (i 0).val = 2048 * ((i 0).val / 2048) + 128 * ((i 0).val % 2048 / 128) + (i 0).val % 128; omega
  | ⟨1, _⟩ => show (i 1).val = 512 * ((i 1).val / 512) + (i 1).val % 512; omega

/-- The kernel's result is the reference's, wherever the steps are real. -/
theorem value_eq (m : (ℓ : Loc Cert.KernelIdeal.nD Cert.KernelIdeal.τ Cert.KernelIdeal.sig) → Buf (Elt Ideal) ℓ) (c : Dev Cert.KernelIdeal.nD)
    {T D : Fin 16 → Fin 2048 → Fin 32 → ℝ} (H : Cert.ReferenceIdeal.Ssd.RealSteps (Cert.KernelIdeal.Ssd.A2 m c) (Cert.KernelIdeal.Ssd.A3 m c) T D) :
    Cert.KernelIdeal.Value.G9 m c = Cert.ReferenceIdeal.Ssd.result (Cert.KernelIdeal.Ssd.A0 m c) (Cert.KernelIdeal.Ssd.A1 m c)
      (Cert.KernelIdeal.Ssd.A2 m c) (Cert.KernelIdeal.Ssd.A3 m c) (Cert.KernelIdeal.Ssd.A4 m c) (Cert.KernelIdeal.Ssd.A5 m c) := by
  funext i
  obtain ⟨b, k, l, g, j, rfl⟩ := place i
  exact (Cert.KernelIdeal.Ssd.G9_apply m c H b k l g j).trans (Cert.ReferenceIdeal.Ssd.result_apply H _ _ _ b k l g j).symm

theorem algebraic : Cert.algebraic_KernelIdeal_ReferenceIdeal_pre_finite_steps := by
  intro m ρ m' ρ' hpre hagree
  refine ⟨fun c => Cert.KernelIdeal.Value.G9 m c, Cert.KernelIdeal.Value.run (F := Ideal) m ρ, ?_⟩
  refine (θ_run Cert.ReferenceIdeal.defs _ _).mono (fun r h c => ⟨(h c).1.trans ?_, (h c).2⟩) (Cert.ReferenceIdeal.Ssd.run (F := Ideal) m' ρ')
  obtain ⟨T, D, H⟩ := realSteps (hpre c)
  obtain ⟨e0, e1, e2, e3, e4, e5⟩ := hagree c
  rw [e0, e1, e2, e3, e4, e5]
  exact (value_eq m c H).symm

end Cert.Ssd

end
-- ==== Proof.Ffn.Entry.lean ====
/-
  What the launch's arguments hold, read at an index, of the arguments of the program.
-/
module

public import proofs.«01_k».proof.Proof.Gen.Kernel2Ideal.Value
public import Idealize.ShloMosaic.Lib.Pointwise
public import Idealize.ShloMosaic.Lib.Claim
public import Idealize.ShloMosaic.Lib.Pipeline.Value
public import Idealize.ShloMosaic.Lib.StableHlo.ReadAt

@[expose] public section

set_option maxRecDepth 16384

noncomputable section

namespace Cert.Kernel2Ideal.Ffn

open Cert.Kernel2Ideal Cert.Kernel2Ideal.Gen Idealize.ShloMosaic Idealize.ShloMosaic.TcCoe

variable (m : (ℓ : Loc nD τ sig) → Buf (Elt Ideal) ℓ) (c : Dev nD)

theorem x_apply (r : Fin 32768) (j : Fin 1024) :
    (V m c main_v0 : Vec Ideal S32768x1024 .f32) (ix2 r j) = (m ((c : Thread nD τ).loc main_arg0) : FVec Ideal S16x2048x1024 .f32) (ix3 ⟨r.val / 2048, by omega⟩ ⟨r.val % 2048, by omega⟩ j) := by
  unfold V
  after_reads_at

theorem gpre_apply (j : Fin 1024) :
    (V m c main_v43 : Vec Ideal S1x1024 .f32) (ix2 0 j) = (m ((c : Thread nD τ).loc main_arg1) : FVec Ideal S1024 .f32) (ix1 j) := by
  unfold V
  after_reads_at

theorem gpost_apply (j : Fin 1024) :
    (V m c main_v44 : Vec Ideal S1x1024 .f32) (ix2 0 j) = (m ((c : Thread nD τ).loc main_arg6) : FVec Ideal S1024 .f32) (ix1 j) := by
  unfold V
  after_reads_at

theorem down_apply (k : Fin 11) (j : Fin 256) (d : Fin 1024) :
    (V m c main_v42 : Vec Ideal S11x256x1024 .bf16) (ix3 k j d) = (m ((c : Thread nD τ).loc main_arg5) : FVec Ideal S2816x1024 .f32) (ix2 ⟨256 * k.val + j.val, by omega⟩ d) := by
  unfold V
  after_reads_at
  exact congrArg (fun n => (m ((c : Thread nD τ).loc main_arg5) : FVec Ideal S2816x1024 .f32) (ix2 n d)) (Fin.ext (by show k.val * 256 + j.val = 256 * k.val + j.val; omega))

theorem tapV_apply (r : Fin 3) (k : Fin 11) (j : Fin 256) :
    (V m c main_v33 : Vec Ideal S11x8x256 .f32) (ix3 k ⟨r.val, by omega⟩ j) = (m ((c : Thread nD τ).loc main_arg3) : FVec Ideal S3x5632 .f32) (ix2 r ⟨256 * k.val + j.val, by omega⟩) := by
  unfold V
  after_reads_at
  after_reads_at
  exact congrArg (fun n => (m ((c : Thread nD τ).loc main_arg3) : FVec Ideal S3x5632 .f32) (ix2 r n)) (Fin.ext (by show k.val * 256 + j.val = 256 * k.val + j.val; omega))

theorem tapG_apply (r : Fin 3) (k : Fin 11) (j : Fin 256) :
    (V m c main_v40 : Vec Ideal S11x8x256 .f32) (ix3 k ⟨r.val, by omega⟩ j) = (m ((c : Thread nD τ).loc main_arg3) : FVec Ideal S3x5632 .f32) (ix2 r ⟨2816 + (256 * k.val + j.val), by omega⟩) := by
  unfold V
  after_reads_at
  after_reads_at
  exact congrArg (fun n => (m ((c : Thread nD τ).loc main_arg3) : FVec Ideal S3x5632 .f32) (ix2 r n)) (Fin.ext (by show 2816 + (k.val * 256 + j.val) = 2816 + (256 * k.val + j.val); omega))

theorem biasV_apply (k : Fin 11) (j : Fin 256) :
    (V m c main_v33 : Vec Ideal S11x8x256 .f32) (ix3 k 3 j) = (m ((c : Thread nD τ).loc main_arg4) : FVec Ideal S5632 .f32) (ix1 ⟨256 * k.val + j.val, by omega⟩) := by
  unfold V
  after_reads_at
  after_reads_at
  exact congrArg (fun n => (m ((c : Thread nD τ).loc main_arg4) : FVec Ideal S5632 .f32) (ix1 n)) (Fin.ext (by show k.val * 256 + j.val = 256 * k.val + j.val; omega))

theorem biasG_apply (k : Fin 11) (j : Fin 256) :
    (V m c main_v40 : Vec Ideal S11x8x256 .f32) (ix3 k 3 j) = (m ((c : Thread nD τ).loc main_arg4) : FVec Ideal S5632 .f32) (ix1 ⟨2816 + (256 * k.val + j.val), by omega⟩) := by
  unfold V
  after_reads_at
  after_reads_at
  exact congrArg (fun n => (m ((c : Thread nD τ).loc main_arg4) : FVec Ideal S5632 .f32) (ix1 n)) (Fin.ext (by show 2816 + (k.val * 256 + j.val) = 2816 + (256 * k.val + j.val); omega))

/-- The up-projection's columns as the kernel orders them: the first eight chunks of values and gates in turn. -/
def upLow (w : FVec Ideal S1024x5632 .f32) : FVec Ideal S1024x4096 .f32 :=
  concatenate S1024x4096 1 [⟨S1024x256, extractStridedSlice S1024x256 ![0, 0] w slices_S1024x5632_S1024x256_0_0⟩,
    ⟨S1024x256, extractStridedSlice S1024x256 ![0, 2816] w slices_S1024x5632_S1024x256_0_2816⟩,
    ⟨S1024x256, extractStridedSlice S1024x256 ![0, 256] w slices_S1024x5632_S1024x256_0_256⟩,
    ⟨S1024x256, extractStridedSlice S1024x256 ![0, 3072] w slices_S1024x5632_S1024x256_0_3072⟩,
    ⟨S1024x256, extractStridedSlice S1024x256 ![0, 512] w slices_S1024x5632_S1024x256_0_512⟩,
    ⟨S1024x256, extractStridedSlice S1024x256 ![0, 3328] w slices_S1024x5632_S1024x256_0_3328⟩,
    ⟨S1024x256, extractStridedSlice S1024x256 ![0, 768] w slices_S1024x5632_S1024x256_0_768⟩,
    ⟨S1024x256, extractStridedSlice S1024x256 ![0, 3584] w slices_S1024x5632_S1024x256_0_3584⟩,
    ⟨S1024x256, extractStridedSlice S1024x256 ![0, 1024] w slices_S1024x5632_S1024x256_0_1024⟩,
    ⟨S1024x256, extractStridedSlice S1024x256 ![0, 3840] w slices_S1024x5632_S1024x256_0_3840⟩,
    ⟨S1024x256, extractStridedSlice S1024x256 ![0, 1280] w slices_S1024x5632_S1024x256_0_1280⟩,
    ⟨S1024x256, extractStridedSlice S1024x256 ![0, 4096] w slices_S1024x5632_S1024x256_0_4096⟩,
    ⟨S1024x256, extractStridedSlice S1024x256 ![0, 1536] w slices_S1024x5632_S1024x256_0_1536⟩,
    ⟨S1024x256, extractStridedSlice S1024x256 ![0, 4352] w slices_S1024x5632_S1024x256_0_4352⟩,
    ⟨S1024x256, extractStridedSlice S1024x256 ![0, 1792] w slices_S1024x5632_S1024x256_0_1792⟩,
    ⟨S1024x256, extractStridedSlice S1024x256 ![0, 4608] w slices_S1024x5632_S1024x256_0_4608⟩] concatenates_S1024x256_S1024x256_S1024x256_S1024x256_S1024x256_S1024x256_S1024x256_S1024x256_S1024x256_S1024x256_S1024x256_S1024x256_S1024x256_S1024x256_S1024x256_S1024x256_S1024x4096_d1

/-- The last three chunks. -/
def upHigh (w : FVec Ideal S1024x5632 .f32) : FVec Ideal S1024x1536 .f32 :=
  concatenate S1024x1536 1 [⟨S1024x256, extractStridedSlice S1024x256 ![0, 2048] w slices_S1024x5632_S1024x256_0_2048⟩,
    ⟨S1024x256, extractStridedSlice S1024x256 ![0, 4864] w slices_S1024x5632_S1024x256_0_4864⟩,
    ⟨S1024x256, extractStridedSlice S1024x256 ![0, 2304] w slices_S1024x5632_S1024x256_0_2304⟩,
    ⟨S1024x256, extractStridedSlice S1024x256 ![0, 5120] w slices_S1024x5632_S1024x256_0_5120⟩,
    ⟨S1024x256, extractStridedSlice S1024x256 ![0, 2560] w slices_S1024x5632_S1024x256_0_2560⟩,
    ⟨S1024x256, extractStridedSlice S1024x256 ![0, 5376] w slices_S1024x5632_S1024x256_0_5376⟩] concatenates_S1024x256_S1024x256_S1024x256_S1024x256_S1024x256_S1024x256_S1024x1536_d1

theorem upLow_eq : (V m c main_v23 : Vec Ideal S1024x4096 .f32) = upLow (m ((c : Thread nD τ).loc main_arg2)) := by
  unfold V
  after_reads_simp
  rfl

theorem upHigh_eq : (V m c main_v24 : Vec Ideal S1024x1536 .f32) = upHigh (m ((c : Thread nD τ).loc main_arg2)) := by
  unfold V
  after_reads_simp
  rfl

theorem up_eq (i : Fin 1024) (n : Fin 5632) :
    (V m c main_v26 : Vec Ideal S1024x5632 .bf16) (ix2 i n)
      = if h : n.val < 4096 then (V m c main_v23 : Vec Ideal S1024x4096 .f32) (ix2 i ⟨n.val, h⟩) else (V m c main_v24 : Vec Ideal S1024x1536 .f32) (ix2 i ⟨n.val - 4096, by omega⟩) := by
  have e : (V m c main_v26 : Vec Ideal S1024x5632 .bf16) = truncf (F := Ideal) .bf16 (concatenate S1024x5632 1 [⟨S1024x4096, (V m c main_v23 : FVec Ideal S1024x4096 .f32)⟩, ⟨S1024x1536, (V m c main_v24 : FVec Ideal S1024x1536 .f32)⟩] concatenates_S1024x4096_S1024x1536_S1024x5632_d1 : FVec Ideal S1024x5632 .f32) bitsLt_bf16_f32 := by
    unfold V
    after_reads_simp
    rfl
  rw [e]
  generalize (V m c main_v23 : FVec Ideal S1024x4096 .f32) = a
  generalize (V m c main_v24 : FVec Ideal S1024x1536 .f32) = b
  pointwise []

/-- Where chunk `u` of the kernel's order starts among the columns of the program's up-projection. -/
def chunkOff (u : ℕ) : ℕ := 256 * (u / 2) + 2816 * (u % 2)

theorem slicesChunk (u : Fin 22) : S1024x5632.Slices ![0, chunkOff u.val] S1024x256 := by revert u; decide

/-- Chunk `u` of the kernel's order. -/
def chunkW (w : FVec Ideal S1024x5632 .f32) (u : Fin 22) : FVec Ideal S1024x256 .f32 :=
  extractStridedSlice S1024x256 ![0, chunkOff u.val] w (slicesChunk u)

theorem chunkW_apply (w : FVec Ideal S1024x5632 .f32) (u : Fin 22) (i : Fin 1024) (j : Fin 256) (h) :
    chunkW w u (ix2 i j) = w (ix2 i ⟨chunkOff u.val + j.val, h⟩) := by
  pointwise [chunkW]

theorem chunk_lit (w : FVec Ideal S1024x5632 .f32) (u : Fin 22) (o : Nat) (ho : chunkOff u.val = o) (h) :
    extractStridedSlice S1024x256 ![0, o] w h = chunkW w u := by
  subst ho
  rfl

theorem concatenate_congr {α : Type} (t : Shape) (a : Fin t.rank) {xs ys : List ((s : Shape) × (s.Idx → α))} (e : xs = ys) (h) (h') (j : t.Idx) :
    concatenate t a xs h j = concatenate t a ys h' j := by
  subst e
  rfl

theorem upLow_apply (w : FVec Ideal S1024x5632 .f32) (u : Fin 16) (i : Fin 1024) (j : Fin 256) (n : Fin 4096) (hn : n.val = 256 * u.val + j.val) :
    upLow w (ix2 i n) = chunkW w ⟨u.val, by omega⟩ (ix2 i j) := by
  have e := concatenate_congr S1024x4096 1 (show [⟨S1024x256, extractStridedSlice S1024x256 ![0, 0] w slices_S1024x5632_S1024x256_0_0⟩,
    ⟨S1024x256, extractStridedSlice S1024x256 ![0, 2816] w slices_S1024x5632_S1024x256_0_2816⟩,
    ⟨S1024x256, extractStridedSlice S1024x256 ![0, 256] w slices_S1024x5632_S1024x256_0_256⟩,
    ⟨S1024x256, extractStridedSlice S1024x256 ![0, 3072] w slices_S1024x5632_S1024x256_0_3072⟩,
    ⟨S1024x256, extractStridedSlice S1024x256 ![0, 512] w slices_S1024x5632_S1024x256_0_512⟩,
    ⟨S1024x256, extractStridedSlice S1024x256 ![0, 3328] w slices_S1024x5632_S1024x256_0_3328⟩,
    ⟨S1024x256, extractStridedSlice S1024x256 ![0, 768] w slices_S1024x5632_S1024x256_0_768⟩,
    ⟨S1024x256, extractStridedSlice S1024x256 ![0, 3584] w slices_S1024x5632_S1024x256_0_3584⟩,
    ⟨S1024x256, extractStridedSlice S1024x256 ![0, 1024] w slices_S1024x5632_S1024x256_0_1024⟩,
    ⟨S1024x256, extractStridedSlice S1024x256 ![0, 3840] w slices_S1024x5632_S1024x256_0_3840⟩,
    ⟨S1024x256, extractStridedSlice S1024x256 ![0, 1280] w slices_S1024x5632_S1024x256_0_1280⟩,
    ⟨S1024x256, extractStridedSlice S1024x256 ![0, 4096] w slices_S1024x5632_S1024x256_0_4096⟩,
    ⟨S1024x256, extractStridedSlice S1024x256 ![0, 1536] w slices_S1024x5632_S1024x256_0_1536⟩,
    ⟨S1024x256, extractStridedSlice S1024x256 ![0, 4352] w slices_S1024x5632_S1024x256_0_4352⟩,
    ⟨S1024x256, extractStridedSlice S1024x256 ![0, 1792] w slices_S1024x5632_S1024x256_0_1792⟩,
    ⟨S1024x256, extractStridedSlice S1024x256 ![0, 4608] w slices_S1024x5632_S1024x256_0_4608⟩] = List.ofFn (fun u : Fin 16 => (⟨S1024x256, chunkW w ⟨u.val, by omega⟩⟩ : (s : Shape) × (s.Idx → Ideal .f32))) from by
      rw [chunk_lit w ⟨0, by decide⟩ 0 (by decide), chunk_lit w ⟨1, by decide⟩ 2816 (by decide), chunk_lit w ⟨2, by decide⟩ 256 (by decide), chunk_lit w ⟨3, by decide⟩ 3072 (by decide), chunk_lit w ⟨4, by decide⟩ 512 (by decide), chunk_lit w ⟨5, by decide⟩ 3328 (by decide), chunk_lit w ⟨6, by decide⟩ 768 (by decide), chunk_lit w ⟨7, by decide⟩ 3584 (by decide), chunk_lit w ⟨8, by decide⟩ 1024 (by decide), chunk_lit w ⟨9, by decide⟩ 3840 (by decide), chunk_lit w ⟨10, by decide⟩ 1280 (by decide), chunk_lit w ⟨11, by decide⟩ 4096 (by decide), chunk_lit w ⟨12, by decide⟩ 1536 (by decide), chunk_lit w ⟨13, by decide⟩ 4352 (by decide), chunk_lit w ⟨14, by decide⟩ 1792 (by decide), chunk_lit w ⟨15, by decide⟩ 4608 (by decide)]
      simp only [List.ofFn_succ, List.ofFn_zero]
      rfl)
    concatenates_S1024x256_S1024x256_S1024x256_S1024x256_S1024x256_S1024x256_S1024x256_S1024x256_S1024x256_S1024x256_S1024x256_S1024x256_S1024x256_S1024x256_S1024x256_S1024x256_S1024x4096_d1 (by simp only [List.ofFn_succ, List.ofFn_zero]; exact concatenates_S1024x256_S1024x256_S1024x256_S1024x256_S1024x256_S1024x256_S1024x256_S1024x256_S1024x256_S1024x256_S1024x256_S1024x256_S1024x256_S1024x256_S1024x256_S1024x256_S1024x4096_d1) (ix2 i n)
  refine e.trans ?_
  refine concatenate_ofFn_apply (t := S1024x4096) (s₁ := S1024x256) 1 (fun u : Fin 16 => chunkW w ⟨u.val, by omega⟩) _ rfl 256 rfl (ix2 i n) u ?_ (ix2 i j) ?_ ?_
  · show n.val / 256 = u.val
    omega
  · show j.val = n.val % 256
    omega
  · intro b hb
    match b, hb with
    | ⟨0, _⟩, _ => rfl
    | ⟨1, _⟩, hb => exact absurd rfl hb

theorem upHigh_apply (w : FVec Ideal S1024x5632 .f32) (u : Fin 6) (i : Fin 1024) (j : Fin 256) (n : Fin 1536) (hn : n.val = 256 * u.val + j.val) :
    upHigh w (ix2 i n) = chunkW w ⟨16 + u.val, by omega⟩ (ix2 i j) := by
  have e := concatenate_congr S1024x1536 1 (show [⟨S1024x256, extractStridedSlice S1024x256 ![0, 2048] w slices_S1024x5632_S1024x256_0_2048⟩,
    ⟨S1024x256, extractStridedSlice S1024x256 ![0, 4864] w slices_S1024x5632_S1024x256_0_4864⟩,
    ⟨S1024x256, extractStridedSlice S1024x256 ![0, 2304] w slices_S1024x5632_S1024x256_0_2304⟩,
    ⟨S1024x256, extractStridedSlice S1024x256 ![0, 5120] w slices_S1024x5632_S1024x256_0_5120⟩,
    ⟨S1024x256, extractStridedSlice S1024x256 ![0, 2560] w slices_S1024x5632_S1024x256_0_2560⟩,
    ⟨S1024x256, extractStridedSlice S1024x256 ![0, 5376] w slices_S1024x5632_S1024x256_0_5376⟩] = List.ofFn (fun u : Fin 6 => (⟨S1024x256, chunkW w ⟨16 + u.val, by omega⟩⟩ : (s : Shape) × (s.Idx → Ideal .f32))) from by
      rw [chunk_lit w ⟨16, by decide⟩ 2048 (by decide), chunk_lit w ⟨17, by decide⟩ 4864 (by decide), chunk_lit w ⟨18, by decide⟩ 2304 (by decide), chunk_lit w ⟨19, by decide⟩ 5120 (by decide), chunk_lit w ⟨20, by decide⟩ 2560 (by decide), chunk_lit w ⟨21, by decide⟩ 5376 (by decide)]
      simp only [List.ofFn_succ, List.ofFn_zero]
      rfl)
    concatenates_S1024x256_S1024x256_S1024x256_S1024x256_S1024x256_S1024x256_S1024x1536_d1 (by simp only [List.ofFn_succ, List.ofFn_zero]; exact concatenates_S1024x256_S1024x256_S1024x256_S1024x256_S1024x256_S1024x256_S1024x1536_d1) (ix2 i n)
  refine e.trans ?_
  refine concatenate_ofFn_apply (t := S1024x1536) (s₁ := S1024x256) 1 (fun u : Fin 6 => chunkW w ⟨16 + u.val, by omega⟩) _ rfl 256 rfl (ix2 i n) u ?_ (ix2 i j) ?_ ?_
  · show n.val / 256 = u.val
    omega
  · show j.val = n.val % 256
    omega
  · intro b hb
    match b, hb with
    | ⟨0, _⟩, _ => rfl
    | ⟨1, _⟩, hb => exact absurd rfl hb

/-- The kernel's up-projection, chunk by chunk. -/
theorem upW_apply (i : Fin 1024) (u : Fin 22) (j : Fin 256) (n n' : Fin 5632) (hn : n.val = 256 * u.val + j.val) (hn' : n'.val = chunkOff u.val + j.val) :
    (V m c main_v26 : Vec Ideal S1024x5632 .bf16) (ix2 i n) = (m ((c : Thread nD τ).loc main_arg2) : FVec Ideal S1024x5632 .f32) (ix2 i n') := by
  have hu : chunkOff u.val + j.val < 5632 := hn' ▸ n'.isLt
  have e' : (⟨chunkOff u.val + j.val, hu⟩ : Fin 5632) = n' := Fin.ext hn'.symm
  rw [up_eq]
  by_cases h : n.val < 4096
  · rw [dif_pos h, upLow_eq]
    exact (upLow_apply _ ⟨u.val, by omega⟩ i j _ hn).trans ((chunkW_apply _ u i j hu).trans (by rw [e']))
  · rw [dif_neg h, upHigh_eq]
    have eu : (⟨16 + (u.val - 16), by omega⟩ : Fin 22) = u := Fin.ext (by show 16 + (u.val - 16) = u.val; omega)
    refine (upHigh_apply _ ⟨u.val - 16, by omega⟩ i j _ (by show n.val - 4096 = 256 * (u.val - 16) + j.val; omega)).trans ?_
    show chunkW _ ⟨16 + (u.val - 16), _⟩ _ = _
    rw [eu]
    exact (chunkW_apply _ u i j hu).trans (by rw [e'])

theorem upV_apply (i : Fin 1024) (k : Fin 11) (j : Fin 256) :
    (V m c main_v26 : Vec Ideal S1024x5632 .bf16) (ix2 i ⟨256 * (2 * k.val) + j.val, by omega⟩)
      = (m ((c : Thread nD τ).loc main_arg2) : FVec Ideal S1024x5632 .f32) (ix2 i ⟨256 * k.val + j.val, by omega⟩) :=
  upW_apply m c i ⟨2 * k.val, by omega⟩ j _ _ rfl (by show 256 * k.val + j.val = 256 * (2 * k.val / 2) + 2816 * (2 * k.val % 2) + j.val; omega)

theorem upG_apply (i : Fin 1024) (k : Fin 11) (j : Fin 256) :
    (V m c main_v26 : Vec Ideal S1024x5632 .bf16) (ix2 i ⟨256 * (2 * k.val + 1) + j.val, by omega⟩)
      = (m ((c : Thread nD τ).loc main_arg2) : FVec Ideal S1024x5632 .f32) (ix2 i ⟨2816 + (256 * k.val + j.val), by omega⟩) :=
  upW_apply m c i ⟨2 * k.val + 1, by omega⟩ j _ _ rfl (by show 2816 + (256 * k.val + j.val) = 256 * ((2 * k.val + 1) / 2) + 2816 * ((2 * k.val + 1) % 2) + j.val; omega)

end Cert.Kernel2Ideal.Ffn

end
-- ==== Proof.Ffn.Body.lean ====
/-
  The feed-forward kernel's block as named functions of the values it loads: the causal convolution of
  a chunk of the up-projection, the gated activation, and the chunk's share of the down-projection.
  The kernel writes these lines eleven times, once per chunk; `k` says which chunk is meant. Then the
  pieces that the block's run finds are these functions, at a sequence's first tile (case A) and at
  the others (case B).
-/
module

public import proofs.«01_k».proof.Proof.Gen.Kernel2Ideal.Value
public import Idealize.ShloMosaic.Lib.Tactic
public import Idealize.ShloMosaic.Lib.Pipeline.ReadBack

@[expose] public section

noncomputable section

namespace Cert.Kernel2Ideal.Ffn

open Cert.Kernel2Ideal Cert.Kernel2Ideal.Gen Idealize.ShloMosaic Idealize.ShloMosaic.TcCoe Idealize.SL.Sem

variable {F : FTy → Type} [FloatOps F]

theorem slicesUp (k : Fin 22) : S528x5632.Slices ![0, 256 * k.val] S528x256 := by revert k; decide
theorem inbTab (k : Fin 11) : ∀ a, (![k.val, 0, 0] : Fin 3 → Nat) a + S1x8x256.size a ≤ S11x8x256.size a := by revert k; decide
theorem inbDown (k : Fin 11) : ∀ a, (![k.val, 0, 0] : Fin 3 → Nat) a + S1x256x1024.size a ≤ S11x256x1024.size a := by revert k; decide

/-- Chunk `k` of 256 columns of the up-projection. -/
def colsT (k : Fin 22) (u : FVec F S528x5632 .f32) : FVec F S528x256 .f32 :=
  extractStridedSlice S528x256 ![0, 256 * k.val] u (slicesUp k)

/-- Chunk `k`'s table of taps and bias. -/
def tabT (k : Fin 11) (x : Vec F S11x8x256 .f32) : FVec F S8x256 .f32 :=
  shapeCast S8x256 (View.ld x (Rect.unit ![k.val, 0, 0] S1x8x256.size (inbTab k)) : Vec F S1x8x256 .f32) shapeCasts_S1x8x256_S8x256

/-- The causal convolution of a chunk, at the tile's rows. -/
def convT (u : FVec F S528x256 .f32) (tab : FVec F S8x256 .f32) : FVec F S512x256 .f32 :=
  addf (addf (addf
    (mulf (broadcastTo S512x256 (extractStridedSlice S1x256 ![2, 0] tab slices_S8x256_o2_0_S1x256) broadcasts_S1x256_S512x256)
      (extractStridedSlice S512x256 ![16, 0] u slices_S528x256_o16_0_S512x256))
    (mulf (broadcastTo S512x256 (extractStridedSlice S1x256 ![1, 0] tab slices_S8x256_o1_0_S1x256) broadcasts_S1x256_S512x256)
      (extractStridedSlice S512x256 ![16, 0] (dynamicRotate 0 1#32 none u rotates_S528x256_d0) slices_S528x256_o16_0_S512x256)))
    (broadcastTo S512x256 (extractStridedSlice S1x256 ![3, 0] tab slices_S8x256_o3_0_S1x256) broadcasts_S1x256_S512x256))
    (extractStridedSlice S512x256 ![16, 0] (dynamicRotate 0 2#32 none
      (mulf (broadcastTo S528x256 (extractStridedSlice S1x256 ![0, 0] tab slices_S8x256_o0_0_S1x256) broadcasts_S1x256_S528x256) u)
      rotates_S528x256_d0) slices_S528x256_o16_0_S512x256)

/-- The gated activation. -/
def actT (val gate : FVec F S512x256 .f32) : FVec F S512x256 .bf16 :=
  truncf .bf16 (mulf (mulf gate (divf (broadcast S512x256 (Scalar.ofBits .f32 0x3F800000#32))
    (addf (broadcast S512x256 (Scalar.ofBits .f32 0x3F800000#32)) (exp (subf (broadcast S512x256 (Scalar.ofBits .f32 0x00000000#32)) gate))))) val)
    bitsLt_bf16_f32

/-- One more chunk's share of the down-projection. -/
def chunkT (k : Fin 11) (u : FVec F S528x5632 .f32) (x3 x4 : Vec F S11x8x256 .f32) (x5 : Vec F S11x256x1024 .bf16) (f : FVec F S512x1024 .f32) :
    FVec F S512x1024 .f32 :=
  addf f (matmul dot_S512x256_S256x1024_S512x1024_1_0_0_1_n_n none
    (actT (convT (colsT ⟨2 * k.val, by omega⟩ u) (tabT k x3)) (convT (colsT ⟨2 * k.val + 1, by omega⟩ u) (tabT k x4)))
    (shapeCast S256x1024 (View.ld x5 (Rect.unit ![k.val, 0, 0] S1x256x1024.size (inbDown k)) : Vec F S1x256x1024 .bf16) shapeCasts_S1x256x1024_S256x1024)
    (constant S512x1024 .f32 0x00000000#32))

def zeroT : FVec F S512x1024 .f32 := k0_pay7

/-- The tile's down-projection. -/
def downT (u : FVec F S528x5632 .f32) (x3 x4 : Vec F S11x8x256 .f32) (x5 : Vec F S11x256x1024 .bf16) : FVec F S512x1024 .f32 :=
  chunkT 10 u x3 x4 x5 (chunkT 9 u x3 x4 x5 (chunkT 8 u x3 x4 x5 (chunkT 7 u x3 x4 x5 (chunkT 6 u x3 x4 x5 (chunkT 5 u x3 x4 x5 (chunkT 4 u x3 x4 x5 (chunkT 3 u x3 x4 x5 (chunkT 2 u x3 x4 x5 (chunkT 1 u x3 x4 x5 (chunkT 0 u x3 x4 x5 (zeroT)))))))))))

/-- The rows a tile's up-projection reads: the halo, then the tile's own normalised rows. -/
def rowsT (halo : FVec F S16x1024 .bf16) (x0 : Vec F S512x1024 .f32) (x1 : Vec F S1x1024 .f32) : Vec F S528x1024 .bf16 :=
  View.canon [⟨Rect.unit ![16, 0] S512x1024.size inb_S528x1024_S512x1024_16_0, k0_pay5 x0 x1⟩,
    ⟨Rect.unit ![0, 0] S16x1024.size inb_S528x1024_S16x1024_0_0, halo⟩]

/-- The tile's result, from the rows its up-projection reads. -/
def tileT (xe : Vec F S528x1024 .bf16) (x0 : Vec F S512x1024 .f32) (x2 : Vec F S1024x5632 .bf16) (x3 x4 : Vec F S11x8x256 .f32)
    (x5 : Vec F S11x256x1024 .bf16) (x6 : Vec F S1x1024 .f32) : FVec F S512x1024 .f32 :=
  k0_pay1 (k0_pay2 x0) (downT (k0_pay6 xe x2) x3 x4 x5) (k0_pay61 x6) (mulf (downT (k0_pay6 xe x2) x3 x4 x5) (downT (k0_pay6 xe x2) x3 x4 x5))

/-- The halo a later tile of a sequence takes from the rows the tile before read. -/
def haloT (xs : Vec F S528x1024 .bf16) : FVec F S16x1024 .bf16 :=
  k0_pay4 (View.ld xs (Rect.unit ![512, 0] ![16, 1024] inb_S528x1024_S16x1024_512_0) : Vec F S16x1024 .bf16)

theorem hz2 : (![0, 0] : Fin 2 → Nat) = fun _ => 0 := funext fun a => by fin_cases a <;> rfl

theorem sout_A (c : Dev nD) (i : grid0.Coords) (a1 : Memref sig .tc .vmem S512x1024 .f32) (h1 : a1.IsWhole) (a2 : Memref sig .tc .vmem S1x1024 .f32) (h2 : a2.IsWhole) (a3 : Memref sig .tc .vmem S1024x5632 .bf16) (h3 : a3.IsWhole) (a4 : Memref sig .tc .vmem S11x8x256 .f32) (h4 : a4.IsWhole) (a5 : Memref sig .tc .vmem S11x8x256 .f32) (h5 : a5.IsWhole) (a6 : Memref sig .tc .vmem S11x256x1024 .bf16) (h6 : a6.IsWhole) (a7 : Memref sig .tc .vmem S1x1024 .f32) (h7 : a7.IsWhole) (a8 : Memref sig .tc .vmem S512x1024 .f32) (h8 : a8.IsWhole) (a9 : Memref sig .tc .vmem S528x1024 .bf16) (h9 : a9.IsWhole) (hc0 : cond0_0 i) (hc1 : ¬cond0_1 i)
    (x0 : Vec F S512x1024 .f32) (x1 : Vec F S1x1024 .f32) (x2 : Vec F S1024x5632 .bf16) (x3 : Vec F S11x8x256 .f32) (x4 : Vec F S11x8x256 .f32) (x5 : Vec F S11x256x1024 .bf16) (x6 : Vec F S1x1024 .f32) :
    sout0_A_0 c i a1 h1 a2 h2 a3 h3 a4 h4 a5 h5 a6 h6 a7 h7 a8 h8 a9 h9 hc0 hc1 x0 x1 x2 x3 x4 x5 x6 = rowsT k0_pay3 x0 x1 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5 x6)]
  unfold kernelRun0_A
  dsimp only
  sl_unfold_words
  simp (disch := decide) only [↓ View.readCov_skip, ↓ View.readCov_fill]
  simp only [View.readAt_eq_ld, h1.read_unread, h2.read_unread, h3.read_unread, h4.read_unread, h5.read_unread, h6.read_unread, h7.read_unread,
    View.ld_unit_zero (S := S512x1024) hz2, View.ld_unit_zero (S := S1x1024) hz2, View.ld_unit_zero (S := S1024x5632) hz2]
  rfl

theorem sout_B (c : Dev nD) (i : grid0.Coords) (a1 : Memref sig .tc .vmem S512x1024 .f32) (h1 : a1.IsWhole) (a2 : Memref sig .tc .vmem S1x1024 .f32) (h2 : a2.IsWhole) (a3 : Memref sig .tc .vmem S1024x5632 .bf16) (h3 : a3.IsWhole) (a4 : Memref sig .tc .vmem S11x8x256 .f32) (h4 : a4.IsWhole) (a5 : Memref sig .tc .vmem S11x8x256 .f32) (h5 : a5.IsWhole) (a6 : Memref sig .tc .vmem S11x256x1024 .bf16) (h6 : a6.IsWhole) (a7 : Memref sig .tc .vmem S1x1024 .f32) (h7 : a7.IsWhole) (a8 : Memref sig .tc .vmem S512x1024 .f32) (h8 : a8.IsWhole) (a9 : Memref sig .tc .vmem S528x1024 .bf16) (h9 : a9.IsWhole) (hc0 : ¬cond0_0 i) (hc1 : cond0_1 i)
    (x0 : Vec F S512x1024 .f32) (x1 : Vec F S1x1024 .f32) (x2 : Vec F S1024x5632 .bf16) (x3 : Vec F S11x8x256 .f32) (x4 : Vec F S11x8x256 .f32) (x5 : Vec F S11x256x1024 .bf16) (x6 : Vec F S1x1024 .f32) (xs : Vec F S528x1024 .bf16) :
    sout0_B_0 c i a1 h1 a2 h2 a3 h3 a4 h4 a5 h5 a6 h6 a7 h7 a8 h8 a9 h9 hc0 hc1 x0 x1 x2 x3 x4 x5 x6 xs = rowsT (haloT xs) x0 x1 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 x6 xs)]
  unfold kernelRun0_B
  dsimp only
  sl_unfold_words
  simp (disch := decide) only [↓ View.readCov_skip, ↓ View.readCov_fill]
  simp only [View.readAt_eq_ld, h1.read_unread, h2.read_unread, h3.read_unread, h4.read_unread, h5.read_unread, h6.read_unread, h7.read_unread, h9.read_unread,
    View.ld_unit_zero (S := S512x1024) hz2, View.ld_unit_zero (S := S1x1024) hz2, View.ld_unit_zero (S := S1024x5632) hz2]
  rfl

/-- The scratch read back whole, after the halo and the tile's rows are written. -/
theorem readCov_rows (a9 : Memref sig .tc .vmem S528x1024 .bf16) (halo : FVec F S16x1024 .bf16) (x0 : Vec F S512x1024 .f32) (x1 : Vec F S1x1024 .f32) :
    a9.view.readCov [⟨Rect.unit ![16, 0] ![512, 1024] inb_S528x1024_S512x1024_16_0, k0_pay5 x0 x1⟩,
      ⟨Rect.unit ![0, 0] ![16, 1024] inb_S528x1024_S16x1024_0_0, halo⟩]
      (Rect.unit ![0, 0] ![528, 1024] inb_S528x1024_S528x1024_0_0).toLoadRect
      = rowsT halo x0 x1 :=
  (View.readCov_eq_canon' a9.view _ _).trans (View.ld_unit_zero (S := S528x1024) hz2 _ _)

theorem out_A (c : Dev nD) (i : grid0.Coords) (a1 : Memref sig .tc .vmem S512x1024 .f32) (h1 : a1.IsWhole) (a2 : Memref sig .tc .vmem S1x1024 .f32) (h2 : a2.IsWhole) (a3 : Memref sig .tc .vmem S1024x5632 .bf16) (h3 : a3.IsWhole) (a4 : Memref sig .tc .vmem S11x8x256 .f32) (h4 : a4.IsWhole) (a5 : Memref sig .tc .vmem S11x8x256 .f32) (h5 : a5.IsWhole) (a6 : Memref sig .tc .vmem S11x256x1024 .bf16) (h6 : a6.IsWhole) (a7 : Memref sig .tc .vmem S1x1024 .f32) (h7 : a7.IsWhole) (a8 : Memref sig .tc .vmem S512x1024 .f32) (h8 : a8.IsWhole) (a9 : Memref sig .tc .vmem S528x1024 .bf16) (h9 : a9.IsWhole) (hc0 : cond0_0 i) (hc1 : ¬cond0_1 i)
    (x0 : Vec F S512x1024 .f32) (x1 : Vec F S1x1024 .f32) (x2 : Vec F S1024x5632 .bf16) (x3 : Vec F S11x8x256 .f32) (x4 : Vec F S11x8x256 .f32) (x5 : Vec F S11x256x1024 .bf16) (x6 : Vec F S1x1024 .f32) :
    out0_A_7 c i a1 h1 a2 h2 a3 h3 a4 h4 a5 h5 a6 h6 a7 h7 a8 h8 a9 h9 hc0 hc1 x0 x1 x2 x3 x4 x5 x6 = tileT (rowsT k0_pay3 x0 x1) x0 x2 x3 x4 x5 x6 := by
  unfold out0_A_7
  rw [View.read_writes_eq_canon _ _ _ (cover0_A_7 c i a1 h1 a2 h2 a3 h3 a4 h4 a5 h5 a6 h6 a7 h7 a8 h8 a9 h9 hc0 hc1 x0 x1 x2 x3 x4 x5 x6)]
  unfold kernelRun0_A
  dsimp only
  sl_unfold_words
  simp (disch := decide) only [↓ View.readCov_skip, ↓ View.readCov_fill]
  simp only [View.readAt_eq_ld, h1.read_unread, h2.read_unread, h3.read_unread, h4.read_unread, h5.read_unread, h6.read_unread, h7.read_unread,
    View.ld_unit_zero (S := S512x1024) hz2, View.ld_unit_zero (S := S1x1024) hz2, View.ld_unit_zero (S := S1024x5632) hz2]
  simp only [readCov_rows]
  refine (View.canon_cons_unit_zero hz2 _ _ _).trans ?_
  generalize rowsT _ x0 x1 = xe
  unfold tileT
  unfold downT
  rfl

theorem out_B (c : Dev nD) (i : grid0.Coords) (a1 : Memref sig .tc .vmem S512x1024 .f32) (h1 : a1.IsWhole) (a2 : Memref sig .tc .vmem S1x1024 .f32) (h2 : a2.IsWhole) (a3 : Memref sig .tc .vmem S1024x5632 .bf16) (h3 : a3.IsWhole) (a4 : Memref sig .tc .vmem S11x8x256 .f32) (h4 : a4.IsWhole) (a5 : Memref sig .tc .vmem S11x8x256 .f32) (h5 : a5.IsWhole) (a6 : Memref sig .tc .vmem S11x256x1024 .bf16) (h6 : a6.IsWhole) (a7 : Memref sig .tc .vmem S1x1024 .f32) (h7 : a7.IsWhole) (a8 : Memref sig .tc .vmem S512x1024 .f32) (h8 : a8.IsWhole) (a9 : Memref sig .tc .vmem S528x1024 .bf16) (h9 : a9.IsWhole) (hc0 : ¬cond0_0 i) (hc1 : cond0_1 i)
    (x0 : Vec F S512x1024 .f32) (x1 : Vec F S1x1024 .f32) (x2 : Vec F S1024x5632 .bf16) (x3 : Vec F S11x8x256 .f32) (x4 : Vec F S11x8x256 .f32) (x5 : Vec F S11x256x1024 .bf16) (x6 : Vec F S1x1024 .f32) (xs : Vec F S528x1024 .bf16) :
    out0_B_7 c i a1 h1 a2 h2 a3 h3 a4 h4 a5 h5 a6 h6 a7 h7 a8 h8 a9 h9 hc0 hc1 x0 x1 x2 x3 x4 x5 x6 xs = tileT (rowsT (haloT xs) x0 x1) x0 x2 x3 x4 x5 x6 := by
  unfold out0_B_7
  rw [View.read_writes_eq_canon _ _ _ (cover0_B_7 c i a1 h1 a2 h2 a3 h3 a4 h4 a5 h5 a6 h6 a7 h7 a8 h8 a9 h9 hc0 hc1 x0 x1 x2 x3 x4 x5 x6 xs)]
  unfold kernelRun0_B
  dsimp only
  sl_unfold_words
  simp (disch := decide) only [↓ View.readCov_skip, ↓ View.readCov_fill]
  simp only [View.readAt_eq_ld, h1.read_unread, h2.read_unread, h3.read_unread, h4.read_unread, h5.read_unread, h6.read_unread, h7.read_unread, h9.read_unread,
    View.ld_unit_zero (S := S512x1024) hz2, View.ld_unit_zero (S := S1x1024) hz2, View.ld_unit_zero (S := S1024x5632) hz2]
  simp only [readCov_rows]
  refine (View.canon_cons_unit_zero hz2 _ _ _).trans ?_
  unfold haloT
  generalize rowsT _ x0 x1 = xe
  unfold tileT
  unfold downT
  rfl

end Cert.Kernel2Ideal.Ffn

end
-- ==== Proof.Ffn.Spec.lean ====
/-
  The feed-forward sublayer, entry by entry, over the extended reals. Both programs are read in these functions.
-/
module

public import Idealize.ShloMosaic.Lib.Pointwise

@[expose] public section

noncomputable section

namespace Cert.Ffn

open Idealize.ShloMosaic

/-- The sublayer's arguments, entry by entry. -/
structure Args where
  x : Fin 16 → Fin 2048 → Fin 1024 → EReal
  gpre : Fin 1024 → EReal
  up : Fin 1024 → Fin 5632 → EReal
  taps : Fin 3 → Fin 5632 → EReal
  bias : Fin 5632 → EReal
  down : Fin 2816 → Fin 1024 → EReal
  gpost : Fin 1024 → EReal

/-- A row over its root mean square, times a gain. -/
def rms (x g : Fin 1024 → EReal) (j : Fin 1024) : EReal :=
  x j * Ideal.rsqrt (Ideal.div (∑ i, x i * x i) (Ideal.ofBits FTy.f32 1149239296#32) + Ideal.ofBits FTy.f32 897988541#32) * g j

/-- The value `s` steps before step `t`, zero before the sequence's start. -/
def back {n : ℕ} (s : ℕ) (f : Fin n → EReal) (t : Fin n) : EReal := if h : s ≤ t.val then f ⟨t.val - s, by omega⟩ else 0

namespace Args
variable (A : Args) (b : Fin 16)

/-- The up-projection of the normalised row. -/
def upAt (t : Fin 2048) (n : Fin 5632) : EReal := ∑ k, rms (A.x b t) A.gpre k * A.up k n

/-- The causal convolution of a column. -/
def convAt (t : Fin 2048) (n : Fin 5632) : EReal :=
  A.taps 2 n * A.upAt b t n + A.taps 1 n * back 1 (fun t => A.upAt b t n) t + A.bias n + A.taps 0 n * back 2 (fun t => A.upAt b t n) t

/-- The gated activation: the gate's columns follow the values'. -/
def actAt (t : Fin 2048) (n : Fin 2816) : EReal :=
  A.convAt b t ⟨2816 + n.val, by omega⟩ * Ideal.div 1 (1 + Ideal.exp (0 - A.convAt b t ⟨2816 + n.val, by omega⟩)) * A.convAt b t ⟨n.val, by omega⟩

/-- The down-projection. -/
def downAt (t : Fin 2048) (d : Fin 1024) : EReal := ∑ n, A.actAt b t n * A.down n d

/-- The sublayer's result. -/
def outAt (t : Fin 2048) (d : Fin 1024) : EReal := A.x b t d + rms (A.downAt b t) A.gpost d

end Args

end Cert.Ffn

end
-- ==== Proof.Ffn.Read.lean ====
/-
  The feed-forward kernel's block, read at an index over the extended reals, in the sublayer's own functions.
-/
module

public import proofs.«01_k».proof.Proof.Ffn.Body
public import proofs.«01_k».proof.Proof.Ffn.Spec
public import Idealize.ShloMosaic.Lib.Pipeline.ValueKit

@[expose] public section

set_option maxRecDepth 16384

noncomputable section

namespace Cert.Kernel2Ideal.Ffn

open Cert.Kernel2Ideal Cert.Kernel2Ideal.Gen Cert.Ffn Idealize.ShloMosaic Idealize.ShloMosaic.TcCoe

theorem norm_apply (x0 : Vec Ideal S512x1024 .f32) (x1 : Vec Ideal S1x1024 .f32) (l : Fin 512) (j : Fin 1024) :
    k0_pay5 x0 x1 (ix2 l j) = rms (fun j => x0 (ix2 l j)) (fun j => x1 (ix2 0 j)) j := by
  pointwise [k0_pay5, k0_pay2]
  rfl

theorem post_apply (x0 : Vec Ideal S512x1024 .f32) (f : FVec Ideal S512x1024 .f32) (x6 : Vec Ideal S1x1024 .f32) (l : Fin 512) (j : Fin 1024) :
    k0_pay1 (k0_pay2 x0) f (k0_pay61 x6) (mulf f f) (ix2 l j) = x0 (ix2 l j) + rms (fun j => f (ix2 l j)) (fun j => x6 (ix2 0 j)) j := by
  pointwise [k0_pay1, k0_pay2, k0_pay61]
  rfl

theorem up_apply (x : Vec Ideal S528x1024 .bf16) (w : Vec Ideal S1024x5632 .bf16) (l : Fin 528) (j : Fin 5632) :
    k0_pay6 x w (ix2 l j) = ∑ k, x (ix2 l k) * w (ix2 k j) := by
  pointwise [k0_pay6]

theorem convT_apply (u : FVec Ideal S528x256 .f32) (tab : FVec Ideal S8x256 .f32) (l : Fin 512) (j : Fin 256) :
    convT u tab (ix2 l j) = tab (ix2 2 j) * u (ix2 ⟨16 + l.val, by omega⟩ j) + tab (ix2 1 j) * u (ix2 ⟨15 + l.val, by omega⟩ j) + tab (ix2 3 j)
      + tab (ix2 0 j) * u (ix2 ⟨14 + l.val, by omega⟩ j) := by
  pointwise [convT]
  have e1 : (⟨(16 + l.val + 528 - 1) % 528, by omega⟩ : Fin 528) = ⟨15 + l.val, by omega⟩ := Fin.ext (by show (16 + l.val + 528 - 1) % 528 = 15 + l.val; omega)
  have e2 : (⟨(16 + l.val + 528 - 2) % 528, by omega⟩ : Fin 528) = ⟨14 + l.val, by omega⟩ := Fin.ext (by show (16 + l.val + 528 - 2) % 528 = 14 + l.val; omega)
  rw [e1, e2]

theorem colsT_apply (k : Fin 22) (u : FVec Ideal S528x5632 .f32) (l : Fin 528) (j : Fin 256) :
    colsT k u (ix2 l j) = u (ix2 l ⟨256 * k.val + j.val, by omega⟩) := by
  pointwise [colsT]

theorem tab_cast (x : Vec Ideal S1x8x256 .f32) (r : Fin 8) (j : Fin 256) :
    (shapeCast S8x256 x shapeCasts_S1x8x256_S8x256 : FVec Ideal S8x256 .f32) (ix2 r j) = x (ix3 0 r j) := by
  pointwise []

theorem tabT_apply (k : Fin 11) (x : Vec Ideal S11x8x256 .f32) (r : Fin 8) (j : Fin 256) :
    tabT k x (ix2 r j) = x (ix3 k r j) := by
  refine (tab_cast _ r j).trans (congrArg x (funext fun a => Fin.ext ?_))
  match a with
  | ⟨0, _⟩ => show k.val + 1 * 0 = k.val; omega
  | ⟨1, _⟩ => show 0 + 1 * r.val = r.val; omega
  | ⟨2, _⟩ => show 0 + 1 * j.val = j.val; omega

theorem actT_apply (v g : FVec Ideal S512x256 .f32) (l : Fin 512) (j : Fin 256) :
    actT v g (ix2 l j) = g (ix2 l j) * Ideal.div 1 (1 + Ideal.exp (0 - g (ix2 l j))) * v (ix2 l j) := by
  pointwise [actT]

theorem share_apply (f : FVec Ideal S512x1024 .f32) (a : FVec Ideal S512x256 .bf16) (w : FVec Ideal S1x256x1024 .bf16) (l : Fin 512) (d : Fin 1024) :
    (addf f (matmul dot_S512x256_S256x1024_S512x1024_1_0_0_1_n_n none a (shapeCast S256x1024 w shapeCasts_S1x256x1024_S256x1024 : FVec Ideal S256x1024 .bf16)
      (constant S512x1024 .f32 0x00000000#32)) : FVec Ideal S512x1024 .f32) (ix2 l d) = f (ix2 l d) + ∑ j, a (ix2 l j) * w (ix3 0 j d) := by
  pointwise []

theorem down_ld (k : Fin 11) (x5 : Vec Ideal S11x256x1024 .bf16) (j : Fin 256) (d : Fin 1024) :
    (View.ld x5 (Rect.unit ![k.val, 0, 0] S1x256x1024.size (inbDown k)) : Vec Ideal S1x256x1024 .bf16) (ix3 0 j d) = x5 (ix3 k j d) := by
  refine congrArg x5 (funext fun a => Fin.ext ?_)
  match a with
  | ⟨0, _⟩ => show k.val + 1 * 0 = k.val; omega
  | ⟨1, _⟩ => show 0 + 1 * j.val = j.val; omega
  | ⟨2, _⟩ => show 0 + 1 * d.val = d.val; omega

theorem zeroT_apply (l : Fin 512) (d : Fin 1024) : (zeroT : FVec Ideal S512x1024 .f32) (ix2 l d) = (0 : EReal) := by
  pointwise [zeroT, k0_pay7]

/-- A sum over the hidden columns, chunk by chunk. -/
theorem sum_chunks (f : Fin 2816 → EReal) : ∑ n, f n = ∑ k : Fin 11, ∑ j : Fin 256, f ⟨256 * k.val + j.val, by omega⟩ := by
  rw [← Fintype.sum_prod_type']
  refine (Fintype.sum_equiv (finProdFinEquiv (m := 11) (n := 256)) _ _ fun p => ?_).symm
  refine congrArg f (Fin.ext ?_)
  show 256 * p.1.val + p.2.val = p.2.val + 256 * p.1.val
  omega

theorem sum_eleven (f : Fin 11 → EReal) : ∑ k, f k = f 0 + f 1 + f 2 + f 3 + f 4 + f 5 + f 6 + f 7 + f 8 + f 9 + f 10 := by
  simp only [Fin.sum_univ_castSucc, Fin.sum_univ_zero, zero_add]
  rfl

/-- Row `r` of the rows a tile's up-projection reads: the first 16 are the sequence's rows before the tile, zero before the sequence's start. -/
def rowAt (A : Args) (b : Fin 16) (q : Fin 4) (r : Fin 528) (k : Fin 1024) : EReal :=
  if h : 16 ≤ 512 * q.val + r.val then rms (A.x b ⟨512 * q.val + r.val - 16, by omega⟩) A.gpre k else 0

/-- The blocks a tile reads, as the sublayer's arguments. -/
structure Blocks (A : Args) (b : Fin 16) (q : Fin 4) (x0 : Vec Ideal S512x1024 .f32) (x1 : Vec Ideal S1x1024 .f32) (x2 : Vec Ideal S1024x5632 .bf16)
    (x3 x4 : Vec Ideal S11x8x256 .f32) (x5 : Vec Ideal S11x256x1024 .bf16) (x6 : Vec Ideal S1x1024 .f32) : Prop where
  x : ∀ (l : Fin 512) (j : Fin 1024), x0 (ix2 l j) = A.x b ⟨512 * q.val + l.val, by omega⟩ j
  gpre : ∀ j : Fin 1024, x1 (ix2 0 j) = A.gpre j
  upV : ∀ (i : Fin 1024) (k : Fin 11) (j : Fin 256), x2 (ix2 i ⟨256 * (2 * k.val) + j.val, by omega⟩) = A.up i ⟨256 * k.val + j.val, by omega⟩
  upG : ∀ (i : Fin 1024) (k : Fin 11) (j : Fin 256), x2 (ix2 i ⟨256 * (2 * k.val + 1) + j.val, by omega⟩) = A.up i ⟨2816 + (256 * k.val + j.val), by omega⟩
  tapV : ∀ (r : Fin 3) (k : Fin 11) (j : Fin 256), x3 (ix3 k ⟨r.val, by omega⟩ j) = A.taps r ⟨256 * k.val + j.val, by omega⟩
  tapG : ∀ (r : Fin 3) (k : Fin 11) (j : Fin 256), x4 (ix3 k ⟨r.val, by omega⟩ j) = A.taps r ⟨2816 + (256 * k.val + j.val), by omega⟩
  biasV : ∀ (k : Fin 11) (j : Fin 256), x3 (ix3 k 3 j) = A.bias ⟨256 * k.val + j.val, by omega⟩
  biasG : ∀ (k : Fin 11) (j : Fin 256), x4 (ix3 k 3 j) = A.bias ⟨2816 + (256 * k.val + j.val), by omega⟩
  down : ∀ (k : Fin 11) (j : Fin 256) (d : Fin 1024), x5 (ix3 k j d) = A.down ⟨256 * k.val + j.val, by omega⟩ d
  gpost : ∀ j : Fin 1024, x6 (ix2 0 j) = A.gpost j

section
variable {A : Args} {b : Fin 16} {q : Fin 4}

/-- The rows a tile's up-projection reads, from the halo. -/
theorem rowsT_apply {x0 : Vec Ideal S512x1024 .f32} {x1 : Vec Ideal S1x1024 .f32} (halo : FVec Ideal S16x1024 .bf16)
    (hx : ∀ (l : Fin 512) (j : Fin 1024), x0 (ix2 l j) = A.x b ⟨512 * q.val + l.val, by omega⟩ j) (hg : ∀ j : Fin 1024, x1 (ix2 0 j) = A.gpre j)
    (hh : ∀ (r : Fin 16) (k : Fin 1024), halo (ix2 r k) = rowAt A b q ⟨r.val, by omega⟩ k) (r : Fin 528) (k : Fin 1024) :
    rowsT halo x0 x1 (ix2 r k) = rowAt A b q r k := by
  unfold rowsT
  have hcover := fun y => View.cover_of_tiledBy [(⟨Rect.unit ![16, 0] S512x1024.size inb_S528x1024_S512x1024_16_0, k0_pay5 x0 x1⟩ : View.Piece (Elt Ideal) S528x1024 .bf16),
    ⟨Rect.unit ![0, 0] S16x1024.size inb_S528x1024_S16x1024_0_0, halo⟩] ![16, 1024] (by sl_kernel_rfl) y
  canon_tiles x h using hcover _
  · have h0' : r.val = 16 + (x 0).val := h0
    have h1' : k.val = (x 1).val := h1
    obtain ⟨l, j, rfl⟩ : ∃ (l : Fin 512) (j : Fin 1024), x = ix2 l j := ⟨x 0, x 1, funext fun a => by match a with | ⟨0, _⟩ => rfl | ⟨1, _⟩ => rfl⟩
    change r.val = 16 + l.val at h0'
    change k.val = j.val at h1'
    have ek : j = k := Fin.ext (by omega)
    subst ek
    rw [norm_apply]
    unfold rowAt
    rw [dif_pos (by omega)]
    have er : (⟨512 * q.val + r.val - 16, by omega⟩ : Fin 2048) = ⟨512 * q.val + l.val, by omega⟩ := Fin.ext (by show 512 * q.val + r.val - 16 = 512 * q.val + l.val; omega)
    rw [er]
    simp only [hx, hg]
  · have h0' : r.val = (x 0).val := h0
    have h1' : k.val = (x 1).val := h1
    obtain ⟨l, j, rfl⟩ : ∃ (l : Fin 16) (j : Fin 1024), x = ix2 l j := ⟨x 0, x 1, funext fun a => by match a with | ⟨0, _⟩ => rfl | ⟨1, _⟩ => rfl⟩
    change r.val = l.val at h0'
    change k.val = j.val at h1'
    have ek : j = k := Fin.ext (by omega)
    subst ek
    have er : (⟨l.val, by omega⟩ : Fin 528) = r := Fin.ext (by show l.val = r.val; omega)
    rw [hh, er]

variable {x0 : Vec Ideal S512x1024 .f32} {x1 : Vec Ideal S1x1024 .f32} {x2 : Vec Ideal S1024x5632 .bf16}
    {x3 x4 : Vec Ideal S11x8x256 .f32} {x5 : Vec Ideal S11x256x1024 .bf16} {x6 : Vec Ideal S1x1024 .f32} (H : Blocks A b q x0 x1 x2 x3 x4 x5 x6)
    {xe : Vec Ideal S528x1024 .bf16} (he : ∀ r k, xe (ix2 r k) = rowAt A b q r k)
include H he

/-- A column of the up-projection, `s` rows back. -/
theorem up_back (s : ℕ) (hs : s ≤ 16) (l : Fin 512) (n n' : Fin 5632) (hn : ∀ i, x2 (ix2 i n) = A.up i n') (h) :
    k0_pay6 xe x2 (ix2 ⟨16 + l.val - s, h⟩ n) = back s (fun t => A.upAt b t n') ⟨512 * q.val + l.val, by omega⟩ := by
  rw [up_apply]
  simp only [he, hn]
  unfold back rowAt
  by_cases hq : s ≤ 512 * q.val + l.val
  · rw [dif_pos hq]
    simp only [dif_pos (show 16 ≤ 512 * q.val + (16 + l.val - s) by omega)]
    have er : (⟨512 * q.val + (16 + l.val - s) - 16, by omega⟩ : Fin 2048) = ⟨512 * q.val + l.val - s, by omega⟩ := Fin.ext (by show 512 * q.val + (16 + l.val - s) - 16 = 512 * q.val + l.val - s; omega)
    rw [er]
    rfl
  · rw [dif_neg hq]
    simp only [dif_neg (show ¬ 16 ≤ 512 * q.val + (16 + l.val - s) by omega), zero_mul, Finset.sum_const_zero]

/-- A column of the convolution. -/
theorem conv_col (k : Fin 22) (tab : FVec Ideal S8x256 .f32) (l : Fin 512) (j : Fin 256) (n' : Fin 5632)
    (hn : ∀ i, x2 (ix2 i ⟨256 * k.val + j.val, by omega⟩) = A.up i n') (h0 : tab (ix2 0 j) = A.taps 0 n') (h1 : tab (ix2 1 j) = A.taps 1 n')
    (h2 : tab (ix2 2 j) = A.taps 2 n') (h3 : tab (ix2 3 j) = A.bias n') :
    convT (colsT k (k0_pay6 xe x2)) tab (ix2 l j) = A.convAt b ⟨512 * q.val + l.val, by omega⟩ n' := by
  rw [convT_apply, colsT_apply, colsT_apply, colsT_apply, h0, h1, h2, h3]
  unfold Args.convAt
  have b0 := up_back H he 0 (by omega) l _ n' hn (by omega)
  have b1 := up_back H he 1 (by omega) l _ n' hn (by omega)
  have b2 := up_back H he 2 (by omega) l _ n' hn (by omega)
  have e1 : (⟨16 + l.val - 1, by omega⟩ : Fin 528) = ⟨15 + l.val, by omega⟩ := Fin.ext (by show 16 + l.val - 1 = 15 + l.val; omega)
  have e2 : (⟨16 + l.val - 2, by omega⟩ : Fin 528) = ⟨14 + l.val, by omega⟩ := Fin.ext (by show 16 + l.val - 2 = 14 + l.val; omega)
  rw [e1] at b1
  rw [e2] at b2
  rw [b1, b2, ← show back 0 (fun t => A.upAt b t n') ⟨512 * q.val + l.val, by omega⟩ = A.upAt b ⟨512 * q.val + l.val, by omega⟩ n' from rfl, ← b0]
  rfl

/-- A chunk's share of the down-projection. -/
theorem chunkT_apply (k : Fin 11) (f : FVec Ideal S512x1024 .f32) (l : Fin 512) (d : Fin 1024) :
    chunkT k (k0_pay6 xe x2) x3 x4 x5 f (ix2 l d) = f (ix2 l d)
      + ∑ j : Fin 256, A.actAt b ⟨512 * q.val + l.val, by omega⟩ ⟨256 * k.val + j.val, by omega⟩ * A.down ⟨256 * k.val + j.val, by omega⟩ d := by
  unfold chunkT
  rw [share_apply]
  refine congrArg (f (ix2 l d) + ·) (Finset.sum_congr rfl fun j _ => ?_)
  rw [down_ld, H.down, actT_apply]
  rw [conv_col H he ⟨2 * k.val, by omega⟩ (tabT k x3) l j ⟨256 * k.val + j.val, by omega⟩ (fun i => H.upV i k j)
    ((tabT_apply k x3 0 j).trans (H.tapV 0 k j)) ((tabT_apply k x3 1 j).trans (H.tapV 1 k j)) ((tabT_apply k x3 2 j).trans (H.tapV 2 k j))
    ((tabT_apply k x3 3 j).trans (H.biasV k j)),
    conv_col H he ⟨2 * k.val + 1, by omega⟩ (tabT k x4) l j ⟨2816 + (256 * k.val + j.val), by omega⟩ (fun i => H.upG i k j)
    ((tabT_apply k x4 0 j).trans (H.tapG 0 k j)) ((tabT_apply k x4 1 j).trans (H.tapG 1 k j)) ((tabT_apply k x4 2 j).trans (H.tapG 2 k j))
    ((tabT_apply k x4 3 j).trans (H.biasG k j))]
  rfl

/-- The tile's down-projection. -/
theorem downT_apply (l : Fin 512) (d : Fin 1024) :
    downT (k0_pay6 xe x2) x3 x4 x5 (ix2 l d) = A.downAt b ⟨512 * q.val + l.val, by omega⟩ d := by
  unfold downT Args.downAt
  simp only [chunkT_apply H he, zeroT_apply, zero_add]
  rw [sum_chunks]
  refine Eq.trans ?_ (sum_eleven _).symm
  rfl

/-- The tile's result. -/
theorem tileT_apply (l : Fin 512) (d : Fin 1024) :
    tileT xe x0 x2 x3 x4 x5 x6 (ix2 l d) = A.outAt b ⟨512 * q.val + l.val, by omega⟩ d := by
  unfold tileT
  rw [post_apply]
  simp only [downT_apply H he, H.x, H.gpost]
  rfl

end

end Cert.Kernel2Ideal.Ffn

end
-- ==== Proof.Ffn.Blocks.lean ====
/-
  The blocks the feed-forward kernel's body reads at a grid point, as the sublayer's arguments.
-/
module

public import proofs.«01_k».proof.Proof.Ffn.Entry
public import proofs.«01_k».proof.Proof.Ffn.Read
public import Idealize.ShloMosaic.Lib.Pipeline.ValueKit

@[expose] public section

set_option maxRecDepth 16384

noncomputable section

namespace Cert.Kernel2Ideal.Ffn

open Cert.Kernel2Ideal Cert.Kernel2Ideal.Gen Cert.Ffn Idealize.ShloMosaic Idealize.ShloMosaic.TcCoe

variable (m : (ℓ : Loc nD τ sig) → Buf (Elt Ideal) ℓ) (c : Dev nD)

/-- The kernel's arguments, entry by entry. -/
def argsK : Args where
  x b t j := (m ((c : Thread nD τ).loc main_arg0) : FVec Ideal S16x2048x1024 .f32) (ix3 b t j)
  gpre j := (m ((c : Thread nD τ).loc main_arg1) : FVec Ideal S1024 .f32) (ix1 j)
  up k n := (m ((c : Thread nD τ).loc main_arg2) : FVec Ideal S1024x5632 .f32) (ix2 k n)
  taps i n := (m ((c : Thread nD τ).loc main_arg3) : FVec Ideal S3x5632 .f32) (ix2 i n)
  bias n := (m ((c : Thread nD τ).loc main_arg4) : FVec Ideal S5632 .f32) (ix1 n)
  down n d := (m ((c : Thread nD τ).loc main_arg5) : FVec Ideal S2816x1024 .f32) (ix2 n d)
  gpost j := (m ((c : Thread nD τ).loc main_arg6) : FVec Ideal S1024 .f32) (ix1 j)

theorem lt_points (t : Fin cfg0.N) : t.val < 64 := lt_of_lt_of_eq t.isLt (show cfg0.N = 64 from N_0)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0] := by decide +kernel

theorem blk0_apply (t : Fin cfg0.N) (l : Fin 512) (j : Fin 1024) :
    (iblk m c 0 t : Vec Ideal S512x1024 .f32) (ix2 l j) = V m c main_v0 (ix2 ⟨512 * t.val + l.val, by have := lt_points t; omega⟩ j) := by
  blk_ext [iblk, idx0 t]

theorem blk1_apply (t : Fin cfg0.N) (j : Fin 1024) :
    (iblk m c 1 t : Vec Ideal S1x1024 .f32) (ix2 0 j) = V m c main_v43 (ix2 0 j) := by
  blk_ext [iblk, idx1 t]

theorem blk2_apply (t : Fin cfg0.N) (i : Fin 1024) (n : Fin 5632) :
    (iblk m c 2 t : Vec Ideal S1024x5632 .bf16) (ix2 i n) = V m c main_v26 (ix2 i n) := by
  blk_ext [iblk, idx2 t]

theorem blk3_apply (t : Fin cfg0.N) (k : Fin 11) (r : Fin 8) (j : Fin 256) :
    (iblk m c 3 t : Vec Ideal S11x8x256 .f32) (ix3 k r j) = V m c main_v33 (ix3 k r j) := by
  blk_ext [iblk, idx3 t]

theorem blk4_apply (t : Fin cfg0.N) (k : Fin 11) (r : Fin 8) (j : Fin 256) :
    (iblk m c 4 t : Vec Ideal S11x8x256 .f32) (ix3 k r j) = V m c main_v40 (ix3 k r j) := by
  blk_ext [iblk, idx4 t]

theorem blk5_apply (t : Fin cfg0.N) (k : Fin 11) (j : Fin 256) (d : Fin 1024) :
    (iblk m c 5 t : Vec Ideal S11x256x1024 .bf16) (ix3 k j d) = V m c main_v42 (ix3 k j d) := by
  blk_ext [iblk, idx5 t]

theorem blk6_apply (t : Fin cfg0.N) (j : Fin 1024) :
    (iblk m c 6 t : Vec Ideal S1x1024 .f32) (ix2 0 j) = V m c main_v44 (ix2 0 j) := by
  blk_ext [iblk, idx6 t]

/-- The blocks at tile `q` of sequence `b`. -/
theorem blocks_eq (b : Fin 16) (q : Fin 4) (t : Fin cfg0.N) (ht : t.val = 4 * b.val + q.val) :
    Blocks (argsK m c) b q (iblk m c 0 t) (iblk m c 1 t) (iblk m c 2 t) (iblk m c 3 t) (iblk m c 4 t) (iblk m c 5 t) (iblk m c 6 t) where
  x l j := by
    rw [blk0_apply]
    refine (x_apply m c _ j).trans ?_
    have e0 : ∀ h, (⟨(512 * t.val + l.val) / 2048, h⟩ : Fin 16) = b := fun h => Fin.ext (by show (512 * t.val + l.val) / 2048 = b.val; omega)
    have e1 : ∀ h, (⟨(512 * t.val + l.val) % 2048, h⟩ : Fin 2048) = ⟨512 * q.val + l.val, by omega⟩ :=
      fun h => Fin.ext (by show (512 * t.val + l.val) % 2048 = 512 * q.val + l.val; omega)
    simp only [e0, e1]
    rfl
  gpre j := (blk1_apply m c t j).trans (gpre_apply m c j)
  upV i k j := (blk2_apply m c t i _).trans (upV_apply m c i k j)
  upG i k j := (blk2_apply m c t i _).trans (upG_apply m c i k j)
  tapV r k j := (blk3_apply m c t k _ j).trans (tapV_apply m c r k j)
  tapG r k j := (blk4_apply m c t k _ j).trans (tapG_apply m c r k j)
  biasV k j := (blk3_apply m c t k 3 j).trans (biasV_apply m c k j)
  biasG k j := (blk4_apply m c t k 3 j).trans (biasG_apply m c k j)
  down k j d := (blk5_apply m c t k j d).trans (down_apply m c k j d)
  gpost j := (blk6_apply m c t j).trans (gpost_apply m c j)

end Cert.Kernel2Ideal.Ffn

end
-- ==== Proof.Ffn.Chain.lean ====
/-
  The feed-forward kernel's grid, tile by tile: the halo each tile leaves to the next, and the launch's result.
-/
module

public import proofs.«01_k».proof.Proof.Ffn.Blocks
public import proofs.«01_k».proof.Proof.Gen.Kernel2Ideal.Value

@[expose] public section

set_option maxRecDepth 16384

noncomputable section

namespace Cert.Kernel2Ideal.Ffn

open Cert.Kernel2Ideal Cert.Kernel2Ideal.Gen Cert.Ffn Idealize.ShloMosaic Idealize.ShloMosaic.TcCoe

variable (m : (ℓ : Loc nD τ sig) → Buf (Elt Ideal) ℓ) (c : Dev nD)

/-- Before a sequence's start there are zeros. -/
theorem noHalo_apply (r : Fin 16) (k : Fin 1024) : (k0_pay3 : FVec Ideal S16x1024 .bf16) (ix2 r k) = (0 : EReal) := by
  pointwise [k0_pay3]

/-- A tile's halo is the last 16 rows of the tile before. -/
theorem haloT_apply (xs : Vec Ideal S528x1024 .bf16) (r : Fin 16) (k : Fin 1024) : haloT xs (ix2 r k) = xs (ix2 ⟨512 + r.val, by omega⟩ k) := by
  unfold haloT
  pointwise [k0_pay4]

section
variable {m c} (b : Fin 16) (q : Fin 4) (t : Fin cfg0.N) (ht : t.val = 4 * b.val + q.val)
include ht

/-- A sequence's first tile. -/
theorem first_eq (h0 : q.val = 0) :
    (∀ r k, (outsAt0 m c t.val t.isLt).2 (ix2 r k) = rowAt (argsK m c) b q r k)
    ∧ ∀ (l : Fin 512) (d : Fin 1024), (outsAt0 m c t.val t.isLt).1 (ix2 l d) = (argsK m c).outAt b ⟨512 * q.val + l.val, by omega⟩ d := by
  have H := blocks_eq m c b q t ht
  have he := rowsT_apply (A := argsK m c) (b := b) (q := q) (k0_pay3 : FVec Ideal S16x1024 .bf16) H.x H.gpre fun r k => by
    rw [noHalo_apply]
    unfold rowAt
    rw [dif_neg (by show ¬ 16 ≤ 512 * q.val + r.val; omega)]
  rw [outsAt0_A m c t (by omega) (by omega)]
  constructor
  · intro r k
    dsimp only
    rw [sout_A]
    exact he r k
  · intro l d
    dsimp only
    rw [out_A]
    exact tileT_apply H he l d

/-- A later tile of a sequence, from the rows the tile before left. -/
theorem later_eq (p : Fin 4) (hp : q.val = p.val + 1) (h) (hxs : ∀ r k, (outsAt0 m c (t.val - 1) h).2 (ix2 r k) = rowAt (argsK m c) b p r k) :
    (∀ r k, (outsAt0 m c t.val t.isLt).2 (ix2 r k) = rowAt (argsK m c) b q r k)
    ∧ ∀ (l : Fin 512) (d : Fin 1024), (outsAt0 m c t.val t.isLt).1 (ix2 l d) = (argsK m c).outAt b ⟨512 * q.val + l.val, by omega⟩ d := by
  have H := blocks_eq m c b q t ht
  rw [outsAt0_B m c t (by omega) (by omega)]
  generalize (outsAt0 m c (t.val - 1) h).2 = xs at hxs ⊢
  have he := rowsT_apply (A := argsK m c) (b := b) (q := q) (haloT xs) H.x H.gpre fun r k => by
    rw [haloT_apply, hxs]
    unfold rowAt
    have e : 512 * p.val + (512 + r.val) = 512 * q.val + r.val := by omega
    simp only [e]
  constructor
  · intro r k
    dsimp only
    rw [sout_B]
    exact he r k
  · intro l d
    dsimp only
    rw [out_B]
    exact tileT_apply H he l d

end

/-- What a tile leaves: the rows its up-projection read, and its rows of the result. -/
theorem point_eq (b : Fin 16) : ∀ (q : ℕ) (hq : q < 4) (hn : 4 * b.val + q < cfg0.N),
    (∀ r k, (outsAt0 m c (4 * b.val + q) hn).2 (ix2 r k) = rowAt (argsK m c) b ⟨q, hq⟩ r k)
    ∧ ∀ (l : Fin 512) (d : Fin 1024), (outsAt0 m c (4 * b.val + q) hn).1 (ix2 l d) = (argsK m c).outAt b ⟨512 * q + l.val, by omega⟩ d
  | 0, hq, hn => first_eq b ⟨0, hq⟩ ⟨4 * b.val + 0, hn⟩ rfl rfl
  | q + 1, hq, hn => later_eq b ⟨q + 1, hq⟩ ⟨4 * b.val + (q + 1), hn⟩ rfl ⟨q, by omega⟩ rfl (Nat.lt_of_succ_lt hn)
    (point_eq b q (by omega) (Nat.lt_of_succ_lt hn)).1

/-- The launch's result at row `l` of tile `q` of sequence `b`. -/
theorem G7_apply (b : Fin 16) (q : Fin 4) (l : Fin 512) (d : Fin 1024) :
    Value.G7 m c (ix2 ⟨2048 * b.val + 512 * q.val + l.val, by omega⟩ d : S32768x1024.Idx) = (argsK m c).outAt b ⟨512 * q.val + l.val, by omega⟩ d := by
  have hN : cfg0.N = 64 := N_0
  have hp : Value.pt7Of (ix2 ⟨2048 * b.val + 512 * q.val + l.val, by omega⟩ d : S32768x1024.Idx) = 4 * b.val + q.val := by
    show 1 * ((2048 * b.val + 512 * q.val + l.val) / 512 - 0) + 1 * (d.val / 1024 - 0) = _
    omega
  have hn : 4 * b.val + q.val < cfg0.N := by omega
  have hl : Value.loc7Of (ix2 ⟨2048 * b.val + 512 * q.val + l.val, by omega⟩ d : S32768x1024.Idx) = (ix2 l d : S512x1024.Idx) := by
    funext a
    apply Fin.ext
    match a with
    | ⟨0, _⟩ => show (2048 * b.val + 512 * q.val + l.val) % 512 = l.val; omega
    | ⟨1, _⟩ => show d.val % 1024 = d.val; omega
  unfold Value.G7
  simp only [hp, hl]
  rw [dif_pos hn, ← Value.outsAt0_sweep m c _ hn]
  exact (point_eq m c b q.val q.isLt hn).2 l d

end Cert.Kernel2Ideal.Ffn

end
-- ==== Proof.Ffn.RefRead.lean ====
/-
  The reference of the feed-forward sublayer, read at an index over the extended reals.
-/
module

public import proofs.«01_k».proof.Proof.Gen.Reference2Ideal.Run
public import proofs.«01_k».proof.Proof.Ffn.Spec

@[expose] public section

set_option maxRecDepth 16384

noncomputable section

namespace Cert.Reference2Ideal.Ffn

open Cert.Reference2Ideal Cert.Reference2Ideal.Gen Cert.Ffn Idealize.ShloMosaic Idealize.ShloMosaic.TcCoe

variable {F : FTy → Type} [FloatOps F]

/-- The norm of every row. -/
def normR (x : FVec F S16x2048x1024 .f32) (g : FVec F S1024 .f32) : FVec F S16x2048x1024 .f32 :=
  mulf (mulf x (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf x x) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The up-projection. -/
def upR (x : FVec F S16x2048x1024 .f32) (w : FVec F S1024x5632 .f32) : FVec F S16x2048x5632 .f32 :=
  Host.dotGeneral dot_S16x2048x1024_S1024x5632_S16x2048x5632_2_0_01_1_n_n none x w

/-- Two zero rows before each sequence. -/
def padR (u : FVec F S16x2048x5632 .f32) : FVec F S16x2050x5632 .f32 :=
  pad S16x2050x5632 ![0, 2, 0] ![0, 0, 0] ![0, 0, 0] u (sitofp .f32 (constantI S_ 32 0#32)) pads_S16x2048x5632_S16x2050x5632_000_200_000 h_S_

/-- The convolution. -/
def convR (p : FVec F S16x2050x5632 .f32) (w : FVec F S3x5632 .f32) (b : FVec F S5632 .f32) : FVec F S16x2048x5632 .f32 :=
  addf (addf (addf (addf (broadcastInDim S16x2048x5632 ![] bcast_S_S16x2048x5632 (constant S_ .f32 0x00000000#32))
    (mulf (extractStridedSlice S16x2048x5632 ![0, 0, 0] p slices_S16x2050x5632_S16x2048x5632_0_0_0) (broadcastInDim S16x2048x5632 ![0, 1, 2] bcast_S1x1x5632_S16x2048x5632_0_1_2 (broadcastInDim S1x1x5632 ![2] bcast_S5632_S1x1x5632_2 (shapeCast _ (extractStridedSlice S1x5632 ![0, 0] w slices_S3x5632_S1x5632_0_0) shapeCasts_S1x5632_S5632)))))
    (mulf (extractStridedSlice S16x2048x5632 ![0, 1, 0] p slices_S16x2050x5632_S16x2048x5632_0_1_0) (broadcastInDim S16x2048x5632 ![0, 1, 2] bcast_S1x1x5632_S16x2048x5632_0_1_2 (broadcastInDim S1x1x5632 ![2] bcast_S5632_S1x1x5632_2 (shapeCast _ (extractStridedSlice S1x5632 ![1, 0] w slices_S3x5632_S1x5632_1_0) shapeCasts_S1x5632_S5632)))))
    (mulf (extractStridedSlice S16x2048x5632 ![0, 2, 0] p slices_S16x2050x5632_S16x2048x5632_0_2_0) (broadcastInDim S16x2048x5632 ![0, 1, 2] bcast_S1x1x5632_S16x2048x5632_0_1_2 (broadcastInDim S1x1x5632 ![2] bcast_S5632_S1x1x5632_2 (shapeCast _ (extractStridedSlice S1x5632 ![2, 0] w slices_S3x5632_S1x5632_2_0) shapeCasts_S1x5632_S5632)))))
    (broadcastInDim S16x2048x5632 ![0, 1, 2] bcast_S1x1x5632_S16x2048x5632_0_1_2 (broadcastInDim S1x1x5632 ![2] bcast_S5632_S1x1x5632_2 b))

/-- The gated activation. -/
def actR (v : FVec F S16x2048x5632 .f32) : FVec F S16x2048x2816 .f32 :=
  mulf (mulf (extractStridedSlice S16x2048x2816 ![0, 0, 2816] v slices_S16x2048x5632_S16x2048x2816_0_0_2816)
    (Host.divf (broadcastInDim S16x2048x2816 ![] bcast_S_S16x2048x2816 (constant S_ .f32 0x3F800000#32)) (addf (broadcastInDim S16x2048x2816 ![] bcast_S_S16x2048x2816 (constant S_ .f32 0x3F800000#32))
      (Host.exp (Host.negf (extractStridedSlice S16x2048x2816 ![0, 0, 2816] v slices_S16x2048x5632_S16x2048x2816_0_0_2816))))))
    (extractStridedSlice S16x2048x2816 ![0, 0, 0] v slices_S16x2048x5632_S16x2048x2816_0_0_0)

/-- The down-projection. -/
def downR (a : FVec F S16x2048x2816 .f32) (w : FVec F S2816x1024 .f32) : FVec F S16x2048x1024 .f32 :=
  Host.dotGeneral dot_S16x2048x2816_S2816x1024_S16x2048x1024_2_0_01_1_n_n none a w

/-- The residual sum, over tokens. -/
def outR (x n : FVec F S16x2048x1024 .f32) : FVec F S32768x1024 .f32 := shapeCast _ (addf x n) shapeCasts_S16x2048x1024_S32768x1024

theorem res_eq (m : (ℓ : Loc nD τ sig) → Buf (Elt F) ℓ) (c : Dev nD) :
    Value.res_main_v59 m c = outR (m ((c.tc : Thread nD τ).loc main_arg0)) (normR (downR (actR (convR (padR (upR
      (normR (m ((c.tc : Thread nD τ).loc main_arg0)) (m ((c.tc : Thread nD τ).loc main_arg1))) (m ((c.tc : Thread nD τ).loc main_arg2))))
      (m ((c.tc : Thread nD τ).loc main_arg3)) (m ((c.tc : Thread nD τ).loc main_arg4)))) (m ((c.tc : Thread nD τ).loc main_arg5)))
      (m ((c.tc : Thread nD τ).loc main_arg6))) := rfl

theorem normR_apply (x : FVec Ideal S16x2048x1024 .f32) (g : FVec Ideal S1024 .f32) (b : Fin 16) (t : Fin 2048) (j : Fin 1024) :
    normR x g (ix3 b t j) = rms (fun j => x (ix3 b t j)) (fun j => g (ix1 j)) j := by
  pointwise [normR]
  rfl

theorem upR_apply (x : FVec Ideal S16x2048x1024 .f32) (w : FVec Ideal S1024x5632 .f32) (b : Fin 16) (t : Fin 2048) (j : Fin 5632) :
    upR x w (ix3 b t j) = ∑ k, x (ix3 b t k) * w (ix2 k j) := by
  pointwise [upR]

theorem padR_apply (u : FVec Ideal S16x2048x5632 .f32) (b : Fin 16) (t : Fin 2050) (j : Fin 5632) :
    padR u (ix3 b t j) = if h : 2 ≤ t.val then u (ix3 b ⟨t.val - 2, by omega⟩ j) else 0 := by
  pointwise [padR]
  have e : (FloatOps.sitofp FTy.f32 (0#32) : Ideal .f32) = 0 := by
    show ((((0#32 : BitVec 32).toInt : ℤ) : ℝ) : EReal) = 0
    simp
  by_cases h : 2 ≤ t.val
  · rw [dif_pos ⟨h, by omega⟩, dif_pos h]
  · rw [dif_neg (fun h' => h h'.1), dif_neg h, e]

theorem convR_apply (p : FVec Ideal S16x2050x5632 .f32) (w : FVec Ideal S3x5632 .f32) (v : FVec Ideal S5632 .f32) (b : Fin 16) (t : Fin 2048) (j : Fin 5632) :
    convR p w v (ix3 b t j) = w (ix2 2 j) * p (ix3 b ⟨2 + t.val, by omega⟩ j) + w (ix2 1 j) * p (ix3 b ⟨1 + t.val, by omega⟩ j) + v (ix1 j)
      + w (ix2 0 j) * p (ix3 b ⟨t.val, by omega⟩ j) := by
  pointwise [convR]
  rw [mul_comm (w (ix2 0 j)), mul_comm (w (ix2 1 j)), mul_comm (w (ix2 2 j))]
  abel

theorem actR_apply (v : FVec Ideal S16x2048x5632 .f32) (b : Fin 16) (t : Fin 2048) (n : Fin 2816) :
    actR v (ix3 b t n) = v (ix3 b t ⟨2816 + n.val, by omega⟩) * Ideal.div 1 (1 + Ideal.exp (0 - v (ix3 b t ⟨2816 + n.val, by omega⟩))) * v (ix3 b t ⟨n.val, by omega⟩) := by
  pointwise [actR]
  rw [sub_eq_add_neg, zero_add]

theorem downR_apply (x : FVec Ideal S16x2048x2816 .f32) (w : FVec Ideal S2816x1024 .f32) (b : Fin 16) (t : Fin 2048) (j : Fin 1024) :
    downR x w (ix3 b t j) = ∑ k, x (ix3 b t k) * w (ix2 k j) := by
  pointwise [downR]

theorem outR_apply (x n : FVec Ideal S16x2048x1024 .f32) (b : Fin 16) (t : Fin 2048) (j : Fin 1024) :
    outR x n (ix2 ⟨2048 * b.val + t.val, by omega⟩ j) = x (ix3 b t j) + n (ix3 b t j) := by
  pointwise [outR]

/-- The reference's arguments, entry by entry. -/
def argsR (m : (ℓ : Loc nD τ sig) → Buf (Elt Ideal) ℓ) (c : Dev nD) : Args where
  x b t j := (m ((c.tc : Thread nD τ).loc main_arg0) : FVec Ideal S16x2048x1024 .f32) (ix3 b t j)
  gpre j := (m ((c.tc : Thread nD τ).loc main_arg1) : FVec Ideal S1024 .f32) (ix1 j)
  up k n := (m ((c.tc : Thread nD τ).loc main_arg2) : FVec Ideal S1024x5632 .f32) (ix2 k n)
  taps i n := (m ((c.tc : Thread nD τ).loc main_arg3) : FVec Ideal S3x5632 .f32) (ix2 i n)
  bias n := (m ((c.tc : Thread nD τ).loc main_arg4) : FVec Ideal S5632 .f32) (ix1 n)
  down n d := (m ((c.tc : Thread nD τ).loc main_arg5) : FVec Ideal S2816x1024 .f32) (ix2 n d)
  gpost j := (m ((c.tc : Thread nD τ).loc main_arg6) : FVec Ideal S1024 .f32) (ix1 j)

/-- The reference's result at token `t` of sequence `b`. -/
theorem res_apply (m : (ℓ : Loc nD τ sig) → Buf (Elt Ideal) ℓ) (c : Dev nD) (b : Fin 16) (t : Fin 2048) (d : Fin 1024) :
    (Value.res_main_v59 m c : FVec Ideal S32768x1024 .f32) (ix2 ⟨2048 * b.val + t.val, by omega⟩ d) = (argsR m c).outAt b t d := by
  have hconv : ∀ (t : Fin 2048) (n : Fin 5632), convR (F := Ideal) (padR (upR
      (normR (m ((c.tc : Thread nD τ).loc main_arg0)) (m ((c.tc : Thread nD τ).loc main_arg1))) (m ((c.tc : Thread nD τ).loc main_arg2))))
      (m ((c.tc : Thread nD τ).loc main_arg3)) (m ((c.tc : Thread nD τ).loc main_arg4)) (ix3 b t n) = ((argsR m c).convAt b t n : EReal) := by
    intro t n
    rw [convR_apply]
    simp only [padR_apply, upR_apply, normR_apply]
    unfold Args.convAt back
    have e2 : ∀ h, (⟨2 + t.val - 2, h⟩ : Fin 2048) = t := fun h => Fin.ext (by show 2 + t.val - 2 = t.val; omega)
    have e1 : ∀ h h', (⟨1 + t.val - 2, h⟩ : Fin 2048) = ⟨t.val - 1, h'⟩ := fun h h' => Fin.ext (by show 1 + t.val - 2 = t.val - 1; omega)
    rw [dif_pos (by omega : 2 ≤ 2 + t.val)]
    by_cases h1 : 1 ≤ t.val
    · by_cases h2 : 2 ≤ t.val
      · simp only [dif_pos h1, dif_pos h2, dif_pos (by omega : 2 ≤ 1 + t.val), e2, e1 _ (by omega : t.val - 1 < 2048)]
        rfl
      · simp only [dif_pos h1, dif_neg h2, dif_pos (by omega : 2 ≤ 1 + t.val), e2, e1 _ (by omega : t.val - 1 < 2048)]
        rfl
    · simp only [dif_neg h1, dif_neg (by omega : ¬ 2 ≤ t.val), dif_neg (by omega : ¬ 2 ≤ 1 + t.val), e2]
      rfl
  rw [res_eq, outR_apply, normR_apply]
  simp only [downR_apply, actR_apply, hconv]
  rfl

end Cert.Reference2Ideal.Ffn

end
-- ==== Proof.Ffn.Claim.lean ====
/-
  The feed-forward sublayer's value claim.
-/
module

public import proofs.«01_k».proof.Defs
public import proofs.«01_k».proof.Proof.Ffn.Chain
public import proofs.«01_k».proof.Proof.Ffn.RefRead
public import Idealize.ShloMosaic.Adequacy
public import Idealize.ShloMosaic.Init

@[expose] public section

set_option maxRecDepth 16384

noncomputable section

namespace Cert.Ffn

open Idealize.ShloMosaic Idealize.SL.Sem Idealize.ShloMosaic.TcCoe

/-- A place of the result is a row of a tile of a sequence and a column. -/
theorem place (i : Cert.Kernel2Ideal.S32768x1024.Idx) : ∃ (b : Fin 16) (q : Fin 4) (l : Fin 512) (d : Fin 1024),
    i = (ix2 ⟨2048 * b.val + 512 * q.val + l.val, by omega⟩ d : Cert.Kernel2Ideal.S32768x1024.Idx) := by
  have h0 : (i 0).val < 32768 := (i 0).isLt
  refine ⟨⟨(i 0).val / 2048, by omega⟩, ⟨(i 0).val % 2048 / 512, by omega⟩, ⟨(i 0).val % 512, by omega⟩, i 1, ?_⟩
  funext a
  apply Fin.ext
  match a with
  | ⟨0, _⟩ => show (i 0).val = 2048 * ((i 0).val / 2048) + 512 * ((i 0).val % 2048 / 512) + (i 0).val % 512; omega
  | ⟨1, _⟩ => rfl

theorem algebraic : Cert.algebraic_Kernel2Ideal_Reference2Ideal := by
  intro m ρ m' ρ' _ hagree
  refine ⟨fun c => Cert.Kernel2Ideal.Value.G7 m c, Cert.Kernel2Ideal.Value.run (F := Ideal) m ρ, ?_⟩
  refine (θ_run Cert.Reference2Ideal.defs _ _).mono (fun r h c => ⟨(h c).1.trans ?_, (h c).2⟩) (Cert.Reference2Ideal.Value.run (F := Ideal) m' ρ')
  obtain ⟨e0, e1, e2, e3, e4, e5, e6⟩ := hagree c
  have e : Cert.Reference2Ideal.Ffn.argsR m' c = Cert.Kernel2Ideal.Ffn.argsK m c := by
    unfold Cert.Reference2Ideal.Ffn.argsR Cert.Kernel2Ideal.Ffn.argsK
    rw [e0, e1, e2, e3, e4, e5, e6]
  funext i
  obtain ⟨b, q, l, d, rfl⟩ := place i
  have hr := Cert.Reference2Ideal.Ffn.res_apply m' c b ⟨512 * q.val + l.val, by omega⟩ d
  rw [e] at hr
  refine Eq.trans ?_ (hr.trans (Cert.Kernel2Ideal.Ffn.G7_apply m c b q l d).symm)
  exact congrArg (fun n => (Cert.Reference2Ideal.Value.res_main_v59 m' c : FVec Ideal Cert.Reference2Ideal.S32768x1024 .f32) (ix2 n d))
    (Fin.ext (by show 2048 * b.val + 512 * q.val + l.val = 2048 * b.val + (512 * q.val + l.val); omega))

end Cert.Ffn

end
-- ==== Proof.SsdIn.Body.lean ====
/-
  The SSD input projection's block as named functions of the values it loads, and the pieces that the
  block's run finds as these functions, at a sequence's first tile (case A) and at the others (case B).
-/
module

public import proofs.«01_k».proof.Proof.Gen.Kernel3Ideal.Value
public import Idealize.ShloMosaic.Lib.Tactic
public import Idealize.ShloMosaic.Lib.Pipeline.ReadBack

@[expose] public section

noncomputable section

namespace Cert.Kernel3Ideal.SsdIn

open Cert.Kernel3Ideal Cert.Kernel3Ideal.Gen Idealize.ShloMosaic Idealize.ShloMosaic.TcCoe Idealize.SL.Sem

variable {F : FTy → Type} [FloatOps F]

/-- The columns the gate and the convolution are projected by. -/
def mainW (x2 : Vec F S1024x5248 .bf16) : Vec F S1024x5120 .bf16 :=
  View.ld x2 (Rect.unit ![0, 0] ![1024, 5120] inb_S1024x5248_S1024x5120_0_0)

/-- The columns the step sizes are projected by. -/
def stepW (x2 : Vec F S1024x5248 .bf16) : Vec F S1024x128 .bf16 :=
  View.ld x2 (Rect.unit ![0, 5120] ![1024, 128] inb_S1024x5248_S1024x128_0_5120)

/-- The rows a tile's projection reads: the halo, then the tile's own normalised rows. -/
def rowsT (halo : FVec F S16x1024 .bf16) (x0 : Vec F S512x1024 .f32) (x1 : Vec F S1x1024 .f32) : Vec F S528x1024 .bf16 :=
  View.canon [⟨Rect.unit ![16, 0] S512x1024.size inb_S528x1024_S512x1024_16_0, k0_pay5 x0 x1⟩,
    ⟨Rect.unit ![0, 0] S16x1024.size inb_S528x1024_S16x1024_0_0, halo⟩]

/-- The halo a later tile of a sequence takes from the rows the tile before read. -/
def haloT (xs : Vec F S528x1024 .bf16) : FVec F S16x1024 .bf16 :=
  k0_pay4 (View.ld xs (Rect.unit ![512, 0] ![16, 1024] inb_S528x1024_S16x1024_512_0) : Vec F S16x1024 .bf16)

/-- Where chunk `k` of the gate starts among the projected columns. -/
def gateOff (k : ℕ) : ℕ := 256 * (5 * (k / 2) + 2 * (k % 2) + 1)

theorem slicesGate (k : Fin 8) : S528x5120.Slices ![0, gateOff k.val] S528x256 := by revert k; decide

/-- Chunk `k` of the gate. -/
def gateT (u : FVec F S528x5120 .f32) (k : Fin 8) : FVec F S512x256 .bf16 :=
  truncf .bf16 (extractStridedSlice S512x256 ![16, 0] (extractStridedSlice S528x256 ![0, gateOff k.val] u (slicesGate k)) slices_S528x256_o16_0_S512x256) bitsLt_bf16_f32

/-- The gate. -/
def zT (xe : Vec F S528x1024 .bf16) (x2 : Vec F S1024x5248 .bf16) : Vec F S512x2048 .bf16 :=
  View.canon [⟨Rect.unit ![0, 1792] S512x256.size inb_S512x2048_S512x256_0_1792, gateT (k0_pay6 xe (mainW x2)) 7⟩,
    ⟨Rect.unit ![0, 1536] S512x256.size inb_S512x2048_S512x256_0_1536, gateT (k0_pay6 xe (mainW x2)) 6⟩, ⟨Rect.unit ![0, 1280] S512x256.size inb_S512x2048_S512x256_0_1280, gateT (k0_pay6 xe (mainW x2)) 5⟩, ⟨Rect.unit ![0, 1024] S512x256.size inb_S512x2048_S512x256_0_1024, gateT (k0_pay6 xe (mainW x2)) 4⟩, ⟨Rect.unit ![0, 768] S512x256.size inb_S512x2048_S512x256_0_768, gateT (k0_pay6 xe (mainW x2)) 3⟩, ⟨Rect.unit ![0, 512] S512x256.size inb_S512x2048_S512x256_0_512, gateT (k0_pay6 xe (mainW x2)) 2⟩, ⟨Rect.unit ![0, 256] S512x256.size inb_S512x2048_S512x256_0_256, gateT (k0_pay6 xe (mainW x2)) 1⟩, ⟨Rect.unit ![0, 0] S512x256.size inb_S512x2048_S512x256_0_0, gateT (k0_pay6 xe (mainW x2)) 0⟩]

/-- The activated convolution. -/
def xbcT (xe : Vec F S528x1024 .bf16) (x2 : Vec F S1024x5248 .bf16) (x3 : Vec F S8x3072 .f32) : FVec F S512x3072 .bf16 :=
  k0_pay9 (k0_pay7 xe (mainW x2) x3) (k0_pay8 xe (mainW x2) x3)

/-- The step sizes. -/
def dtT (x0 : Vec F S512x1024 .f32) (x1 : Vec F S1x1024 .f32) (x2 : Vec F S1024x5248 .bf16) (x4 : Vec F S1x128 .f32) : FVec F S512x128 .f32 :=
  k0_pay1 (k0_pay2 x0 x1) (stepW x2) x4

theorem hz2 : (![0, 0] : Fin 2 → Nat) = fun _ => 0 := funext fun a => by fin_cases a <;> rfl

/-- The scratch read back whole, after the halo and the tile's rows are written. -/
theorem readCov_rows (a9 : Memref sig .tc .vmem S528x1024 .bf16) (halo : FVec F S16x1024 .bf16) (x0 : Vec F S512x1024 .f32) (x1 : Vec F S1x1024 .f32) :
    a9.view.readCov [⟨Rect.unit ![16, 0] ![512, 1024] inb_S528x1024_S512x1024_16_0, k0_pay5 x0 x1⟩,
      ⟨Rect.unit ![0, 0] ![16, 1024] inb_S528x1024_S16x1024_0_0, halo⟩]
      (Rect.unit ![0, 0] ![528, 1024] inb_S528x1024_S528x1024_0_0).toLoadRect
      = rowsT halo x0 x1 :=
  (View.readCov_eq_canon' a9.view _ _).trans (View.ld_unit_zero (S := S528x1024) hz2 _ _)

section
variable (c : Dev nD) (i : grid0.Coords) (a1 : Memref sig .tc .vmem S512x1024 .f32) (h1 : a1.IsWhole) (a2 : Memref sig .tc .vmem S1x1024 .f32) (h2 : a2.IsWhole) (a3 : Memref sig .tc .vmem S1024x5248 .bf16) (h3 : a3.IsWhole) (a4 : Memref sig .tc .vmem S8x3072 .f32) (h4 : a4.IsWhole) (a5 : Memref sig .tc .vmem S1x128 .f32) (h5 : a5.IsWhole) (a6 : Memref sig .tc .vmem S512x2048 .bf16) (h6 : a6.IsWhole) (a7 : Memref sig .tc .vmem S512x3072 .bf16) (h7 : a7.IsWhole) (a8 : Memref sig .tc .vmem S512x128 .f32) (h8 : a8.IsWhole) (a9 : Memref sig .tc .vmem S528x1024 .bf16) (h9 : a9.IsWhole)
    (x0 : Vec F S512x1024 .f32) (x1 : Vec F S1x1024 .f32) (x2 : Vec F S1024x5248 .bf16) (x3 : Vec F S8x3072 .f32) (x4 : Vec F S1x128 .f32) (xs : Vec F S528x1024 .bf16)

theorem sout_A (hc0 : cond0_0 i) (hc1 : ¬cond0_1 i) : sout0_A_0 c i a1 h1 a2 h2 a3 h3 a4 h4 a5 h5 a6 h6 a7 h7 a8 h8 a9 h9 hc0 hc1 x0 x1 x2 x3 x4 = rowsT k0_pay3 x0 x1 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  sl_unfold_words
  simp (disch := decide) only [↓ View.readCov_skip, ↓ View.readCov_fill]
  simp only [View.readAt_eq_ld, h1.read_unread, h2.read_unread, h3.read_unread, h4.read_unread, h5.read_unread,
    View.ld_unit_zero (S := S512x1024) hz2, View.ld_unit_zero (S := S1x1024) hz2, View.ld_unit_zero (S := S8x3072) hz2, View.ld_unit_zero (S := S1x128) hz2]
  rfl

theorem z_A (hc0 : cond0_0 i) (hc1 : ¬cond0_1 i) : out0_A_5 c i a1 h1 a2 h2 a3 h3 a4 h4 a5 h5 a6 h6 a7 h7 a8 h8 a9 h9 hc0 hc1 x0 x1 x2 x3 x4 = zT (rowsT k0_pay3 x0 x1) x2 := by
  unfold out0_A_5
  rw [View.read_writes_eq_canon _ _ _ (cover0_A_5 c i a1 h1 a2 h2 a3 h3 a4 h4 a5 h5 a6 h6 a7 h7 a8 h8 a9 h9 hc0 hc1 x0 x1 x2 x3 x4)]
  unfold kernelRun0_A
  dsimp only
  sl_unfold_words
  simp (disch := decide) only [↓ View.readCov_skip, ↓ View.readCov_fill]
  simp only [View.readAt_eq_ld, h1.read_unread, h2.read_unread, h3.read_unread, h4.read_unread, h5.read_unread,
    View.ld_unit_zero (S := S512x1024) hz2, View.ld_unit_zero (S := S1x1024) hz2, View.ld_unit_zero (S := S8x3072) hz2, View.ld_unit_zero (S := S1x128) hz2]
  simp only [readCov_rows]
  generalize rowsT _ x0 x1 = xe
  rfl

theorem xbc_A (hc0 : cond0_0 i) (hc1 : ¬cond0_1 i) : out0_A_6 c i a1 h1 a2 h2 a3 h3 a4 h4 a5 h5 a6 h6 a7 h7 a8 h8 a9 h9 hc0 hc1 x0 x1 x2 x3 x4 = xbcT (rowsT k0_pay3 x0 x1) x2 x3 := by
  unfold out0_A_6
  rw [View.read_writes_eq_canon _ _ _ (cover0_A_6 c i a1 h1 a2 h2 a3 h3 a4 h4 a5 h5 a6 h6 a7 h7 a8 h8 a9 h9 hc0 hc1 x0 x1 x2 x3 x4)]
  unfold kernelRun0_A
  dsimp only
  sl_unfold_words
  simp (disch := decide) only [↓ View.readCov_skip, ↓ View.readCov_fill]
  simp only [View.readAt_eq_ld, h1.read_unread, h2.read_unread, h3.read_unread, h4.read_unread, h5.read_unread,
    View.ld_unit_zero (S := S512x1024) hz2, View.ld_unit_zero (S := S1x1024) hz2, View.ld_unit_zero (S := S8x3072) hz2, View.ld_unit_zero (S := S1x128) hz2]
  simp only [readCov_rows]
  refine (View.canon_cons_unit_zero hz2 _ _ _).trans ?_
  generalize rowsT _ x0 x1 = xe
  rfl

theorem dt_A (hc0 : cond0_0 i) (hc1 : ¬cond0_1 i) : out0_A_7 c i a1 h1 a2 h2 a3 h3 a4 h4 a5 h5 a6 h6 a7 h7 a8 h8 a9 h9 hc0 hc1 x0 x1 x2 x3 x4 = dtT x0 x1 x2 x4 := by
  unfold out0_A_7
  rw [View.read_writes_eq_canon _ _ _ (cover0_A_7 c i a1 h1 a2 h2 a3 h3 a4 h4 a5 h5 a6 h6 a7 h7 a8 h8 a9 h9 hc0 hc1 x0 x1 x2 x3 x4)]
  unfold kernelRun0_A
  dsimp only
  sl_unfold_words
  simp (disch := decide) only [↓ View.readCov_skip, ↓ View.readCov_fill]
  simp only [View.readAt_eq_ld, h1.read_unread, h2.read_unread, h3.read_unread, h4.read_unread, h5.read_unread,
    View.ld_unit_zero (S := S512x1024) hz2, View.ld_unit_zero (S := S1x1024) hz2, View.ld_unit_zero (S := S8x3072) hz2, View.ld_unit_zero (S := S1x128) hz2]
  exact View.canon_cons_unit_zero hz2 _ _ _

theorem sout_B (hc0 : ¬cond0_0 i) (hc1 : cond0_1 i) : sout0_B_0 c i a1 h1 a2 h2 a3 h3 a4 h4 a5 h5 a6 h6 a7 h7 a8 h8 a9 h9 hc0 hc1 x0 x1 x2 x3 x4 xs = rowsT (haloT xs) x0 x1 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 xs)]
  unfold kernelRun0_B
  dsimp only
  sl_unfold_words
  simp (disch := decide) only [↓ View.readCov_skip, ↓ View.readCov_fill]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x3072) hz2, View.ld_unit_zero (S := S1x128) hz2]
  rfl

theorem z_B (hc0 : ¬cond0_0 i) (hc1 : cond0_1 i) : out0_B_5 c i a1 h1 a2 h2 a3 h3 a4 h4 a5 h5 a6 h6 a7 h7 a8 h8 a9 h9 hc0 hc1 x0 x1 x2 x3 x4 xs = zT (rowsT (haloT xs) x0 x1) x2 := by
  unfold out0_B_5
  rw [View.read_writes_eq_canon _ _ _ (cover0_B_5 c i a1 h1 a2 h2 a3 h3 a4 h4 a5 h5 a6 h6 a7 h7 a8 h8 a9 h9 hc0 hc1 x0 x1 x2 x3 x4 xs)]
  unfold kernelRun0_B
  dsimp only
  sl_unfold_words
  simp (disch := decide) only [↓ View.readCov_skip, ↓ View.readCov_fill]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x3072) hz2, View.ld_unit_zero (S := S1x128) hz2]
  simp only [readCov_rows]
  unfold haloT
  generalize rowsT _ x0 x1 = xe
  rfl

theorem xbc_B (hc0 : ¬cond0_0 i) (hc1 : cond0_1 i) : out0_B_6 c i a1 h1 a2 h2 a3 h3 a4 h4 a5 h5 a6 h6 a7 h7 a8 h8 a9 h9 hc0 hc1 x0 x1 x2 x3 x4 xs = xbcT (rowsT (haloT xs) x0 x1) x2 x3 := by
  unfold out0_B_6
  rw [View.read_writes_eq_canon _ _ _ (cover0_B_6 c i a1 h1 a2 h2 a3 h3 a4 h4 a5 h5 a6 h6 a7 h7 a8 h8 a9 h9 hc0 hc1 x0 x1 x2 x3 x4 xs)]
  unfold kernelRun0_B
  dsimp only
  sl_unfold_words
  simp (disch := decide) only [↓ View.readCov_skip, ↓ View.readCov_fill]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x3072) hz2, View.ld_unit_zero (S := S1x128) hz2]
  simp only [readCov_rows]
  refine (View.canon_cons_unit_zero hz2 _ _ _).trans ?_
  unfold haloT
  generalize rowsT _ x0 x1 = xe
  rfl

theorem dt_B (hc0 : ¬cond0_0 i) (hc1 : cond0_1 i) : out0_B_7 c i a1 h1 a2 h2 a3 h3 a4 h4 a5 h5 a6 h6 a7 h7 a8 h8 a9 h9 hc0 hc1 x0 x1 x2 x3 x4 xs = dtT x0 x1 x2 x4 := by
  unfold out0_B_7
  rw [View.read_writes_eq_canon _ _ _ (cover0_B_7 c i a1 h1 a2 h2 a3 h3 a4 h4 a5 h5 a6 h6 a7 h7 a8 h8 a9 h9 hc0 hc1 x0 x1 x2 x3 x4 xs)]
  unfold kernelRun0_B
  dsimp only
  sl_unfold_words
  simp (disch := decide) only [↓ View.readCov_skip, ↓ View.readCov_fill]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x3072) hz2, View.ld_unit_zero (S := S1x128) hz2]
  exact View.canon_cons_unit_zero hz2 _ _ _

end

end Cert.Kernel3Ideal.SsdIn

end
-- ==== Proof.SsdIn.Spec.lean ====
/-
  The SSD layer's input projection, its convolution and its step sizes, entry by entry, over the extended
  reals. Both programs are read in these functions.
-/
module

public import proofs.«01_k».proof.Proof.Ffn.Spec

@[expose] public section

noncomputable section

namespace Cert.SsdIn

open Idealize.ShloMosaic
open Cert.Ffn (rms back)

/-- A step size, of what it is taken of. -/
def stepOf (r : EReal) : EReal := max r 0 + Ideal.log1p (Ideal.exp (0 - max r (-r)))

/-- The arguments, entry by entry. -/
structure Args where
  x : Fin 16 → Fin 2048 → Fin 1024 → EReal
  gain : Fin 1024 → EReal
  w : Fin 1024 → Fin 5152 → EReal
  taps : Fin 4 → Fin 3072 → EReal
  bias : Fin 3072 → EReal
  step : Fin 32 → EReal

namespace Args
variable (A : Args) (b : Fin 16)

/-- The projection of the normalised row. -/
def projAt (t : Fin 2048) (n : Fin 5152) : EReal := ∑ k, rms (A.x b t) A.gain k * A.w k n

/-- The gate: the first 2048 columns. -/
def zAt (t : Fin 2048) (n : Fin 2048) : EReal := A.projAt b t ⟨n.val, by omega⟩

/-- The columns the convolution reads. -/
def colAt (n : Fin 3072) (t : Fin 2048) : EReal := A.projAt b t ⟨2048 + n.val, by omega⟩

/-- The causal convolution of a column. -/
def convAt (t : Fin 2048) (n : Fin 3072) : EReal :=
  A.taps 3 n * A.colAt b n t + A.taps 2 n * back 1 (A.colAt b n) t + A.bias n
    + (A.taps 1 n * back 2 (A.colAt b n) t + A.taps 0 n * back 3 (A.colAt b n) t)

/-- The activated convolution. -/
def xbcAt (t : Fin 2048) (n : Fin 3072) : EReal := A.convAt b t n * Ideal.div 1 (1 + Ideal.exp (0 - A.convAt b t n))

/-- What the step sizes are taken of: 32 lanes, then zeros. -/
def rawAt (t : Fin 2048) (j : Fin 128) : EReal :=
  if h : j.val < 32 then A.projAt b t ⟨5120 + j.val, by omega⟩ + A.step ⟨j.val, h⟩ else 0

end Args

end Cert.SsdIn

end
-- ==== Proof.SsdIn.Read.lean ====
/-
  The SSD input projection's block, read at an index over the extended reals, in the layer's own functions.
-/
module

public import proofs.«01_k».proof.Proof.SsdIn.Body
public import proofs.«01_k».proof.Proof.SsdIn.Spec
public import Idealize.ShloMosaic.Lib.Pointwise
public import Idealize.ShloMosaic.Lib.Pipeline.ValueKit

@[expose] public section

set_option maxRecDepth 16384

noncomputable section

namespace Cert.Kernel3Ideal.SsdIn

open Cert.Kernel3Ideal Cert.Kernel3Ideal.Gen Cert.SsdIn Idealize.ShloMosaic Idealize.ShloMosaic.TcCoe
open Cert.Ffn (rms back)

theorem norm_apply (x0 : Vec Ideal S512x1024 .f32) (x1 : Vec Ideal S1x1024 .f32) (l : Fin 512) (j : Fin 1024) :
    k0_pay2 x0 x1 (ix2 l j) = rms (fun j => x0 (ix2 l j)) (fun j => x1 (ix2 0 j)) j := by
  pointwise [k0_pay2]
  rfl

theorem norm_apply' (x0 : Vec Ideal S512x1024 .f32) (x1 : Vec Ideal S1x1024 .f32) (l : Fin 512) (j : Fin 1024) :
    k0_pay5 x0 x1 (ix2 l j) = rms (fun j => x0 (ix2 l j)) (fun j => x1 (ix2 0 j)) j := by
  pointwise [k0_pay5, k0_pay2]
  rfl

theorem proj_apply (x : Vec Ideal S528x1024 .bf16) (w : Vec Ideal S1024x5120 .bf16) (l : Fin 528) (j : Fin 5120) :
    k0_pay6 x w (ix2 l j) = ∑ k, x (ix2 l k) * w (ix2 k j) := by
  pointwise [k0_pay6]

theorem mainW_apply (x2 : Vec Ideal S1024x5248 .bf16) (i : Fin 1024) (j : Fin 5120) : mainW x2 (ix2 i j) = x2 (ix2 i ⟨j.val, by omega⟩) := by
  refine congrArg x2 (funext fun a => Fin.ext ?_)
  match a with
  | ⟨0, _⟩ => show 0 + 1 * i.val = i.val; omega
  | ⟨1, _⟩ => show 0 + 1 * j.val = j.val; omega

theorem stepW_apply (x2 : Vec Ideal S1024x5248 .bf16) (i : Fin 1024) (j : Fin 128) : stepW x2 (ix2 i j) = x2 (ix2 i ⟨5120 + j.val, by omega⟩) := by
  refine congrArg x2 (funext fun a => Fin.ext ?_)
  match a with
  | ⟨0, _⟩ => show 0 + 1 * i.val = i.val; omega
  | ⟨1, _⟩ => show 5120 + 1 * j.val = 5120 + j.val; omega

/-- Where chunk `k` of the convolution's columns starts among the projected columns. -/
def colOff (k : ℕ) : ℕ := 256 * (5 * (k / 3) + 2 * (k % 3))

theorem slicesCol (k : Fin 12) : S528x5120.Slices ![0, colOff k.val] S528x256 := by revert k; decide

/-- Chunk `k` of the convolution's columns. -/
def colT (u : FVec Ideal S528x5120 .f32) (k : Fin 12) : FVec Ideal S528x256 .f32 :=
  extractStridedSlice S528x256 ![0, colOff k.val] u (slicesCol k)

theorem colT_apply (u : FVec Ideal S528x5120 .f32) (k : Fin 12) (l : Fin 528) (j : Fin 256) (h) :
    colT u k (ix2 l j) = u (ix2 l ⟨colOff k.val + j.val, h⟩) := by
  pointwise [colT]

theorem col_lit (u : FVec Ideal S528x5120 .f32) (k : Fin 12) (o : Nat) (ho : colOff k.val = o) (h) :
    extractStridedSlice S528x256 ![0, o] u h = colT u k := by
  subst ho
  rfl

theorem concatenate_congr {α : Type} (t : Shape) (a : Fin t.rank) {xs ys : List ((s : Shape) × (s.Idx → α))} (e : xs = ys) (h) (h') (j : t.Idx) :
    concatenate t a xs h j = concatenate t a ys h' j := by
  subst e
  rfl

/-- The convolution's columns, side by side. -/
def colsT (u : FVec Ideal S528x5120 .f32) : FVec Ideal S528x3072 .f32 :=
  concatenate S528x3072 1 [⟨S528x256, extractStridedSlice S528x256 ![0, 0] u slices_S528x5120_o0_0_S528x256⟩, ⟨S528x256, extractStridedSlice S528x256 ![0, 512] u slices_S528x5120_o0_512_S528x256⟩, ⟨S528x256, extractStridedSlice S528x256 ![0, 1024] u slices_S528x5120_o0_1024_S528x256⟩, ⟨S528x256, extractStridedSlice S528x256 ![0, 1280] u slices_S528x5120_o0_1280_S528x256⟩, ⟨S528x256, extractStridedSlice S528x256 ![0, 1792] u slices_S528x5120_o0_1792_S528x256⟩, ⟨S528x256, extractStridedSlice S528x256 ![0, 2304] u slices_S528x5120_o0_2304_S528x256⟩, ⟨S528x256, extractStridedSlice S528x256 ![0, 2560] u slices_S528x5120_o0_2560_S528x256⟩, ⟨S528x256, extractStridedSlice S528x256 ![0, 3072] u slices_S528x5120_o0_3072_S528x256⟩, ⟨S528x256, extractStridedSlice S528x256 ![0, 3584] u slices_S528x5120_o0_3584_S528x256⟩, ⟨S528x256, extractStridedSlice S528x256 ![0, 3840] u slices_S528x5120_o0_3840_S528x256⟩, ⟨S528x256, extractStridedSlice S528x256 ![0, 4352] u slices_S528x5120_o0_4352_S528x256⟩, ⟨S528x256, extractStridedSlice S528x256 ![0, 4864] u slices_S528x5120_o0_4864_S528x256⟩] concatenates_S528x256_S528x256_S528x256_S528x256_S528x256_S528x256_S528x256_S528x256_S528x256_S528x256_S528x256_S528x256_S528x3072_d1

theorem colsT_apply (u : FVec Ideal S528x5120 .f32) (k : Fin 12) (l : Fin 528) (j : Fin 256) (n : Fin 3072) (hn : n.val = 256 * k.val + j.val) :
    colsT u (ix2 l n) = colT u k (ix2 l j) := by
  have e := concatenate_congr S528x3072 1 (show [⟨S528x256, extractStridedSlice S528x256 ![0, 0] u slices_S528x5120_o0_0_S528x256⟩, ⟨S528x256, extractStridedSlice S528x256 ![0, 512] u slices_S528x5120_o0_512_S528x256⟩, ⟨S528x256, extractStridedSlice S528x256 ![0, 1024] u slices_S528x5120_o0_1024_S528x256⟩, ⟨S528x256, extractStridedSlice S528x256 ![0, 1280] u slices_S528x5120_o0_1280_S528x256⟩, ⟨S528x256, extractStridedSlice S528x256 ![0, 1792] u slices_S528x5120_o0_1792_S528x256⟩, ⟨S528x256, extractStridedSlice S528x256 ![0, 2304] u slices_S528x5120_o0_2304_S528x256⟩, ⟨S528x256, extractStridedSlice S528x256 ![0, 2560] u slices_S528x5120_o0_2560_S528x256⟩, ⟨S528x256, extractStridedSlice S528x256 ![0, 3072] u slices_S528x5120_o0_3072_S528x256⟩, ⟨S528x256, extractStridedSlice S528x256 ![0, 3584] u slices_S528x5120_o0_3584_S528x256⟩, ⟨S528x256, extractStridedSlice S528x256 ![0, 3840] u slices_S528x5120_o0_3840_S528x256⟩, ⟨S528x256, extractStridedSlice S528x256 ![0, 4352] u slices_S528x5120_o0_4352_S528x256⟩, ⟨S528x256, extractStridedSlice S528x256 ![0, 4864] u slices_S528x5120_o0_4864_S528x256⟩] = List.ofFn (fun k : Fin 12 => (⟨S528x256, colT u k⟩ : (s : Shape) × (s.Idx → Ideal .f32))) from by
      rw [col_lit u 0 0 (by decide), col_lit u 1 512 (by decide), col_lit u 2 1024 (by decide), col_lit u 3 1280 (by decide), col_lit u 4 1792 (by decide), col_lit u 5 2304 (by decide), col_lit u 6 2560 (by decide), col_lit u 7 3072 (by decide), col_lit u 8 3584 (by decide), col_lit u 9 3840 (by decide), col_lit u 10 4352 (by decide), col_lit u 11 4864 (by decide)]
      simp only [List.ofFn_succ, List.ofFn_zero]
      rfl)
    concatenates_S528x256_S528x256_S528x256_S528x256_S528x256_S528x256_S528x256_S528x256_S528x256_S528x256_S528x256_S528x256_S528x3072_d1 (by simp only [List.ofFn_succ, List.ofFn_zero]; exact concatenates_S528x256_S528x256_S528x256_S528x256_S528x256_S528x256_S528x256_S528x256_S528x256_S528x256_S528x256_S528x256_S528x3072_d1) (ix2 l n)
  refine e.trans ?_
  refine concatenate_ofFn_apply (t := S528x3072) (s₁ := S528x256) 1 (fun k : Fin 12 => colT u k) _ rfl 256 rfl (ix2 l n) k ?_ (ix2 l j) ?_ ?_
  · show n.val / 256 = k.val
    omega
  · show j.val = n.val % 256
    omega
  · intro b hb
    match b, hb with
    | ⟨0, _⟩, _ => rfl
    | ⟨1, _⟩, hb => exact absurd rfl hb

/-- The causal convolution of the columns, at the tile's rows. -/
def convT (u : FVec Ideal S528x3072 .f32) (tab : FVec Ideal S8x3072 .f32) : FVec Ideal S512x3072 .f32 :=
  addf (addf (addf
    (mulf (broadcastTo S512x3072 (extractStridedSlice S1x3072 ![3, 0] tab slices_S8x3072_o3_0_S1x3072) broadcasts_S1x3072_S512x3072)
      (extractStridedSlice S512x3072 ![16, 0] u slices_S528x3072_o16_0_S512x3072))
    (mulf (broadcastTo S512x3072 (extractStridedSlice S1x3072 ![2, 0] tab slices_S8x3072_o2_0_S1x3072) broadcasts_S1x3072_S512x3072)
      (extractStridedSlice S512x3072 ![16, 0] (dynamicRotate 0 1#32 none u rotates_S528x3072_d0) slices_S528x3072_o16_0_S512x3072)))
    (broadcastTo S512x3072 (extractStridedSlice S1x3072 ![4, 0] tab slices_S8x3072_o4_0_S1x3072) broadcasts_S1x3072_S512x3072))
    (extractStridedSlice S512x3072 ![16, 0] (dynamicRotate 0 2#32 none
      (addf (mulf (broadcastTo S528x3072 (extractStridedSlice S1x3072 ![1, 0] tab slices_S8x3072_o1_0_S1x3072) broadcasts_S1x3072_S528x3072) u)
        (mulf (broadcastTo S528x3072 (extractStridedSlice S1x3072 ![0, 0] tab slices_S8x3072_o0_0_S1x3072) broadcasts_S1x3072_S528x3072)
          (dynamicRotate 0 1#32 none u rotates_S528x3072_d0)))
      rotates_S528x3072_d0) slices_S528x3072_o16_0_S512x3072)

theorem conv_eq (xe : Vec Ideal S528x1024 .bf16) (w : Vec Ideal S1024x5120 .bf16) (tab : Vec Ideal S8x3072 .f32) :
    k0_pay7 xe w tab = convT (colsT (k0_pay6 xe w)) (shapeCast S8x3072 tab shapeCasts_S8x3072_S8x3072) := rfl

theorem tab_cast (x : Vec Ideal S8x3072 .f32) (r : Fin 8) (j : Fin 3072) :
    (shapeCast S8x3072 x shapeCasts_S8x3072_S8x3072 : FVec Ideal S8x3072 .f32) (ix2 r j) = x (ix2 r j) := by
  pointwise []

theorem convT_apply (u : FVec Ideal S528x3072 .f32) (tab : FVec Ideal S8x3072 .f32) (l : Fin 512) (j : Fin 3072) :
    convT u tab (ix2 l j) = tab (ix2 3 j) * u (ix2 ⟨16 + l.val, by omega⟩ j) + tab (ix2 2 j) * u (ix2 ⟨15 + l.val, by omega⟩ j) + tab (ix2 4 j)
      + (tab (ix2 1 j) * u (ix2 ⟨14 + l.val, by omega⟩ j) + tab (ix2 0 j) * u (ix2 ⟨13 + l.val, by omega⟩ j)) := by
  pointwise [convT]
  have e1 : ∀ h, (⟨(16 + l.val + 528 - 1) % 528, h⟩ : Fin 528) = ⟨15 + l.val, by omega⟩ := fun h => Fin.ext (by show (16 + l.val + 528 - 1) % 528 = 15 + l.val; omega)
  have e2 : ∀ h, (⟨(16 + l.val + 528 - 2) % 528, h⟩ : Fin 528) = ⟨14 + l.val, by omega⟩ := fun h => Fin.ext (by show (16 + l.val + 528 - 2) % 528 = 14 + l.val; omega)
  have e3 : ∀ h, (⟨((16 + l.val + 528 - 2) % 528 + 528 - 1) % 528, h⟩ : Fin 528) = ⟨13 + l.val, by omega⟩ := fun h => Fin.ext (by show ((16 + l.val + 528 - 2) % 528 + 528 - 1) % 528 = 13 + l.val; omega)
  simp only [e1, e2, e3]

theorem xbc_apply (xe : Vec Ideal S528x1024 .bf16) (w : Vec Ideal S1024x5120 .bf16) (tab : Vec Ideal S8x3072 .f32) (l : Fin 512) (j : Fin 3072) :
    k0_pay9 (k0_pay7 xe w tab) (k0_pay8 xe w tab) (ix2 l j)
      = k0_pay7 xe w tab (ix2 l j) * Ideal.div 1 (1 + Ideal.exp (0 - k0_pay7 xe w tab (ix2 l j))) := by
  have e : k0_pay8 xe w tab = (divf (broadcast S512x3072 (Scalar.ofBits .f32 0x3F800000#32)) (addf (broadcast S512x3072 (Scalar.ofBits .f32 0x3F800000#32)) (exp (subf (broadcast S512x3072 (Scalar.ofBits .f32 0x00000000#32)) (k0_pay7 xe w tab)))) : FVec Ideal S512x3072 .f32) := rfl
  rw [e]
  generalize k0_pay7 xe w tab = v
  pointwise [k0_pay9]

theorem gateT_apply (u : FVec Ideal S528x5120 .f32) (k : Fin 8) (l : Fin 512) (j : Fin 256) (h) :
    gateT u k (ix2 l j) = u (ix2 ⟨16 + l.val, by omega⟩ ⟨gateOff k.val + j.val, h⟩) := by
  pointwise [gateT]

theorem step_apply (xn : FVec Ideal S512x1024 .bf16) (w : Vec Ideal S1024x128 .bf16) (v : Vec Ideal S1x128 .f32) (l : Fin 512) (j : Fin 128) :
    k0_pay1 xn w v (ix2 l j) = stepOf (∑ k, xn (ix2 l k) * w (ix2 k j) + v (ix2 0 j)) := by
  pointwise [k0_pay1]
  rfl

/-- The gate's chunks, read back side by side. -/
theorem gate_canon (P : Fin 8 → FVec Ideal S512x256 .bf16) (k : Fin 8) (l : Fin 512) (j : Fin 256) :
    View.canon
    [(⟨Rect.unit ![0, 1792] ![512, 256] inb_S512x2048_S512x256_0_1792, P 7⟩ : View.Piece (Elt Ideal) S512x2048 .bf16),
      ⟨Rect.unit ![0, 1536] ![512, 256] inb_S512x2048_S512x256_0_1536, P 6⟩,
      ⟨Rect.unit ![0, 1280] ![512, 256] inb_S512x2048_S512x256_0_1280, P 5⟩,
      ⟨Rect.unit ![0, 1024] ![512, 256] inb_S512x2048_S512x256_0_1024, P 4⟩,
      ⟨Rect.unit ![0, 768] ![512, 256] inb_S512x2048_S512x256_0_768, P 3⟩,
      ⟨Rect.unit ![0, 512] ![512, 256] inb_S512x2048_S512x256_0_512, P 2⟩,
      ⟨Rect.unit ![0, 256] ![512, 256] inb_S512x2048_S512x256_0_256, P 1⟩,
      ⟨Rect.unit ![0, 0] ![512, 256] inb_S512x2048_S512x256_0_0, P 0⟩] (ix2 l ⟨256 * k.val + j.val, by omega⟩) = P k (ix2 l j) := by
  canon_tiles x h
  · have hj := j.isLt
    have hk := k.isLt
    have h1' : 256 * k.val + j.val = 1792 + (x 1).val := h1
    have e : k = 7 := Fin.ext (by show k.val = 7; omega)
    subst e
    refine congrArg (P 7) (funext fun a => Fin.ext ?_)
    match a with
    | ⟨0, _⟩ => exact h0.symm
    | ⟨1, _⟩ => show (x 1).val = j.val; change 256 * 7 + j.val = _ at h1'; omega
  · have hj := j.isLt
    have hk := k.isLt
    have h1' : 256 * k.val + j.val = 1536 + (x 1).val := h1
    have e : k = 6 := Fin.ext (by show k.val = 6; omega)
    subst e
    refine congrArg (P 6) (funext fun a => Fin.ext ?_)
    match a with
    | ⟨0, _⟩ => exact h0.symm
    | ⟨1, _⟩ => show (x 1).val = j.val; change 256 * 6 + j.val = _ at h1'; omega
  · have hj := j.isLt
    have hk := k.isLt
    have h1' : 256 * k.val + j.val = 1280 + (x 1).val := h1
    have e : k = 5 := Fin.ext (by show k.val = 5; omega)
    subst e
    refine congrArg (P 5) (funext fun a => Fin.ext ?_)
    match a with
    | ⟨0, _⟩ => exact h0.symm
    | ⟨1, _⟩ => show (x 1).val = j.val; change 256 * 5 + j.val = _ at h1'; omega
  · have hj := j.isLt
    have hk := k.isLt
    have h1' : 256 * k.val + j.val = 1024 + (x 1).val := h1
    have e : k = 4 := Fin.ext (by show k.val = 4; omega)
    subst e
    refine congrArg (P 4) (funext fun a => Fin.ext ?_)
    match a with
    | ⟨0, _⟩ => exact h0.symm
    | ⟨1, _⟩ => show (x 1).val = j.val; change 256 * 4 + j.val = _ at h1'; omega
  · have hj := j.isLt
    have hk := k.isLt
    have h1' : 256 * k.val + j.val = 768 + (x 1).val := h1
    have e : k = 3 := Fin.ext (by show k.val = 3; omega)
    subst e
    refine congrArg (P 3) (funext fun a => Fin.ext ?_)
    match a with
    | ⟨0, _⟩ => exact h0.symm
    | ⟨1, _⟩ => show (x 1).val = j.val; change 256 * 3 + j.val = _ at h1'; omega
  · have hj := j.isLt
    have hk := k.isLt
    have h1' : 256 * k.val + j.val = 512 + (x 1).val := h1
    have e : k = 2 := Fin.ext (by show k.val = 2; omega)
    subst e
    refine congrArg (P 2) (funext fun a => Fin.ext ?_)
    match a with
    | ⟨0, _⟩ => exact h0.symm
    | ⟨1, _⟩ => show (x 1).val = j.val; change 256 * 2 + j.val = _ at h1'; omega
  · have hj := j.isLt
    have hk := k.isLt
    have h1' : 256 * k.val + j.val = 256 + (x 1).val := h1
    have e : k = 1 := Fin.ext (by show k.val = 1; omega)
    subst e
    refine congrArg (P 1) (funext fun a => Fin.ext ?_)
    match a with
    | ⟨0, _⟩ => exact h0.symm
    | ⟨1, _⟩ => show (x 1).val = j.val; change 256 * 1 + j.val = _ at h1'; omega
  · have hj := j.isLt
    have hk := k.isLt
    have h1' : 256 * k.val + j.val = 0 + (x 1).val := h1.trans (Nat.zero_add _).symm
    have e : k = 0 := Fin.ext (by show k.val = 0; omega)
    subst e
    refine congrArg (P 0) (funext fun a => Fin.ext ?_)
    match a with
    | ⟨0, _⟩ => exact h0.symm
    | ⟨1, _⟩ => show (x 1).val = j.val; change 256 * 0 + j.val = _ at h1'; omega

/-- Row `r` of the rows a tile's projection reads: the first 16 are the sequence's rows before the tile, zero before the sequence's start. -/
def rowAt (A : Args) (b : Fin 16) (q : Fin 4) (r : Fin 528) (k : Fin 1024) : EReal :=
  if h : 16 ≤ 512 * q.val + r.val then rms (A.x b ⟨512 * q.val + r.val - 16, by omega⟩) A.gain k else 0

/-- The blocks a tile reads, as the layer's arguments. -/
structure Blocks (A : Args) (b : Fin 16) (q : Fin 4) (x0 : Vec Ideal S512x1024 .f32) (x1 : Vec Ideal S1x1024 .f32) (x2 : Vec Ideal S1024x5248 .bf16)
    (x3 : Vec Ideal S8x3072 .f32) (x4 : Vec Ideal S1x128 .f32) : Prop where
  x : ∀ (l : Fin 512) (j : Fin 1024), x0 (ix2 l j) = A.x b ⟨512 * q.val + l.val, by omega⟩ j
  gain : ∀ j : Fin 1024, x1 (ix2 0 j) = A.gain j
  col : ∀ (i : Fin 1024) (k : Fin 12) (j : Fin 256) (n : Fin 5248), n.val = colOff k.val + j.val → x2 (ix2 i n) = A.w i ⟨2048 + (256 * k.val + j.val), by omega⟩
  gate : ∀ (i : Fin 1024) (k : Fin 8) (j : Fin 256) (n : Fin 5248), n.val = gateOff k.val + j.val → x2 (ix2 i n) = A.w i ⟨256 * k.val + j.val, by omega⟩
  stepW : ∀ (i : Fin 1024) (j : Fin 128), x2 (ix2 i ⟨5120 + j.val, by omega⟩) = if h : j.val < 32 then A.w i ⟨5120 + j.val, by omega⟩ else 0
  taps : ∀ (r : Fin 4) (j : Fin 3072), x3 (ix2 ⟨r.val, by omega⟩ j) = A.taps r j
  bias : ∀ j : Fin 3072, x3 (ix2 4 j) = A.bias j
  step : ∀ j : Fin 128, x4 (ix2 0 j) = if h : j.val < 32 then A.step ⟨j.val, h⟩ else 0

theorem colOff_lt (k : Fin 12) (j : Fin 256) : colOff k.val + j.val < 5120 := by
  unfold colOff
  omega

theorem gateOff_lt (k : Fin 8) (j : Fin 256) : gateOff k.val + j.val < 5120 := by
  unfold gateOff
  omega

section
variable {A : Args} {b : Fin 16} {q : Fin 4}

/-- The rows a tile's projection reads, from the halo. -/
theorem rowsT_apply {x0 : Vec Ideal S512x1024 .f32} {x1 : Vec Ideal S1x1024 .f32} (halo : FVec Ideal S16x1024 .bf16)
    (hx : ∀ (l : Fin 512) (j : Fin 1024), x0 (ix2 l j) = A.x b ⟨512 * q.val + l.val, by omega⟩ j) (hg : ∀ j : Fin 1024, x1 (ix2 0 j) = A.gain j)
    (hh : ∀ (r : Fin 16) (k : Fin 1024), halo (ix2 r k) = rowAt A b q ⟨r.val, by omega⟩ k) (r : Fin 528) (k : Fin 1024) :
    rowsT halo x0 x1 (ix2 r k) = rowAt A b q r k := by
  unfold rowsT
  have hcover := fun y => View.cover_of_tiledBy [(⟨Rect.unit ![16, 0] S512x1024.size inb_S528x1024_S512x1024_16_0, k0_pay5 x0 x1⟩ : View.Piece (Elt Ideal) S528x1024 .bf16),
    ⟨Rect.unit ![0, 0] S16x1024.size inb_S528x1024_S16x1024_0_0, halo⟩] ![16, 1024] (by sl_kernel_rfl) y
  canon_tiles x h using hcover _
  · have h0' : r.val = 16 + (x 0).val := h0
    have h1' : k.val = (x 1).val := h1
    obtain ⟨l, j, rfl⟩ : ∃ (l : Fin 512) (j : Fin 1024), x = ix2 l j := ⟨x 0, x 1, funext fun a => by match a with | ⟨0, _⟩ => rfl | ⟨1, _⟩ => rfl⟩
    change r.val = 16 + l.val at h0'
    change k.val = j.val at h1'
    have ek : j = k := Fin.ext (by omega)
    subst ek
    rw [norm_apply']
    unfold rowAt
    rw [dif_pos (by omega)]
    have er : (⟨512 * q.val + r.val - 16, by omega⟩ : Fin 2048) = ⟨512 * q.val + l.val, by omega⟩ := Fin.ext (by show 512 * q.val + r.val - 16 = 512 * q.val + l.val; omega)
    rw [er]
    simp only [hx, hg]
  · have h0' : r.val = (x 0).val := h0
    have h1' : k.val = (x 1).val := h1
    obtain ⟨l, j, rfl⟩ : ∃ (l : Fin 16) (j : Fin 1024), x = ix2 l j := ⟨x 0, x 1, funext fun a => by match a with | ⟨0, _⟩ => rfl | ⟨1, _⟩ => rfl⟩
    change r.val = l.val at h0'
    change k.val = j.val at h1'
    have ek : j = k := Fin.ext (by omega)
    subst ek
    have er : (⟨l.val, by omega⟩ : Fin 528) = r := Fin.ext (by show l.val = r.val; omega)
    rw [hh, er]

variable {x0 : Vec Ideal S512x1024 .f32} {x1 : Vec Ideal S1x1024 .f32} {x2 : Vec Ideal S1024x5248 .bf16}
    {x3 : Vec Ideal S8x3072 .f32} {x4 : Vec Ideal S1x128 .f32} (H : Blocks A b q x0 x1 x2 x3 x4)

include H in
/-- The tile's step sizes. -/
theorem dtT_apply (l : Fin 512) (j : Fin 128) : dtT x0 x1 x2 x4 (ix2 l j) = stepOf (A.rawAt b ⟨512 * q.val + l.val, by omega⟩ j) := by
  unfold dtT
  rw [step_apply]
  simp only [norm_apply, stepW_apply, H.x, H.gain, H.stepW, H.step]
  refine congrArg stepOf ?_
  unfold Args.rawAt
  by_cases h : j.val < 32
  · simp only [dif_pos h]
    rfl
  · simp only [dif_neg h, mul_zero, Finset.sum_const_zero, add_zero]

variable {xe : Vec Ideal S528x1024 .bf16} (he : ∀ r k, xe (ix2 r k) = rowAt A b q r k)
include H he

/-- A column of the projection, `s` rows back. -/
theorem proj_back (s : ℕ) (hs : s ≤ 16) (l : Fin 512) (n : Fin 5120) (n' : Fin 5152) (hn : ∀ i, x2 (ix2 i ⟨n.val, by omega⟩) = A.w i n') (h) :
    k0_pay6 xe (mainW x2) (ix2 ⟨16 + l.val - s, h⟩ n) = back s (fun t => A.projAt b t n') ⟨512 * q.val + l.val, by omega⟩ := by
  rw [proj_apply]
  simp only [mainW_apply, he, hn]
  unfold back rowAt
  by_cases hq : s ≤ 512 * q.val + l.val
  · rw [dif_pos hq]
    simp only [dif_pos (show 16 ≤ 512 * q.val + (16 + l.val - s) by omega)]
    have er : (⟨512 * q.val + (16 + l.val - s) - 16, by omega⟩ : Fin 2048) = ⟨512 * q.val + l.val - s, by omega⟩ := Fin.ext (by show 512 * q.val + (16 + l.val - s) - 16 = 512 * q.val + l.val - s; omega)
    rw [er]
    rfl
  · rw [dif_neg hq]
    simp only [dif_neg (show ¬ 16 ≤ 512 * q.val + (16 + l.val - s) by omega), zero_mul, Finset.sum_const_zero]

/-- A column the convolution reads, `s` rows back. -/
theorem col_back (s : ℕ) (hs : s ≤ 16) (l : Fin 512) (n : Fin 3072) (r : Fin 528) (hr : r.val = 16 + l.val - s) :
    colsT (k0_pay6 xe (mainW x2)) (ix2 r n) = back s (A.colAt b n) ⟨512 * q.val + l.val, by omega⟩ := by
  have hlt : 16 + l.val - s < 528 := by omega
  obtain rfl : r = ⟨16 + l.val - s, hlt⟩ := Fin.ext hr
  rw [colsT_apply _ ⟨n.val / 256, by omega⟩ _ ⟨n.val % 256, by omega⟩ n (by show n.val = 256 * (n.val / 256) + n.val % 256; omega),
    colT_apply _ _ _ _ (colOff_lt ⟨n.val / 256, by omega⟩ ⟨n.val % 256, by omega⟩)]
  refine (proj_back H he s hs l _ ⟨2048 + (256 * (n.val / 256) + n.val % 256), by omega⟩ (fun i => H.col i ⟨n.val / 256, by omega⟩ ⟨n.val % 256, by omega⟩ _ rfl) (by omega)).trans ?_
  have en : (⟨2048 + (256 * (n.val / 256) + n.val % 256), by omega⟩ : Fin 5152) = ⟨2048 + n.val, by omega⟩ := Fin.ext (by show 2048 + (256 * (n.val / 256) + n.val % 256) = 2048 + n.val; omega)
  rw [en]
  rfl

/-- A column of the convolution. -/
theorem conv_apply (l : Fin 512) (n : Fin 3072) : k0_pay7 xe (mainW x2) x3 (ix2 l n) = A.convAt b ⟨512 * q.val + l.val, by omega⟩ n := by
  rw [conv_eq, convT_apply]
  simp only [tab_cast]
  rw [H.bias, col_back H he 0 (by omega) l n ⟨16 + l.val, by omega⟩ rfl, col_back H he 1 (by omega) l n ⟨15 + l.val, by omega⟩ (by show 15 + l.val = 16 + l.val - 1; omega),
    col_back H he 2 (by omega) l n ⟨14 + l.val, by omega⟩ (by show 14 + l.val = 16 + l.val - 2; omega), col_back H he 3 (by omega) l n ⟨13 + l.val, by omega⟩ (by show 13 + l.val = 16 + l.val - 3; omega)]
  have t0 := H.taps 0 n
  have t1 := H.taps 1 n
  have t2 := H.taps 2 n
  have t3 := H.taps 3 n
  unfold Args.convAt
  rw [← t0, ← t1, ← t2, ← t3]
  rfl

/-- The tile's activated convolution. -/
theorem xbcT_apply (l : Fin 512) (n : Fin 3072) : xbcT xe x2 x3 (ix2 l n) = A.xbcAt b ⟨512 * q.val + l.val, by omega⟩ n := by
  unfold xbcT
  rw [xbc_apply, conv_apply H he]
  rfl

/-- The tile's gate. -/
theorem zT_apply (l : Fin 512) (n : Fin 2048) : zT xe x2 (ix2 l n) = A.zAt b ⟨512 * q.val + l.val, by omega⟩ n := by
  have e := gate_canon (fun k => gateT (k0_pay6 xe (mainW x2)) k) ⟨n.val / 256, by omega⟩ l ⟨n.val % 256, by omega⟩
  have en : (⟨256 * (n.val / 256) + n.val % 256, by omega⟩ : Fin 2048) = n := Fin.ext (by show 256 * (n.val / 256) + n.val % 256 = n.val; omega)
  dsimp only at e
  rw [en] at e
  refine e.trans ?_
  rw [gateT_apply _ _ _ _ (gateOff_lt ⟨n.val / 256, by omega⟩ ⟨n.val % 256, by omega⟩)]
  refine (proj_back H he 0 (by omega) l _ ⟨256 * (n.val / 256) + n.val % 256, by omega⟩ (fun i => H.gate i ⟨n.val / 256, by omega⟩ ⟨n.val % 256, by omega⟩ _ rfl) (by omega)).trans ?_
  unfold Args.zAt
  have en' : (⟨256 * (n.val / 256) + n.val % 256, by omega⟩ : Fin 5152) = ⟨n.val, by omega⟩ := Fin.ext (by show 256 * (n.val / 256) + n.val % 256 = n.val; omega)
  rw [en']
  rfl

end

end Cert.Kernel3Ideal.SsdIn

end
-- ==== Proof.SsdIn.Entry.lean ====
/-
  What the launch's arguments hold, read at an index, of the arguments of the program.
-/
module

public import proofs.«01_k».proof.Proof.Gen.Kernel3Ideal.Value
public import proofs.«01_k».proof.Proof.SsdIn.Read
public import Idealize.ShloMosaic.Lib.Pointwise
public import Idealize.ShloMosaic.Lib.Claim
public import Idealize.ShloMosaic.Lib.Pipeline.Value
public import Idealize.ShloMosaic.Lib.StableHlo.ReadAt

@[expose] public section

set_option maxRecDepth 16384

noncomputable section

namespace Cert.Kernel3Ideal.SsdIn

open Cert.Kernel3Ideal Cert.Kernel3Ideal.Gen Idealize.ShloMosaic Idealize.ShloMosaic.TcCoe

variable (m : (ℓ : Loc nD τ sig) → Buf (Elt Ideal) ℓ) (c : Dev nD)

theorem x_apply (r : Fin 32768) (j : Fin 1024) :
    (V m c main_v0 : Vec Ideal S32768x1024 .f32) (ix2 r j) = (m ((c : Thread nD τ).loc main_arg0) : FVec Ideal S16x2048x1024 .f32) (ix3 ⟨r.val / 2048, by omega⟩ ⟨r.val % 2048, by omega⟩ j) := by
  unfold V
  after_reads_at

theorem gain_apply (j : Fin 1024) :
    (V m c main_v42 : Vec Ideal S1x1024 .f32) (ix2 0 j) = (m ((c : Thread nD τ).loc main_arg1) : FVec Ideal S1024 .f32) (ix1 j) := by
  unfold V
  after_reads_at

theorem zero_int : (FloatOps.sitofp FTy.f32 (0#32) : Ideal .f32) = 0 := by
  show ((((0#32 : BitVec 32).toInt : ℤ) : ℝ) : EReal) = 0
  simp

theorem stepB_apply (j : Fin 128) :
    (V m c main_v34 : Vec Ideal S1x128 .f32) (ix2 0 j)
      = if h : j.val < 32 then (m ((c : Thread nD τ).loc main_arg5) : FVec Ideal S32 .f32) (ix1 ⟨j.val, h⟩) else (0 : EReal) := by
  unfold V
  after_reads_at
  rw [zero_int]

theorem taps_apply (r : Fin 4) (j : Fin 3072) :
    (V m c main_v32 : Vec Ideal S8x3072 .f32) (ix2 ⟨r.val, by omega⟩ j) = (m ((c : Thread nD τ).loc main_arg3) : FVec Ideal S4x3072 .f32) (ix2 r j) := by
  unfold V
  after_reads_at

theorem bias_apply (j : Fin 3072) :
    (V m c main_v32 : Vec Ideal S8x3072 .f32) (ix2 4 j) = (m ((c : Thread nD τ).loc main_arg4) : FVec Ideal S3072 .f32) (ix1 j) := by
  unfold V
  after_reads_at
  after_reads_at

/-- The kernel's first sixteen chunks of columns. -/
def wLow (w : FVec Ideal S1024x5152 .f32) : FVec Ideal S1024x4096 .f32 :=
  concatenate S1024x4096 1 [⟨S1024x256, extractStridedSlice S1024x256 ![0, 2048] w slices_S1024x5152_S1024x256_0_2048⟩,
    ⟨S1024x256, extractStridedSlice S1024x256 ![0, 0] w slices_S1024x5152_S1024x256_0_0⟩,
    ⟨S1024x256, extractStridedSlice S1024x256 ![0, 2304] w slices_S1024x5152_S1024x256_0_2304⟩,
    ⟨S1024x256, extractStridedSlice S1024x256 ![0, 256] w slices_S1024x5152_S1024x256_0_256⟩,
    ⟨S1024x256, extractStridedSlice S1024x256 ![0, 2560] w slices_S1024x5152_S1024x256_0_2560⟩,
    ⟨S1024x256, extractStridedSlice S1024x256 ![0, 2816] w slices_S1024x5152_S1024x256_0_2816⟩,
    ⟨S1024x256, extractStridedSlice S1024x256 ![0, 512] w slices_S1024x5152_S1024x256_0_512⟩,
    ⟨S1024x256, extractStridedSlice S1024x256 ![0, 3072] w slices_S1024x5152_S1024x256_0_3072⟩,
    ⟨S1024x256, extractStridedSlice S1024x256 ![0, 768] w slices_S1024x5152_S1024x256_0_768⟩,
    ⟨S1024x256, extractStridedSlice S1024x256 ![0, 3328] w slices_S1024x5152_S1024x256_0_3328⟩,
    ⟨S1024x256, extractStridedSlice S1024x256 ![0, 3584] w slices_S1024x5152_S1024x256_0_3584⟩,
    ⟨S1024x256, extractStridedSlice S1024x256 ![0, 1024] w slices_S1024x5152_S1024x256_0_1024⟩,
    ⟨S1024x256, extractStridedSlice S1024x256 ![0, 3840] w slices_S1024x5152_S1024x256_0_3840⟩,
    ⟨S1024x256, extractStridedSlice S1024x256 ![0, 1280] w slices_S1024x5152_S1024x256_0_1280⟩,
    ⟨S1024x256, extractStridedSlice S1024x256 ![0, 4096] w slices_S1024x5152_S1024x256_0_4096⟩,
    ⟨S1024x256, extractStridedSlice S1024x256 ![0, 4352] w slices_S1024x5152_S1024x256_0_4352⟩] concatenates_S1024x256_S1024x256_S1024x256_S1024x256_S1024x256_S1024x256_S1024x256_S1024x256_S1024x256_S1024x256_S1024x256_S1024x256_S1024x256_S1024x256_S1024x256_S1024x256_S1024x4096_d1

/-- The step sizes' columns, with zeros after them. -/
def wStep (w : FVec Ideal S1024x5152 .f32) : FVec Ideal S1024x128 .f32 :=
  pad S1024x128 ![0, 0] ![0, 96] ![0, 0] (extractStridedSlice S1024x32 ![0, 5120] w slices_S1024x5152_S1024x32_0_5120) (sitofp .f32 (constantI S_ 32 0#32)) pads_S1024x32_S1024x128_000_0960 h_S_

/-- The last four chunks, and the step sizes' columns. -/
def wHigh (w : FVec Ideal S1024x5152 .f32) : FVec Ideal S1024x1152 .f32 :=
  concatenate S1024x1152 1 [⟨S1024x256, extractStridedSlice S1024x256 ![0, 1536] w slices_S1024x5152_S1024x256_0_1536⟩,
    ⟨S1024x256, extractStridedSlice S1024x256 ![0, 4608] w slices_S1024x5152_S1024x256_0_4608⟩,
    ⟨S1024x256, extractStridedSlice S1024x256 ![0, 1792] w slices_S1024x5152_S1024x256_0_1792⟩,
    ⟨S1024x256, extractStridedSlice S1024x256 ![0, 4864] w slices_S1024x5152_S1024x256_0_4864⟩,
    ⟨S1024x128, wStep w⟩] concatenates_S1024x256_S1024x256_S1024x256_S1024x256_S1024x128_S1024x1152_d1

theorem wLow_eq : (V m c main_v26 : Vec Ideal S1024x4096 .f32) = wLow (m ((c : Thread nD τ).loc main_arg2)) := by
  unfold V
  after_reads_simp
  rfl

theorem wHigh_eq : (V m c main_v27 : Vec Ideal S1024x1152 .f32) = wHigh (m ((c : Thread nD τ).loc main_arg2)) := by
  unfold V
  after_reads_simp
  rfl

theorem w_eq (i : Fin 1024) (n : Fin 5248) :
    (V m c main_v29 : Vec Ideal S1024x5248 .bf16) (ix2 i n)
      = if h : n.val < 4096 then (V m c main_v26 : Vec Ideal S1024x4096 .f32) (ix2 i ⟨n.val, h⟩) else (V m c main_v27 : Vec Ideal S1024x1152 .f32) (ix2 i ⟨n.val - 4096, by omega⟩) := by
  have e : (V m c main_v29 : Vec Ideal S1024x5248 .bf16) = truncf (F := Ideal) .bf16 (concatenate S1024x5248 1 [⟨S1024x4096, (V m c main_v26 : FVec Ideal S1024x4096 .f32)⟩, ⟨S1024x1152, (V m c main_v27 : FVec Ideal S1024x1152 .f32)⟩] concatenates_S1024x4096_S1024x1152_S1024x5248_d1 : FVec Ideal S1024x5248 .f32) bitsLt_bf16_f32 := by
    unfold V
    after_reads_simp
    rfl
  rw [e]
  generalize (V m c main_v26 : FVec Ideal S1024x4096 .f32) = a
  generalize (V m c main_v27 : FVec Ideal S1024x1152 .f32) = b
  pointwise []

/-- Where chunk `u` of the kernel's order starts among the columns of the program's projection. -/
def chunkOff (u : ℕ) : ℕ := if u % 5 % 2 = 0 then 2048 + 256 * (3 * (u / 5) + u % 5 / 2) else 256 * (2 * (u / 5) + u % 5 / 2)

theorem slicesChunk (u : Fin 20) : S1024x5152.Slices ![0, chunkOff u.val] S1024x256 := by revert u; decide

/-- Chunk `u` of the kernel's order. -/
def chunkW (w : FVec Ideal S1024x5152 .f32) (u : Fin 20) : FVec Ideal S1024x256 .f32 :=
  extractStridedSlice S1024x256 ![0, chunkOff u.val] w (slicesChunk u)

theorem chunkW_apply (w : FVec Ideal S1024x5152 .f32) (u : Fin 20) (i : Fin 1024) (j : Fin 256) (h) :
    chunkW w u (ix2 i j) = w (ix2 i ⟨chunkOff u.val + j.val, h⟩) := by
  pointwise [chunkW]

theorem chunk_lit (w : FVec Ideal S1024x5152 .f32) (u : Fin 20) (o : Nat) (ho : chunkOff u.val = o) (h) :
    extractStridedSlice S1024x256 ![0, o] w h = chunkW w u := by
  subst ho
  rfl

theorem wStep_apply (w : FVec Ideal S1024x5152 .f32) (i : Fin 1024) (j : Fin 128) :
    wStep w (ix2 i j) = if h : j.val < 32 then w (ix2 i ⟨5120 + j.val, by omega⟩) else (0 : EReal) := by
  pointwise [wStep]
  rw [zero_int]

theorem five_chunk (P : Fin 4 → FVec Ideal S1024x256 .f32) (d : FVec Ideal S1024x128 .f32) (u : Fin 4) (i : Fin 1024) (j : Fin 256) (n : Fin 1152) (hn : n.val = 256 * u.val + j.val) :
    concatenate S1024x1152 1 [⟨S1024x256, P 0⟩, ⟨S1024x256, P 1⟩, ⟨S1024x256, P 2⟩, ⟨S1024x256, P 3⟩, ⟨S1024x128, d⟩] concatenates_S1024x256_S1024x256_S1024x256_S1024x256_S1024x128_S1024x1152_d1 (ix2 i n) = P u (ix2 i j) := by
  pointwise []
  match u, hn with
  | ⟨0, _⟩, hn =>
    have hj := j.isLt
    have hn' : n.val = 256 * 0 + j.val := hn
    rw [dif_pos (by omega)]
    exact congrArg (fun r => P 0 (ix2 i r)) (Fin.ext (by show n.val = j.val; omega))
  | ⟨1, _⟩, hn =>
    have hj := j.isLt
    have hn' : n.val = 256 * 1 + j.val := hn
    rw [dif_neg (by omega), dif_pos (by omega)]
    exact congrArg (fun r => P 1 (ix2 i r)) (Fin.ext (by show n.val - 256 = j.val; omega))
  | ⟨2, _⟩, hn =>
    have hj := j.isLt
    have hn' : n.val = 256 * 2 + j.val := hn
    rw [dif_neg (by omega), dif_neg (by omega), dif_pos (by omega)]
    exact congrArg (fun r => P 2 (ix2 i r)) (Fin.ext (by show n.val - 256 - 256 = j.val; omega))
  | ⟨3, _⟩, hn =>
    have hj := j.isLt
    have hn' : n.val = 256 * 3 + j.val := hn
    rw [dif_neg (by omega), dif_neg (by omega), dif_neg (by omega), dif_pos (by omega)]
    exact congrArg (fun r => P 3 (ix2 i r)) (Fin.ext (by show n.val - 256 - 256 - 256 = j.val; omega))

theorem five_step (P : Fin 4 → FVec Ideal S1024x256 .f32) (d : FVec Ideal S1024x128 .f32) (i : Fin 1024) (j : Fin 128) (n : Fin 1152) (hn : n.val = 1024 + j.val) :
    concatenate S1024x1152 1 [⟨S1024x256, P 0⟩, ⟨S1024x256, P 1⟩, ⟨S1024x256, P 2⟩, ⟨S1024x256, P 3⟩, ⟨S1024x128, d⟩] concatenates_S1024x256_S1024x256_S1024x256_S1024x256_S1024x128_S1024x1152_d1 (ix2 i n) = d (ix2 i j) := by
  pointwise []
  rw [dif_neg (by omega), dif_neg (by omega), dif_neg (by omega), dif_neg (by omega)]
  exact congrArg (fun r => d (ix2 i r)) (Fin.ext (by show n.val - 256 - 256 - 256 - 256 = j.val; omega))

theorem wHigh_lit (w : FVec Ideal S1024x5152 .f32) : wHigh w = concatenate S1024x1152 1 [⟨S1024x256, chunkW w ⟨16 + 0, by decide⟩⟩, ⟨S1024x256, chunkW w ⟨16 + 1, by decide⟩⟩,
    ⟨S1024x256, chunkW w ⟨16 + 2, by decide⟩⟩, ⟨S1024x256, chunkW w ⟨16 + 3, by decide⟩⟩, ⟨S1024x128, wStep w⟩] concatenates_S1024x256_S1024x256_S1024x256_S1024x256_S1024x128_S1024x1152_d1 := by
  unfold wHigh
  refine funext fun j => concatenate_congr S1024x1152 1 ?_ _ _ j
  rw [chunk_lit w ⟨16, by decide⟩ 1536 (by decide), chunk_lit w ⟨17, by decide⟩ 4608 (by decide), chunk_lit w ⟨18, by decide⟩ 1792 (by decide), chunk_lit w ⟨19, by decide⟩ 4864 (by decide)]

theorem wLow_apply (w : FVec Ideal S1024x5152 .f32) (u : Fin 16) (i : Fin 1024) (j : Fin 256) (n : Fin 4096) (hn : n.val = 256 * u.val + j.val) :
    wLow w (ix2 i n) = chunkW w ⟨u.val, by omega⟩ (ix2 i j) := by
  have e := concatenate_congr S1024x4096 1 (show [⟨S1024x256, extractStridedSlice S1024x256 ![0, 2048] w slices_S1024x5152_S1024x256_0_2048⟩,
    ⟨S1024x256, extractStridedSlice S1024x256 ![0, 0] w slices_S1024x5152_S1024x256_0_0⟩,
    ⟨S1024x256, extractStridedSlice S1024x256 ![0, 2304] w slices_S1024x5152_S1024x256_0_2304⟩,
    ⟨S1024x256, extractStridedSlice S1024x256 ![0, 256] w slices_S1024x5152_S1024x256_0_256⟩,
    ⟨S1024x256, extractStridedSlice S1024x256 ![0, 2560] w slices_S1024x5152_S1024x256_0_2560⟩,
    ⟨S1024x256, extractStridedSlice S1024x256 ![0, 2816] w slices_S1024x5152_S1024x256_0_2816⟩,
    ⟨S1024x256, extractStridedSlice S1024x256 ![0, 512] w slices_S1024x5152_S1024x256_0_512⟩,
    ⟨S1024x256, extractStridedSlice S1024x256 ![0, 3072] w slices_S1024x5152_S1024x256_0_3072⟩,
    ⟨S1024x256, extractStridedSlice S1024x256 ![0, 768] w slices_S1024x5152_S1024x256_0_768⟩,
    ⟨S1024x256, extractStridedSlice S1024x256 ![0, 3328] w slices_S1024x5152_S1024x256_0_3328⟩,
    ⟨S1024x256, extractStridedSlice S1024x256 ![0, 3584] w slices_S1024x5152_S1024x256_0_3584⟩,
    ⟨S1024x256, extractStridedSlice S1024x256 ![0, 1024] w slices_S1024x5152_S1024x256_0_1024⟩,
    ⟨S1024x256, extractStridedSlice S1024x256 ![0, 3840] w slices_S1024x5152_S1024x256_0_3840⟩,
    ⟨S1024x256, extractStridedSlice S1024x256 ![0, 1280] w slices_S1024x5152_S1024x256_0_1280⟩,
    ⟨S1024x256, extractStridedSlice S1024x256 ![0, 4096] w slices_S1024x5152_S1024x256_0_4096⟩,
    ⟨S1024x256, extractStridedSlice S1024x256 ![0, 4352] w slices_S1024x5152_S1024x256_0_4352⟩] = List.ofFn (fun u : Fin 16 => (⟨S1024x256, chunkW w ⟨u.val, by omega⟩⟩ : (s : Shape) × (s.Idx → Ideal .f32))) from by
      rw [chunk_lit w ⟨0, by decide⟩ 2048 (by decide), chunk_lit w ⟨1, by decide⟩ 0 (by decide), chunk_lit w ⟨2, by decide⟩ 2304 (by decide), chunk_lit w ⟨3, by decide⟩ 256 (by decide), chunk_lit w ⟨4, by decide⟩ 2560 (by decide), chunk_lit w ⟨5, by decide⟩ 2816 (by decide), chunk_lit w ⟨6, by decide⟩ 512 (by decide), chunk_lit w ⟨7, by decide⟩ 3072 (by decide), chunk_lit w ⟨8, by decide⟩ 768 (by decide), chunk_lit w ⟨9, by decide⟩ 3328 (by decide), chunk_lit w ⟨10, by decide⟩ 3584 (by decide), chunk_lit w ⟨11, by decide⟩ 1024 (by decide), chunk_lit w ⟨12, by decide⟩ 3840 (by decide), chunk_lit w ⟨13, by decide⟩ 1280 (by decide), chunk_lit w ⟨14, by decide⟩ 4096 (by decide), chunk_lit w ⟨15, by decide⟩ 4352 (by decide)]
      simp only [List.ofFn_succ, List.ofFn_zero]
      rfl)
    concatenates_S1024x256_S1024x256_S1024x256_S1024x256_S1024x256_S1024x256_S1024x256_S1024x256_S1024x256_S1024x256_S1024x256_S1024x256_S1024x256_S1024x256_S1024x256_S1024x256_S1024x4096_d1 (by simp only [List.ofFn_succ, List.ofFn_zero]; exact concatenates_S1024x256_S1024x256_S1024x256_S1024x256_S1024x256_S1024x256_S1024x256_S1024x256_S1024x256_S1024x256_S1024x256_S1024x256_S1024x256_S1024x256_S1024x256_S1024x256_S1024x4096_d1) (ix2 i n)
  refine e.trans ?_
  refine concatenate_ofFn_apply (t := S1024x4096) (s₁ := S1024x256) 1 (fun u : Fin 16 => chunkW w ⟨u.val, by omega⟩) _ rfl 256 rfl (ix2 i n) u ?_ (ix2 i j) ?_ ?_
  · show n.val / 256 = u.val
    omega
  · show j.val = n.val % 256
    omega
  · intro b hb
    match b, hb with
    | ⟨0, _⟩, _ => rfl
    | ⟨1, _⟩, hb => exact absurd rfl hb

/-- The kernel's columns of the projection, chunk by chunk. -/
theorem w_chunk (i : Fin 1024) (u : Fin 20) (j : Fin 256) (n : Fin 5248) (n' : Fin 5152) (hn : n.val = 256 * u.val + j.val) (hn' : n'.val = chunkOff u.val + j.val) :
    (V m c main_v29 : Vec Ideal S1024x5248 .bf16) (ix2 i n) = (m ((c : Thread nD τ).loc main_arg2) : FVec Ideal S1024x5152 .f32) (ix2 i n') := by
  have hu : chunkOff u.val + j.val < 5152 := hn' ▸ n'.isLt
  have e' : (⟨chunkOff u.val + j.val, hu⟩ : Fin 5152) = n' := Fin.ext hn'.symm
  rw [w_eq]
  by_cases h : n.val < 4096
  · rw [dif_pos h, wLow_eq]
    exact (wLow_apply _ ⟨u.val, by omega⟩ i j _ hn).trans ((chunkW_apply _ u i j hu).trans (by rw [e']))
  · rw [dif_neg h, wHigh_eq, wHigh_lit]
    generalize (m ((c : Thread nD τ).loc main_arg2) : FVec Ideal S1024x5152 .f32) = w
    have eu : (⟨16 + (u.val - 16), by omega⟩ : Fin 20) = u := Fin.ext (by show 16 + (u.val - 16) = u.val; omega)
    refine (five_chunk (fun u => chunkW w ⟨16 + u.val, by omega⟩) (wStep w) ⟨u.val - 16, by omega⟩ i j _ (by show n.val - 4096 = 256 * (u.val - 16) + j.val; omega)).trans ?_
    show chunkW _ ⟨16 + (u.val - 16), _⟩ _ = _
    rw [eu]
    exact (chunkW_apply _ u i j hu).trans (by rw [e'])

/-- The step sizes' columns. -/
theorem w_step (i : Fin 1024) (j : Fin 128) :
    (V m c main_v29 : Vec Ideal S1024x5248 .bf16) (ix2 i ⟨5120 + j.val, by omega⟩)
      = if h : j.val < 32 then (m ((c : Thread nD τ).loc main_arg2) : FVec Ideal S1024x5152 .f32) (ix2 i ⟨5120 + j.val, by omega⟩) else (0 : EReal) := by
  rw [w_eq, dif_neg (by show ¬ 5120 + j.val < 4096; omega), wHigh_eq, wHigh_lit]
  generalize (m ((c : Thread nD τ).loc main_arg2) : FVec Ideal S1024x5152 .f32) = w
  exact (five_step (fun u => chunkW w ⟨16 + u.val, by omega⟩) (wStep w) i j _ (by show 5120 + j.val - 4096 = 1024 + j.val; omega)).trans (wStep_apply w i j)

end Cert.Kernel3Ideal.SsdIn

end
-- ==== Proof.SsdIn.Blocks.lean ====
/-
  The blocks the SSD input projection's body reads at a grid point, as the layer's arguments.
-/
module

public import proofs.«01_k».proof.Proof.SsdIn.Entry
public import Idealize.ShloMosaic.Lib.Pipeline.ValueKit

@[expose] public section

set_option maxRecDepth 16384

noncomputable section

namespace Cert.Kernel3Ideal.SsdIn

open Cert.Kernel3Ideal Cert.Kernel3Ideal.Gen Cert.SsdIn Idealize.ShloMosaic Idealize.ShloMosaic.TcCoe

variable (m : (ℓ : Loc nD τ sig) → Buf (Elt Ideal) ℓ) (c : Dev nD)

/-- The kernel's arguments, entry by entry. -/
def argsK : Args where
  x b t j := (m ((c : Thread nD τ).loc main_arg0) : FVec Ideal S16x2048x1024 .f32) (ix3 b t j)
  gain j := (m ((c : Thread nD τ).loc main_arg1) : FVec Ideal S1024 .f32) (ix1 j)
  w k n := (m ((c : Thread nD τ).loc main_arg2) : FVec Ideal S1024x5152 .f32) (ix2 k n)
  taps i n := (m ((c : Thread nD τ).loc main_arg3) : FVec Ideal S4x3072 .f32) (ix2 i n)
  bias n := (m ((c : Thread nD τ).loc main_arg4) : FVec Ideal S3072 .f32) (ix1 n)
  step j := (m ((c : Thread nD τ).loc main_arg5) : FVec Ideal S32 .f32) (ix1 j)

theorem lt_points (t : Fin cfg0.N) : t.val < 64 := lt_of_lt_of_eq t.isLt (show cfg0.N = 64 from N_0)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel

theorem blk0_apply (t : Fin cfg0.N) (l : Fin 512) (j : Fin 1024) :
    (iblk m c 0 t : Vec Ideal S512x1024 .f32) (ix2 l j) = V m c main_v0 (ix2 ⟨512 * t.val + l.val, by have := lt_points t; omega⟩ j) := by
  blk_ext [iblk, idx0 t]

theorem blk1_apply (t : Fin cfg0.N) (j : Fin 1024) :
    (iblk m c 1 t : Vec Ideal S1x1024 .f32) (ix2 0 j) = V m c main_v42 (ix2 0 j) := by
  blk_ext [iblk, idx1 t]

theorem blk2_apply (t : Fin cfg0.N) (i : Fin 1024) (n : Fin 5248) :
    (iblk m c 2 t : Vec Ideal S1024x5248 .bf16) (ix2 i n) = V m c main_v29 (ix2 i n) := by
  blk_ext [iblk, idx2 t]

theorem blk3_apply (t : Fin cfg0.N) (r : Fin 8) (j : Fin 3072) :
    (iblk m c 3 t : Vec Ideal S8x3072 .f32) (ix2 r j) = V m c main_v32 (ix2 r j) := by
  blk_ext [iblk, idx3 t]

theorem blk4_apply (t : Fin cfg0.N) (j : Fin 128) :
    (iblk m c 4 t : Vec Ideal S1x128 .f32) (ix2 0 j) = V m c main_v34 (ix2 0 j) := by
  blk_ext [iblk, idx4 t]

theorem chunkOff_col : ∀ k : Fin 12, chunkOff (5 * (k.val / 3) + 2 * (k.val % 3)) = 2048 + 256 * k.val := by decide
theorem chunkOff_gate : ∀ k : Fin 8, chunkOff (5 * (k.val / 2) + 2 * (k.val % 2) + 1) = 256 * k.val := by decide

/-- The blocks at tile `q` of sequence `b`. -/
theorem blocks_eq (b : Fin 16) (q : Fin 4) (t : Fin cfg0.N) (ht : t.val = 4 * b.val + q.val) :
    Blocks (argsK m c) b q (iblk m c 0 t) (iblk m c 1 t) (iblk m c 2 t) (iblk m c 3 t) (iblk m c 4 t) where
  x l j := by
    rw [blk0_apply]
    refine (x_apply m c _ j).trans ?_
    have e0 : ∀ h, (⟨(512 * t.val + l.val) / 2048, h⟩ : Fin 16) = b := fun h => Fin.ext (by show (512 * t.val + l.val) / 2048 = b.val; omega)
    have e1 : ∀ h, (⟨(512 * t.val + l.val) % 2048, h⟩ : Fin 2048) = ⟨512 * q.val + l.val, by omega⟩ :=
      fun h => Fin.ext (by show (512 * t.val + l.val) % 2048 = 512 * q.val + l.val; omega)
    simp only [e0, e1]
    rfl
  gain j := (blk1_apply m c t j).trans (gain_apply m c j)
  col i k j n hn := (blk2_apply m c t i n).trans (w_chunk m c i ⟨5 * (k.val / 3) + 2 * (k.val % 3), by omega⟩ j n _ hn (by
    show 2048 + (256 * k.val + j.val) = chunkOff (5 * (k.val / 3) + 2 * (k.val % 3)) + j.val
    rw [chunkOff_col]
    omega))
  gate i k j n hn := (blk2_apply m c t i n).trans (w_chunk m c i ⟨5 * (k.val / 2) + 2 * (k.val % 2) + 1, by omega⟩ j n _ hn (by
    show 256 * k.val + j.val = chunkOff (5 * (k.val / 2) + 2 * (k.val % 2) + 1) + j.val
    rw [chunkOff_gate]))
  stepW i j := (blk2_apply m c t i _).trans (w_step m c i j)
  taps r j := (blk3_apply m c t _ j).trans (taps_apply m c r j)
  bias j := (blk3_apply m c t 4 j).trans (bias_apply m c j)
  step j := (blk4_apply m c t j).trans (stepB_apply m c j)

end Cert.Kernel3Ideal.SsdIn

end
-- ==== Proof.SsdIn.Chain.lean ====
/-
  The SSD input projection's grid, tile by tile: the halo each tile leaves to the next, and the launch's result.
-/
module

public import proofs.«01_k».proof.Proof.SsdIn.Blocks
public import proofs.«01_k».proof.Proof.Gen.Kernel3Ideal.Value

@[expose] public section

set_option maxRecDepth 16384

noncomputable section

namespace Cert.Kernel3Ideal.SsdIn

open Cert.Kernel3Ideal Cert.Kernel3Ideal.Gen Cert.SsdIn Idealize.ShloMosaic Idealize.ShloMosaic.TcCoe

variable (m : (ℓ : Loc nD τ sig) → Buf (Elt Ideal) ℓ) (c : Dev nD)

/-- Before a sequence's start there are zeros. -/
theorem noHalo_apply (r : Fin 16) (k : Fin 1024) : (k0_pay3 : FVec Ideal S16x1024 .bf16) (ix2 r k) = (0 : EReal) := by
  pointwise [k0_pay3]

/-- A tile's halo is the last 16 rows of the tile before. -/
theorem haloT_apply (xs : Vec Ideal S528x1024 .bf16) (r : Fin 16) (k : Fin 1024) : haloT xs (ix2 r k) = xs (ix2 ⟨512 + r.val, by omega⟩ k) := by
  unfold haloT
  pointwise [k0_pay4]

section
variable {m c} (b : Fin 16) (q : Fin 4) (t : Fin cfg0.N) (ht : t.val = 4 * b.val + q.val)
include ht

/-- A sequence's first tile. -/
theorem first_eq (h0 : q.val = 0) :
    (∀ r k, (outsAt0 m c t.val t.isLt).2.2.2 (ix2 r k) = rowAt (argsK m c) b q r k)
    ∧ (∀ (l : Fin 512) (n : Fin 2048), (outsAt0 m c t.val t.isLt).1 (ix2 l n) = (argsK m c).zAt b ⟨512 * q.val + l.val, by omega⟩ n)
    ∧ (∀ (l : Fin 512) (n : Fin 3072), (outsAt0 m c t.val t.isLt).2.1 (ix2 l n) = (argsK m c).xbcAt b ⟨512 * q.val + l.val, by omega⟩ n)
    ∧ ∀ (l : Fin 512) (j : Fin 128), (outsAt0 m c t.val t.isLt).2.2.1 (ix2 l j) = stepOf ((argsK m c).rawAt b ⟨512 * q.val + l.val, by omega⟩ j) := by
  have H := blocks_eq m c b q t ht
  have he := rowsT_apply (A := argsK m c) (b := b) (q := q) (k0_pay3 : FVec Ideal S16x1024 .bf16) H.x H.gain fun r k => by
    rw [noHalo_apply]
    unfold rowAt
    rw [dif_neg (by show ¬ 16 ≤ 512 * q.val + r.val; omega)]
  rw [outsAt0_A m c t (by omega) (by omega)]
  dsimp only
  rw [sout_A, z_A, xbc_A, dt_A]
  exact ⟨he, zT_apply H he, xbcT_apply H he, dtT_apply H⟩

/-- A later tile of a sequence, from the rows the tile before left. -/
theorem later_eq (p : Fin 4) (hp : q.val = p.val + 1) (h) (hxs : ∀ r k, (outsAt0 m c (t.val - 1) h).2.2.2 (ix2 r k) = rowAt (argsK m c) b p r k) :
    (∀ r k, (outsAt0 m c t.val t.isLt).2.2.2 (ix2 r k) = rowAt (argsK m c) b q r k)
    ∧ (∀ (l : Fin 512) (n : Fin 2048), (outsAt0 m c t.val t.isLt).1 (ix2 l n) = (argsK m c).zAt b ⟨512 * q.val + l.val, by omega⟩ n)
    ∧ (∀ (l : Fin 512) (n : Fin 3072), (outsAt0 m c t.val t.isLt).2.1 (ix2 l n) = (argsK m c).xbcAt b ⟨512 * q.val + l.val, by omega⟩ n)
    ∧ ∀ (l : Fin 512) (j : Fin 128), (outsAt0 m c t.val t.isLt).2.2.1 (ix2 l j) = stepOf ((argsK m c).rawAt b ⟨512 * q.val + l.val, by omega⟩ j) := by
  have H := blocks_eq m c b q t ht
  rw [outsAt0_B m c t (by omega) (by omega)]
  generalize (outsAt0 m c (t.val - 1) h).2.2.2 = xs at hxs ⊢
  have he := rowsT_apply (A := argsK m c) (b := b) (q := q) (haloT xs) H.x H.gain fun r k => by
    rw [haloT_apply, hxs]
    unfold rowAt
    have e : 512 * p.val + (512 + r.val) = 512 * q.val + r.val := by omega
    simp only [e]
  dsimp only
  rw [sout_B, z_B, xbc_B, dt_B]
  exact ⟨he, zT_apply H he, xbcT_apply H he, dtT_apply H⟩

end

/-- What a tile leaves: the rows its projection read, and its rows of the results. -/
theorem point_eq (b : Fin 16) : ∀ (q : ℕ) (hq : q < 4) (hn : 4 * b.val + q < cfg0.N),
    (∀ r k, (outsAt0 m c (4 * b.val + q) hn).2.2.2 (ix2 r k) = rowAt (argsK m c) b ⟨q, hq⟩ r k)
    ∧ (∀ (l : Fin 512) (n : Fin 2048), (outsAt0 m c (4 * b.val + q) hn).1 (ix2 l n) = (argsK m c).zAt b ⟨512 * q + l.val, by omega⟩ n)
    ∧ (∀ (l : Fin 512) (n : Fin 3072), (outsAt0 m c (4 * b.val + q) hn).2.1 (ix2 l n) = (argsK m c).xbcAt b ⟨512 * q + l.val, by omega⟩ n)
    ∧ ∀ (l : Fin 512) (j : Fin 128), (outsAt0 m c (4 * b.val + q) hn).2.2.1 (ix2 l j) = stepOf ((argsK m c).rawAt b ⟨512 * q + l.val, by omega⟩ j)
  | 0, hq, hn => first_eq b ⟨0, hq⟩ ⟨4 * b.val + 0, hn⟩ rfl rfl
  | q + 1, hq, hn => later_eq b ⟨q + 1, hq⟩ ⟨4 * b.val + (q + 1), hn⟩ rfl ⟨q, by omega⟩ rfl (Nat.lt_of_succ_lt hn)
    (point_eq b q (by omega) (Nat.lt_of_succ_lt hn)).1

/-- The launch's gate at row `l` of tile `q` of sequence `b`. -/
theorem G5_apply (b : Fin 16) (q : Fin 4) (l : Fin 512) (d : Fin 2048) :
    Value.G5 m c (ix2 ⟨2048 * b.val + 512 * q.val + l.val, by omega⟩ d : S32768x2048.Idx) = (argsK m c).zAt b ⟨512 * q.val + l.val, by omega⟩ d := by
  have hN : cfg0.N = 64 := N_0
  have hp : Value.pt5Of (ix2 ⟨2048 * b.val + 512 * q.val + l.val, by omega⟩ d : S32768x2048.Idx) = 4 * b.val + q.val := by
    show 1 * ((2048 * b.val + 512 * q.val + l.val) / 512 - 0) + 1 * (d.val / 2048 - 0) = _
    omega
  have hn : 4 * b.val + q.val < cfg0.N := by omega
  have hl : Value.loc5Of (ix2 ⟨2048 * b.val + 512 * q.val + l.val, by omega⟩ d : S32768x2048.Idx) = (ix2 l d : S512x2048.Idx) := by
    funext a
    apply Fin.ext
    match a with
    | ⟨0, _⟩ => show (2048 * b.val + 512 * q.val + l.val) % 512 = l.val; omega
    | ⟨1, _⟩ => show d.val % 2048 = d.val; omega
  unfold Value.G5
  simp only [hp, hl]
  rw [dif_pos hn, ← Value.outsAt0_sweep m c _ hn]
  exact (point_eq m c b q.val q.isLt hn).2.1 l d

/-- The launch's activated convolution at row `l` of tile `q` of sequence `b`. -/
theorem G6_apply (b : Fin 16) (q : Fin 4) (l : Fin 512) (d : Fin 3072) :
    Value.G6 m c (ix2 ⟨2048 * b.val + 512 * q.val + l.val, by omega⟩ d : S32768x3072.Idx) = (argsK m c).xbcAt b ⟨512 * q.val + l.val, by omega⟩ d := by
  have hN : cfg0.N = 64 := N_0
  have hp : Value.pt6Of (ix2 ⟨2048 * b.val + 512 * q.val + l.val, by omega⟩ d : S32768x3072.Idx) = 4 * b.val + q.val := by
    show 1 * ((2048 * b.val + 512 * q.val + l.val) / 512 - 0) + 1 * (d.val / 3072 - 0) = _
    omega
  have hn : 4 * b.val + q.val < cfg0.N := by omega
  have hl : Value.loc6Of (ix2 ⟨2048 * b.val + 512 * q.val + l.val, by omega⟩ d : S32768x3072.Idx) = (ix2 l d : S512x3072.Idx) := by
    funext a
    apply Fin.ext
    match a with
    | ⟨0, _⟩ => show (2048 * b.val + 512 * q.val + l.val) % 512 = l.val; omega
    | ⟨1, _⟩ => show d.val % 3072 = d.val; omega
  unfold Value.G6
  simp only [hp, hl]
  rw [dif_pos hn, ← Value.outsAt0_sweep m c _ hn]
  exact (point_eq m c b q.val q.isLt hn).2.2.1 l d

/-- The launch's step sizes at row `l` of tile `q` of sequence `b`. -/
theorem G7_apply (b : Fin 16) (q : Fin 4) (l : Fin 512) (d : Fin 128) :
    Value.G7 m c (ix2 ⟨2048 * b.val + 512 * q.val + l.val, by omega⟩ d : S32768x128.Idx) = stepOf ((argsK m c).rawAt b ⟨512 * q.val + l.val, by omega⟩ d) := by
  have hN : cfg0.N = 64 := N_0
  have hp : Value.pt7Of (ix2 ⟨2048 * b.val + 512 * q.val + l.val, by omega⟩ d : S32768x128.Idx) = 4 * b.val + q.val := by
    show 1 * ((2048 * b.val + 512 * q.val + l.val) / 512 - 0) + 1 * (d.val / 128 - 0) = _
    omega
  have hn : 4 * b.val + q.val < cfg0.N := by omega
  have hl : Value.loc7Of (ix2 ⟨2048 * b.val + 512 * q.val + l.val, by omega⟩ d : S32768x128.Idx) = (ix2 l d : S512x128.Idx) := by
    funext a
    apply Fin.ext
    match a with
    | ⟨0, _⟩ => show (2048 * b.val + 512 * q.val + l.val) % 512 = l.val; omega
    | ⟨1, _⟩ => show d.val % 128 = d.val; omega
  unfold Value.G7
  simp only [hp, hl]
  rw [dif_pos hn, ← Value.outsAt0_sweep m c _ hn]
  exact (point_eq m c b q.val q.isLt hn).2.2.2 l d

end Cert.Kernel3Ideal.SsdIn

end
-- ==== Proof.SsdIn.RefRead.lean ====
/-
  The reference of the SSD input projection, read at an index over the extended reals.
-/
module

public import proofs.«01_k».proof.Proof.Gen.Reference3Ideal.Run
public import proofs.«01_k».proof.Proof.SsdIn.Spec

@[expose] public section

set_option maxRecDepth 16384

noncomputable section

namespace Cert.Reference3Ideal.SsdIn

open Cert.Reference3Ideal Cert.Reference3Ideal.Gen Cert.SsdIn Idealize.ShloMosaic Idealize.ShloMosaic.TcCoe
open Cert.Ffn (rms back)

variable {F : FTy → Type} [FloatOps F]

/-- The norm of every row. -/
def normR (x : FVec F S16x2048x1024 .f32) (g : FVec F S1024 .f32) : FVec F S16x2048x1024 .f32 :=
  mulf (mulf x (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf x x) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The projection. -/
def projR (x : FVec F S16x2048x1024 .f32) (w : FVec F S1024x5152 .f32) : FVec F S16x2048x5152 .f32 :=
  Host.dotGeneral dot_S16x2048x1024_S1024x5152_S16x2048x5152_2_0_01_1_n_n none x w

/-- The gate, over tokens. -/
def zR (u : FVec F S16x2048x5152 .f32) : FVec F S32768x2048 .bf16 :=
  truncf .bf16 (shapeCast _ (extractStridedSlice S16x2048x2048 ![0, 0, 0] u slices_S16x2048x5152_S16x2048x2048_0_0_0) shapeCasts_S16x2048x2048_S32768x2048) bitsLt_bf16_f32

/-- Three zero rows before each sequence's convolved columns. -/
def padR (u : FVec F S16x2048x5152 .f32) : FVec F S16x2051x3072 .f32 :=
  pad S16x2051x3072 ![0, 3, 0] ![0, 0, 0] ![0, 0, 0] (extractStridedSlice S16x2048x3072 ![0, 0, 2048] u slices_S16x2048x5152_S16x2048x3072_0_0_2048) (sitofp .f32 (constantI S_ 32 0#32)) pads_S16x2048x3072_S16x2051x3072_000_300_000 h_S_

/-- The convolution. -/
def convR (p : FVec F S16x2051x3072 .f32) (w : FVec F S4x3072 .f32) (b : FVec F S3072 .f32) : FVec F S16x2048x3072 .f32 :=
  addf (addf (addf (addf (addf (broadcastInDim S16x2048x3072 ![] bcast_S_S16x2048x3072 (constant S_ .f32 0x00000000#32))
    (mulf (extractStridedSlice S16x2048x3072 ![0, 0, 0] p slices_S16x2051x3072_S16x2048x3072_0_0_0) (broadcastInDim S16x2048x3072 ![0, 1, 2] bcast_S1x1x3072_S16x2048x3072_0_1_2 (broadcastInDim S1x1x3072 ![2] bcast_S3072_S1x1x3072_2 (shapeCast _ (extractStridedSlice S1x3072 ![0, 0] w slices_S4x3072_S1x3072_0_0) shapeCasts_S1x3072_S3072)))))
    (mulf (extractStridedSlice S16x2048x3072 ![0, 1, 0] p slices_S16x2051x3072_S16x2048x3072_0_1_0) (broadcastInDim S16x2048x3072 ![0, 1, 2] bcast_S1x1x3072_S16x2048x3072_0_1_2 (broadcastInDim S1x1x3072 ![2] bcast_S3072_S1x1x3072_2 (shapeCast _ (extractStridedSlice S1x3072 ![1, 0] w slices_S4x3072_S1x3072_1_0) shapeCasts_S1x3072_S3072)))))
    (mulf (extractStridedSlice S16x2048x3072 ![0, 2, 0] p slices_S16x2051x3072_S16x2048x3072_0_2_0) (broadcastInDim S16x2048x3072 ![0, 1, 2] bcast_S1x1x3072_S16x2048x3072_0_1_2 (broadcastInDim S1x1x3072 ![2] bcast_S3072_S1x1x3072_2 (shapeCast _ (extractStridedSlice S1x3072 ![2, 0] w slices_S4x3072_S1x3072_2_0) shapeCasts_S1x3072_S3072)))))
    (mulf (extractStridedSlice S16x2048x3072 ![0, 3, 0] p slices_S16x2051x3072_S16x2048x3072_0_3_0) (broadcastInDim S16x2048x3072 ![0, 1, 2] bcast_S1x1x3072_S16x2048x3072_0_1_2 (broadcastInDim S1x1x3072 ![2] bcast_S3072_S1x1x3072_2 (shapeCast _ (extractStridedSlice S1x3072 ![3, 0] w slices_S4x3072_S1x3072_3_0) shapeCasts_S1x3072_S3072)))))
    (broadcastInDim S16x2048x3072 ![0, 1, 2] bcast_S1x1x3072_S16x2048x3072_0_1_2 (broadcastInDim S1x1x3072 ![2] bcast_S3072_S1x1x3072_2 b))

/-- The activation, over tokens. -/
def siluR (v : FVec F S16x2048x3072 .f32) : FVec F S32768x3072 .bf16 :=
  truncf .bf16 (shapeCast _ (mulf v (Host.divf (broadcastInDim S16x2048x3072 ![] bcast_S_S16x2048x3072 (constant S_ .f32 0x3F800000#32))
    (addf (broadcastInDim S16x2048x3072 ![] bcast_S_S16x2048x3072 (constant S_ .f32 0x3F800000#32)) (Host.exp (Host.negf v))))) shapeCasts_S16x2048x3072_S32768x3072) bitsLt_bf16_f32

/-- What the steps are taken of, and 96 lanes of zeros. -/
def rawR (u : FVec F S16x2048x5152 .f32) (s : FVec F S32 .f32) : FVec F S16x2048x128 .f32 :=
  pad S16x2048x128 ![0, 0, 0] ![0, 0, 96] ![0, 0, 0] (addf (extractStridedSlice S16x2048x32 ![0, 0, 5120] u slices_S16x2048x5152_S16x2048x32_0_0_5120)
    (broadcastInDim S16x2048x32 ![0, 1, 2] bcast_S1x1x32_S16x2048x32_0_1_2 (broadcastInDim S1x1x32 ![2] bcast_S32_S1x1x32_2 s))) (sitofp .f32 (constantI S_ 32 0#32)) pads_S16x2048x32_S16x2048x128_000_000_0960 h_S_

/-- A lane of zeros. -/
def zeroR : FVec F S16x2048x128 .f32 := broadcastInDim S16x2048x128 ![] bcast_S_S16x2048x128 (constant S_ .f32 0x00000000#32)

/-- The steps, over tokens. -/
def stepR (p : FVec F S16x2048x128 .f32) : FVec F S32768x128 .f32 :=
  shapeCast _ (select (cmpf .une (subf p zeroR) (subf p zeroR)) (addf p zeroR) (addf (maximumf p zeroR) (Host.log1p (Host.exp (Host.negf (Host.absf (subf p zeroR))))))) shapeCasts_S16x2048x128_S32768x128

/-- The projection of the arguments. -/
def projM (m : (ℓ : Loc nD τ sig) → Buf (Elt F) ℓ) (c : Dev nD) : FVec F S16x2048x5152 .f32 :=
  projR (normR (m ((c.tc : Thread nD τ).loc main_arg0)) (m ((c.tc : Thread nD τ).loc main_arg1))) (m ((c.tc : Thread nD τ).loc main_arg2))

theorem res1_eq (m : (ℓ : Loc nD τ sig) → Buf (Elt F) ℓ) (c : Dev nD) :
    Value.res_out1 m c = siluR (convR (padR (projM m c)) (m ((c.tc : Thread nD τ).loc main_arg3)) (m ((c.tc : Thread nD τ).loc main_arg4))) := rfl

theorem res2_eq (m : (ℓ : Loc nD τ sig) → Buf (Elt F) ℓ) (c : Dev nD) :
    Value.res_out2 m c = stepR (rawR (projM m c) (m ((c.tc : Thread nD τ).loc main_arg5))) := rfl

theorem normR_apply (x : FVec Ideal S16x2048x1024 .f32) (g : FVec Ideal S1024 .f32) (b : Fin 16) (t : Fin 2048) (j : Fin 1024) :
    normR x g (ix3 b t j) = rms (fun j => x (ix3 b t j)) (fun j => g (ix1 j)) j := by
  pointwise [normR]
  rfl

theorem projR_apply (x : FVec Ideal S16x2048x1024 .f32) (w : FVec Ideal S1024x5152 .f32) (b : Fin 16) (t : Fin 2048) (j : Fin 5152) :
    projR x w (ix3 b t j) = ∑ k, x (ix3 b t k) * w (ix2 k j) := by
  pointwise [projR]

theorem zR_apply (u : FVec Ideal S16x2048x5152 .f32) (b : Fin 16) (t : Fin 2048) (n : Fin 2048) :
    zR u (ix2 ⟨2048 * b.val + t.val, by omega⟩ n) = u (ix3 b t ⟨n.val, by omega⟩) := by
  pointwise [zR]

theorem zero_int : (FloatOps.sitofp FTy.f32 (0#32) : Ideal .f32) = 0 := by
  show ((((0#32 : BitVec 32).toInt : ℤ) : ℝ) : EReal) = 0
  simp

theorem padR_apply (u : FVec Ideal S16x2048x5152 .f32) (b : Fin 16) (t : Fin 2051) (j : Fin 3072) :
    padR u (ix3 b t j) = if h : 3 ≤ t.val then u (ix3 b ⟨t.val - 3, by omega⟩ ⟨2048 + j.val, by omega⟩) else 0 := by
  pointwise [padR]
  by_cases h : 3 ≤ t.val
  · rw [dif_pos ⟨h, by omega⟩, dif_pos h]
  · rw [dif_neg (fun h' => h h'.1), dif_neg h, zero_int]

theorem convR_apply (p : FVec Ideal S16x2051x3072 .f32) (w : FVec Ideal S4x3072 .f32) (v : FVec Ideal S3072 .f32) (b : Fin 16) (t : Fin 2048) (j : Fin 3072) :
    convR p w v (ix3 b t j) = w (ix2 3 j) * p (ix3 b ⟨3 + t.val, by omega⟩ j) + w (ix2 2 j) * p (ix3 b ⟨2 + t.val, by omega⟩ j) + v (ix1 j)
      + (w (ix2 1 j) * p (ix3 b ⟨1 + t.val, by omega⟩ j) + w (ix2 0 j) * p (ix3 b ⟨t.val, by omega⟩ j)) := by
  pointwise [convR]
  rw [mul_comm (w (ix2 0 j)), mul_comm (w (ix2 1 j)), mul_comm (w (ix2 2 j)), mul_comm (w (ix2 3 j))]
  abel

theorem siluR_apply (v : FVec Ideal S16x2048x3072 .f32) (b : Fin 16) (t : Fin 2048) (n : Fin 3072) :
    siluR v (ix2 ⟨2048 * b.val + t.val, by omega⟩ n) = v (ix3 b t n) * Ideal.div 1 (1 + Ideal.exp (0 - v (ix3 b t n))) := by
  pointwise [siluR]
  rw [sub_eq_add_neg, zero_add]

theorem rawR_apply (u : FVec Ideal S16x2048x5152 .f32) (s : FVec Ideal S32 .f32) (b : Fin 16) (t : Fin 2048) (j : Fin 128) :
    rawR u s (ix3 b t j) = if h : j.val < 32 then u (ix3 b t ⟨5120 + j.val, by omega⟩) + s (ix1 ⟨j.val, h⟩) else 0 := by
  pointwise [rawR]
  by_cases h : j.val < 32
  · rw [dif_pos h, dif_pos h]
  · rw [dif_neg h, dif_neg h, zero_int]

theorem stepR_apply (p : FVec Ideal S16x2048x128 .f32) (b : Fin 16) (t : Fin 2048) (j : Fin 128) :
    stepR p (ix2 ⟨2048 * b.val + t.val, by omega⟩ j) = stepOf (p (ix3 b t j)) := by
  unfold stepOf
  pointwise [stepR, zeroR]
  rw [if_neg (fun h => h rfl), sub_eq_add_neg, zero_add]
  rfl

/-- The reference's arguments, entry by entry. -/
def argsR (m : (ℓ : Loc nD τ sig) → Buf (Elt Ideal) ℓ) (c : Dev nD) : Args where
  x b t j := (m ((c.tc : Thread nD τ).loc main_arg0) : FVec Ideal S16x2048x1024 .f32) (ix3 b t j)
  gain j := (m ((c.tc : Thread nD τ).loc main_arg1) : FVec Ideal S1024 .f32) (ix1 j)
  w k n := (m ((c.tc : Thread nD τ).loc main_arg2) : FVec Ideal S1024x5152 .f32) (ix2 k n)
  taps i n := (m ((c.tc : Thread nD τ).loc main_arg3) : FVec Ideal S4x3072 .f32) (ix2 i n)
  bias n := (m ((c.tc : Thread nD τ).loc main_arg4) : FVec Ideal S3072 .f32) (ix1 n)
  step j := (m ((c.tc : Thread nD τ).loc main_arg5) : FVec Ideal S32 .f32) (ix1 j)

variable (m : (ℓ : Loc nD τ sig) → Buf (Elt Ideal) ℓ) (c : Dev nD) (b : Fin 16) (t : Fin 2048)

theorem projM_apply (n : Fin 5152) : (projM m c (ix3 b t n) : EReal) = (argsR m c).projAt b t n := by
  unfold projM
  rw [projR_apply]
  simp only [normR_apply]
  rfl

theorem z_apply (n : Fin 2048) : zR (projM m c) (ix2 ⟨2048 * b.val + t.val, by omega⟩ n) = (argsR m c).zAt b t n := by
  rw [zR_apply, projM_apply]
  rfl

theorem xbc_apply (n : Fin 3072) :
    (Value.res_out1 m c : FVec Ideal S32768x3072 .bf16) (ix2 ⟨2048 * b.val + t.val, by omega⟩ n) = (argsR m c).xbcAt b t n := by
  have hconv : convR (F := Ideal) (padR (projM m c)) (m ((c.tc : Thread nD τ).loc main_arg3)) (m ((c.tc : Thread nD τ).loc main_arg4)) (ix3 b t n)
      = ((argsR m c).convAt b t n : EReal) := by
    rw [convR_apply]
    simp only [padR_apply, projM_apply]
    unfold Args.convAt back
    have e3 : ∀ h, (⟨3 + t.val - 3, h⟩ : Fin 2048) = t := fun h => Fin.ext (by show 3 + t.val - 3 = t.val; omega)
    have e2 : ∀ h h', (⟨2 + t.val - 3, h⟩ : Fin 2048) = ⟨t.val - 1, h'⟩ := fun h h' => Fin.ext (by show 2 + t.val - 3 = t.val - 1; omega)
    have e1 : ∀ h h', (⟨1 + t.val - 3, h⟩ : Fin 2048) = ⟨t.val - 2, h'⟩ := fun h h' => Fin.ext (by show 1 + t.val - 3 = t.val - 2; omega)
    rw [dif_pos (by omega : 3 ≤ 3 + t.val)]
    by_cases h1 : 1 ≤ t.val
    · by_cases h2 : 2 ≤ t.val
      · by_cases h3 : 3 ≤ t.val
        · simp only [dif_pos h1, dif_pos h2, dif_pos h3, dif_pos (by omega : 3 ≤ 2 + t.val), dif_pos (by omega : 3 ≤ 1 + t.val), e3, e2 _ (by omega : t.val - 1 < 2048), e1 _ (by omega : t.val - 2 < 2048)]
          rfl
        · simp only [dif_pos h1, dif_pos h2, dif_neg h3, dif_pos (by omega : 3 ≤ 2 + t.val), dif_pos (by omega : 3 ≤ 1 + t.val), e3, e2 _ (by omega : t.val - 1 < 2048), e1 _ (by omega : t.val - 2 < 2048)]
          rfl
      · simp only [dif_pos h1, dif_neg h2, dif_neg (by omega : ¬ 3 ≤ t.val), dif_pos (by omega : 3 ≤ 2 + t.val), dif_neg (by omega : ¬ 3 ≤ 1 + t.val), e3, e2 _ (by omega : t.val - 1 < 2048)]
        rfl
    · simp only [dif_neg h1, dif_neg (by omega : ¬ 2 ≤ t.val), dif_neg (by omega : ¬ 3 ≤ t.val), dif_neg (by omega : ¬ 3 ≤ 2 + t.val), dif_neg (by omega : ¬ 3 ≤ 1 + t.val), e3]
      rfl
  rw [res1_eq, siluR_apply, hconv]
  rfl

theorem dt_apply (j : Fin 128) :
    (Value.res_out2 m c : FVec Ideal S32768x128 .f32) (ix2 ⟨2048 * b.val + t.val, by omega⟩ j) = stepOf ((argsR m c).rawAt b t j) := by
  rw [res2_eq, stepR_apply, rawR_apply]
  simp only [projM_apply]
  rfl

end Cert.Reference3Ideal.SsdIn

end
-- ==== Proof.SsdIn.Claim.lean ====
/-
  The SSD input projection's value claim.
-/
module

public import proofs.«01_k».proof.Defs
public import proofs.«01_k».proof.Proof.SsdIn.Chain
public import proofs.«01_k».proof.Proof.SsdIn.RefRead
public import Idealize.ShloMosaic.Adequacy
public import Idealize.ShloMosaic.Init

@[expose] public section

set_option maxRecDepth 16384

noncomputable section

namespace Cert.SsdIn

open Idealize.ShloMosaic Idealize.SL.Sem Idealize.ShloMosaic.TcCoe

/-- A place of the gate is a row of a tile of a sequence and a column. -/
theorem place2048 (i : Cert.Kernel3Ideal.S32768x2048.Idx) : ∃ (b : Fin 16) (q : Fin 4) (l : Fin 512) (d : Fin 2048),
    i = (ix2 ⟨2048 * b.val + 512 * q.val + l.val, by omega⟩ d : Cert.Kernel3Ideal.S32768x2048.Idx) := by
  have h0 : (i 0).val < 32768 := (i 0).isLt
  refine ⟨⟨(i 0).val / 2048, by omega⟩, ⟨(i 0).val % 2048 / 512, by omega⟩, ⟨(i 0).val % 512, by omega⟩, i 1, ?_⟩
  funext a
  apply Fin.ext
  match a with
  | ⟨0, _⟩ => show (i 0).val = 2048 * ((i 0).val / 2048) + 512 * ((i 0).val % 2048 / 512) + (i 0).val % 512; omega
  | ⟨1, _⟩ => rfl

/-- A place of the activated convolution is a row of a tile of a sequence and a column. -/
theorem place3072 (i : Cert.Kernel3Ideal.S32768x3072.Idx) : ∃ (b : Fin 16) (q : Fin 4) (l : Fin 512) (d : Fin 3072),
    i = (ix2 ⟨2048 * b.val + 512 * q.val + l.val, by omega⟩ d : Cert.Kernel3Ideal.S32768x3072.Idx) := by
  have h0 : (i 0).val < 32768 := (i 0).isLt
  refine ⟨⟨(i 0).val / 2048, by omega⟩, ⟨(i 0).val % 2048 / 512, by omega⟩, ⟨(i 0).val % 512, by omega⟩, i 1, ?_⟩
  funext a
  apply Fin.ext
  match a with
  | ⟨0, _⟩ => show (i 0).val = 2048 * ((i 0).val / 2048) + 512 * ((i 0).val % 2048 / 512) + (i 0).val % 512; omega
  | ⟨1, _⟩ => rfl

/-- A place of the step sizes is a row of a tile of a sequence and a column. -/
theorem place128 (i : Cert.Kernel3Ideal.S32768x128.Idx) : ∃ (b : Fin 16) (q : Fin 4) (l : Fin 512) (d : Fin 128),
    i = (ix2 ⟨2048 * b.val + 512 * q.val + l.val, by omega⟩ d : Cert.Kernel3Ideal.S32768x128.Idx) := by
  have h0 : (i 0).val < 32768 := (i 0).isLt
  refine ⟨⟨(i 0).val / 2048, by omega⟩, ⟨(i 0).val % 2048 / 512, by omega⟩, ⟨(i 0).val % 512, by omega⟩, i 1, ?_⟩
  funext a
  apply Fin.ext
  match a with
  | ⟨0, _⟩ => show (i 0).val = 2048 * ((i 0).val / 2048) + 512 * ((i 0).val % 2048 / 512) + (i 0).val % 512; omega
  | ⟨1, _⟩ => rfl

theorem row_eq (b : Fin 16) (q : Fin 4) (l : Fin 512) :
    (⟨2048 * b.val + 512 * q.val + l.val, by omega⟩ : Fin 32768) = ⟨2048 * b.val + (512 * q.val + l.val), by omega⟩ :=
  Fin.ext (by show 2048 * b.val + 512 * q.val + l.val = 2048 * b.val + (512 * q.val + l.val); omega)

theorem algebraic : Cert.algebraic_Kernel3Ideal_Reference3Ideal := by
  intro m ρ m' ρ' _ hagree
  refine ⟨fun c => Cert.Kernel3Ideal.Value.G5 m c, fun c => Cert.Kernel3Ideal.Value.G6 m c, fun c => Cert.Kernel3Ideal.Value.G7 m c, Cert.Kernel3Ideal.Value.run (F := Ideal) m ρ, ?_⟩
  refine (θ_run Cert.Reference3Ideal.defs _ _).mono (fun r h c => ⟨(h c).1.trans ?_, (h c).2.1.trans ?_, (h c).2.2.1.trans ?_, (h c).2.2.2⟩) (Cert.Reference3Ideal.Value.run (F := Ideal) m' ρ')
  all_goals
    obtain ⟨e0, e1, e2, e3, e4, e5⟩ := hagree c
    have e : Cert.Reference3Ideal.SsdIn.argsR m' c = Cert.Kernel3Ideal.SsdIn.argsK m c := by
      unfold Cert.Reference3Ideal.SsdIn.argsR Cert.Kernel3Ideal.SsdIn.argsK
      rw [e0, e1, e2, e3, e4, e5]
  · funext i
    obtain ⟨b, q, l, d, rfl⟩ := place2048 i
    have hr := Cert.Reference3Ideal.SsdIn.z_apply m' c b ⟨512 * q.val + l.val, by omega⟩ d
    rw [e] at hr
    refine Eq.trans ?_ (hr.trans (Cert.Kernel3Ideal.SsdIn.G5_apply m c b q l d).symm)
    exact congrArg (fun n => (Cert.Reference3Ideal.SsdIn.zR (Cert.Reference3Ideal.SsdIn.projM m' c) : FVec Ideal Cert.Reference3Ideal.S32768x2048 .bf16) (ix2 n d)) (row_eq b q l)
  · funext i
    obtain ⟨b, q, l, d, rfl⟩ := place3072 i
    have hr := Cert.Reference3Ideal.SsdIn.xbc_apply m' c b ⟨512 * q.val + l.val, by omega⟩ d
    rw [e] at hr
    refine Eq.trans ?_ (hr.trans (Cert.Kernel3Ideal.SsdIn.G6_apply m c b q l d).symm)
    exact congrArg (fun n => (Cert.Reference3Ideal.Value.res_out1 m' c : FVec Ideal Cert.Reference3Ideal.S32768x3072 .bf16) (ix2 n d)) (row_eq b q l)
  · funext i
    obtain ⟨b, q, l, d, rfl⟩ := place128 i
    have hr := Cert.Reference3Ideal.SsdIn.dt_apply m' c b ⟨512 * q.val + l.val, by omega⟩ d
    rw [e] at hr
    refine Eq.trans ?_ (hr.trans (Cert.Kernel3Ideal.SsdIn.G7_apply m c b q l d).symm)
    exact congrArg (fun n => (Cert.Reference3Ideal.Value.res_out2 m' c : FVec Ideal Cert.Reference3Ideal.S32768x128 .f32) (ix2 n d)) (row_eq b q l)

end Cert.SsdIn

end
-- ==== Proof.OutProj.Spec.lean ====
/-
  A token mixer's output projection, entry by entry, over the extended reals. Both programs are read in this function.
-/
module

public import proofs.«01_k».proof.Proof.Ffn.Spec

@[expose] public section

noncomputable section

namespace Cert.OutProj

open Idealize.ShloMosaic
open Cert.Ffn (rms)

/-- The arguments of a projection from `K` columns, entry by entry. -/
structure Args (K : ℕ) where
  y : Fin 16 → Fin 2048 → Fin K → EReal
  w : Fin K → Fin 1024 → EReal
  gain : Fin 1024 → EReal
  h : Fin 16 → Fin 2048 → Fin 1024 → EReal

/-- The result: the residual stream plus the norm of the projected row. -/
def Args.outAt {K : ℕ} (A : Args K) (b : Fin 16) (t : Fin 2048) (d : Fin 1024) : EReal :=
  A.h b t d + rms (fun d => ∑ k, A.y b t k * A.w k d) A.gain d

end Cert.OutProj

end
-- ==== Proof.OutProj.Ssd.lean ====
/-
  The output projection after the SSD scan: what each grid point writes, what the reference computes, and that they agree.
-/
module

public import proofs.«01_k».proof.Defs
public import proofs.«01_k».proof.Proof.Gen.Kernel4Ideal.Value
public import proofs.«01_k».proof.Proof.Gen.Reference4Ideal.Run
public import proofs.«01_k».proof.Proof.OutProj.Spec
public import Idealize.ShloMosaic.Adequacy
public import Idealize.ShloMosaic.Init
public import Idealize.ShloMosaic.Lib.Pointwise
public import Idealize.ShloMosaic.Lib.Claim
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.Kernel4Ideal.OutProj

open Cert.Kernel4Ideal Cert.Kernel4Ideal.Gen Cert.OutProj Idealize.ShloMosaic Idealize.ShloMosaic.TcCoe Idealize.SL.Sem
open Cert.Ffn (rms)

/-- The body's value at a row and a column. -/
theorem body_apply (y : Vec Ideal S512x2048 .bf16) (w : Vec Ideal S2048x1024 .bf16) (h : Vec Ideal S512x1024 .f32) (g : Vec Ideal S1x1024 .f32) (l : Fin 512) (d : Fin 1024) :
    k0_pay1 y w h g (ix2 l d) = h (ix2 l d) + rms (fun d => ∑ k, y (ix2 l k) * w (ix2 k d)) (fun d => g (ix2 0 d)) d := by
  pointwise [k0_pay1]
  rfl

variable (m : (ℓ : Loc nD τ sig) → Buf (Elt Ideal) ℓ) (c : Dev nD)

/-- The kernel's arguments, entry by entry. -/
def argsK : Args 2048 where
  y b t k := (m ((c : Thread nD τ).loc main_arg0) : FVec Ideal S16x2048x2048 .f32) (ix3 b t k)
  w k d := (m ((c : Thread nD τ).loc main_arg1) : FVec Ideal S2048x1024 .f32) (ix2 k d)
  gain d := (m ((c : Thread nD τ).loc main_arg2) : FVec Ideal S1024 .f32) (ix1 d)
  h b t d := (m ((c : Thread nD τ).loc main_arg3) : FVec Ideal S16x2048x1024 .f32) (ix3 b t d)

theorem y_apply (r : Fin 32768) (k : Fin 2048) :
    (V m c main_v1 : Vec Ideal S32768x2048 .bf16) (ix2 r k) = (argsK m c).y ⟨r.val / 2048, by omega⟩ ⟨r.val % 2048, by omega⟩ k := by
  unfold V argsK
  after_reads_at

theorem w_apply (k : Fin 2048) (d : Fin 1024) : (V m c main_v2 : Vec Ideal S2048x1024 .bf16) (ix2 k d) = (argsK m c).w k d := by
  unfold V argsK
  after_reads_at

theorem gain_apply (d : Fin 1024) : (V m c main_v3 : Vec Ideal S1x1024 .f32) (ix2 0 d) = (argsK m c).gain d := by
  unfold V argsK
  after_reads_at

theorem h_apply (r : Fin 32768) (d : Fin 1024) :
    (V m c main_v4 : Vec Ideal S32768x1024 .f32) (ix2 r d) = (argsK m c).h ⟨r.val / 2048, by omega⟩ ⟨r.val % 2048, by omega⟩ d := by
  unfold V argsK
  after_reads_at

theorem lt_points (t : Fin cfg0.N) : t.val < 64 := lt_of_lt_of_eq t.isLt (show cfg0.N = 64 from N_0)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel

theorem blk0_apply (t : Fin cfg0.N) (l : Fin 512) (k : Fin 2048) :
    (iblk m c 0 t : Vec Ideal S512x2048 .bf16) (ix2 l k) = V m c main_v1 (ix2 ⟨512 * t.val + l.val, by have := lt_points t; omega⟩ k) := by
  blk_ext [iblk, idx0 t]

theorem blk1_apply (t : Fin cfg0.N) (k : Fin 2048) (d : Fin 1024) :
    (iblk m c 1 t : Vec Ideal S2048x1024 .bf16) (ix2 k d) = V m c main_v2 (ix2 k d) := by
  blk_ext [iblk, idx1 t]

theorem blk2_apply (t : Fin cfg0.N) (d : Fin 1024) : (iblk m c 2 t : Vec Ideal S1x1024 .f32) (ix2 0 d) = V m c main_v3 (ix2 0 d) := by
  blk_ext [iblk, idx2 t]

theorem blk3_apply (t : Fin cfg0.N) (l : Fin 512) (d : Fin 1024) :
    (iblk m c 3 t : Vec Ideal S512x1024 .f32) (ix2 l d) = V m c main_v4 (ix2 ⟨512 * t.val + l.val, by have := lt_points t; omega⟩ d) := by
  blk_ext [iblk, idx3 t]

/-- The result array. -/
def outK : FVec Ideal S32768x1024 .f32 := fun i =>
  (argsK m c).outAt ⟨(i 0).val / 2048, by have : (i 0).val < 32768 := (i 0).isLt; omega⟩ ⟨(i 0).val % 2048, by omega⟩ (i 1)

/-- What a grid point writes at a row and a column of its block. -/
theorem point_apply (t : Fin cfg0.N) (l : Fin 512) (d : Fin 1024) :
    out0_4 (iblk m c 0 t) (iblk m c 1 t) (iblk m c 2 t) (iblk m c 3 t) (ix2 l d)
      = outK m c (ix2 ⟨512 * t.val + l.val, by have := lt_points t; omega⟩ d) := by
  have e0 := fun k => (blk0_apply m c t l k).trans (y_apply m c _ k)
  have e1 := fun k d => (blk1_apply m c t k d).trans (w_apply m c k d)
  have e2 := fun d => (blk2_apply m c t d).trans (gain_apply m c d)
  have e3 := (blk3_apply m c t l d).trans (h_apply m c _ d)
  frame_out
  rw [body_apply, e3]
  simp only [e0, e1, e2]
  rfl

/-- The result array after the run. -/
theorem final : (dats m 0 c).arrAt 4 cfg0.N = outK m c := by
  refine (dats m 0 c).arrAt_eq_of_covers 4 (outK m c) (by decide +kernel) fun t hf y => ?_
  blk_simp
  rw [after0_4]
  have e : (win0_4.blk t).view.emb y = (ix2 ⟨512 * t.val + (y 0).val, by have := lt_points t; have : (y 0).val < 512 := (y 0).isLt; omega⟩ (y 1) : S32768x1024.Idx) := by
    have e4 := idx4 t
    funext a
    apply Fin.ext
    match a with
    | ⟨0, _⟩ => show win0_4.index t 0 * 512 + 1 * (y 0).val = 512 * t.val + (y 0).val; rw [e4]; show t.val * 512 + 1 * (y 0).val = _; omega
    | ⟨1, _⟩ => show win0_4.index t 1 * 1024 + 1 * (y 1).val = (y 1).val; rw [e4]; show 0 * 1024 + 1 * (y 1).val = _; omega
  have ey : y = (ix2 (y 0) (y 1) : S512x1024.Idx) := by
    funext a
    match a with
    | ⟨0, _⟩ => rfl
    | ⟨1, _⟩ => rfl
  rw [e]
  exact (congrArg (out0_4 (iblk m c 0 t) (iblk m c 1 t) (iblk m c 2 t) (iblk m c 3 t)) ey).trans (point_apply m c t (y 0) (y 1))

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v5) = outK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Kernel4Ideal.OutProj

namespace Cert.Reference4Ideal.OutProj

open Cert.Reference4Ideal Cert.Reference4Ideal.Gen Cert.OutProj Idealize.ShloMosaic Idealize.ShloMosaic.TcCoe
open Cert.Ffn (rms)

variable {F : FTy → Type} [FloatOps F]

/-- The norm of every row. -/
def normR (x : FVec F S16x2048x1024 .f32) (g : FVec F S1024 .f32) : FVec F S16x2048x1024 .f32 :=
  mulf (mulf x (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf x x) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The projection. -/
def projR (y : FVec F S16x2048x2048 .f32) (w : FVec F S2048x1024 .f32) : FVec F S16x2048x1024 .f32 :=
  Host.dotGeneral dot_S16x2048x2048_S2048x1024_S16x2048x1024_2_0_01_1_n_n none y w

/-- The result, over tokens. -/
def outR (h n : FVec F S16x2048x1024 .f32) : FVec F S32768x1024 .f32 := shapeCast _ (addf h n) shapeCasts_S16x2048x1024_S32768x1024

/-- The result, of the arguments. -/
def resR (m : (ℓ : Loc nD τ sig) → Buf (Elt F) ℓ) (c : Dev nD) : FVec F S32768x1024 .f32 :=
  outR (m ((c.tc : Thread nD τ).loc main_arg3)) (normR (projR (m ((c.tc : Thread nD τ).loc main_arg0)) (m ((c.tc : Thread nD τ).loc main_arg1))) (m ((c.tc : Thread nD τ).loc main_arg2)))

theorem normR_apply (x : FVec Ideal S16x2048x1024 .f32) (g : FVec Ideal S1024 .f32) (b : Fin 16) (t : Fin 2048) (j : Fin 1024) :
    normR x g (ix3 b t j) = rms (fun j => x (ix3 b t j)) (fun j => g (ix1 j)) j := by
  pointwise [normR]
  rfl

theorem projR_apply (y : FVec Ideal S16x2048x2048 .f32) (w : FVec Ideal S2048x1024 .f32) (b : Fin 16) (t : Fin 2048) (j : Fin 1024) :
    projR y w (ix3 b t j) = ∑ k, y (ix3 b t k) * w (ix2 k j) := by
  pointwise [projR]

theorem outR_apply (h n : FVec Ideal S16x2048x1024 .f32) (b : Fin 16) (t : Fin 2048) (j : Fin 1024) :
    outR h n (ix2 ⟨2048 * b.val + t.val, by omega⟩ j) = h (ix3 b t j) + n (ix3 b t j) := by
  pointwise [outR]

/-- The reference's arguments, entry by entry. -/
def argsR (m : (ℓ : Loc nD τ sig) → Buf (Elt Ideal) ℓ) (c : Dev nD) : Args 2048 where
  y b t k := (m ((c.tc : Thread nD τ).loc main_arg0) : FVec Ideal S16x2048x2048 .f32) (ix3 b t k)
  w k d := (m ((c.tc : Thread nD τ).loc main_arg1) : FVec Ideal S2048x1024 .f32) (ix2 k d)
  gain d := (m ((c.tc : Thread nD τ).loc main_arg2) : FVec Ideal S1024 .f32) (ix1 d)
  h b t d := (m ((c.tc : Thread nD τ).loc main_arg3) : FVec Ideal S16x2048x1024 .f32) (ix3 b t d)

/-- The reference's result at token `t` of sequence `b`. -/
theorem res_apply (m : (ℓ : Loc nD τ sig) → Buf (Elt Ideal) ℓ) (c : Dev nD) (b : Fin 16) (t : Fin 2048) (d : Fin 1024) :
    resR m c (ix2 ⟨2048 * b.val + t.val, by omega⟩ d) = (argsR m c).outAt b t d := by
  unfold resR
  rw [outR_apply, normR_apply]
  simp only [projR_apply]
  rfl

end Cert.Reference4Ideal.OutProj

namespace Cert.OutProj.Ssd

open Idealize.ShloMosaic Idealize.SL.Sem Idealize.ShloMosaic.TcCoe

/-- A place of the result is a token of a sequence and a column. -/
theorem place (i : Cert.Kernel4Ideal.S32768x1024.Idx) : ∃ (b : Fin 16) (t : Fin 2048) (d : Fin 1024),
    i = (ix2 ⟨2048 * b.val + t.val, by omega⟩ d : Cert.Kernel4Ideal.S32768x1024.Idx) := by
  have h0 : (i 0).val < 32768 := (i 0).isLt
  refine ⟨⟨(i 0).val / 2048, by omega⟩, ⟨(i 0).val % 2048, by omega⟩, i 1, ?_⟩
  funext a
  apply Fin.ext
  match a with
  | ⟨0, _⟩ => show (i 0).val = 2048 * ((i 0).val / 2048) + (i 0).val % 2048; omega
  | ⟨1, _⟩ => rfl

theorem outK_apply (m : (ℓ : Loc Cert.Kernel4Ideal.nD Cert.Kernel4Ideal.τ Cert.Kernel4Ideal.sig) → Buf (Elt Ideal) ℓ) (c : Dev Cert.Kernel4Ideal.nD)
    (b : Fin 16) (t : Fin 2048) (d : Fin 1024) :
    Cert.Kernel4Ideal.OutProj.outK m c (ix2 ⟨2048 * b.val + t.val, by omega⟩ d) = (Cert.Kernel4Ideal.OutProj.argsK m c).outAt b t d := by
  have eb : ∀ h, (⟨(2048 * b.val + t.val) / 2048, h⟩ : Fin 16) = b := fun h => Fin.ext (by show (2048 * b.val + t.val) / 2048 = b.val; omega)
  have et : ∀ h, (⟨(2048 * b.val + t.val) % 2048, h⟩ : Fin 2048) = t := fun h => Fin.ext (by show (2048 * b.val + t.val) % 2048 = t.val; omega)
  show (Cert.Kernel4Ideal.OutProj.argsK m c).outAt ⟨(2048 * b.val + t.val) / 2048, by omega⟩ ⟨(2048 * b.val + t.val) % 2048, by omega⟩ d = _
  rw [eb, et]

theorem algebraic : Cert.algebraic_Kernel4Ideal_Reference4Ideal := by
  intro m ρ m' ρ' _ hagree
  refine ⟨fun c => Cert.Kernel4Ideal.OutProj.outK m c, Cert.Kernel4Ideal.OutProj.run m ρ, ?_⟩
  refine (θ_run Cert.Reference4Ideal.defs _ _).mono (fun r h c => ⟨(h c).1.trans ?_, (h c).2⟩) (Cert.Reference4Ideal.Value.run (F := Ideal) m' ρ')
  obtain ⟨e0, e1, e2, e3⟩ := hagree c
  have e : Cert.Reference4Ideal.OutProj.argsR m' c = Cert.Kernel4Ideal.OutProj.argsK m c := by
    unfold Cert.Reference4Ideal.OutProj.argsR Cert.Kernel4Ideal.OutProj.argsK
    rw [e0, e1, e2, e3]
  funext i
  obtain ⟨b, t, d, rfl⟩ := place i
  have hr := Cert.Reference4Ideal.OutProj.res_apply m' c b t d
  rw [e] at hr
  exact hr.trans (outK_apply m c b t d).symm

end Cert.OutProj.Ssd

end
-- ==== Proof.OutProj.Nsa.lean ====
/-
  The output projection after the attention: what each grid point writes, what the reference computes, and that they agree.
-/
module

public import proofs.«01_k».proof.Defs
public import proofs.«01_k».proof.Proof.Gen.Kernel5Ideal.Value
public import proofs.«01_k».proof.Proof.Gen.Reference5Ideal.Run
public import proofs.«01_k».proof.Proof.OutProj.Spec
public import Idealize.ShloMosaic.Adequacy
public import Idealize.ShloMosaic.Init
public import Idealize.ShloMosaic.Lib.Pointwise
public import Idealize.ShloMosaic.Lib.Claim
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.Kernel5Ideal.OutProj

open Cert.Kernel5Ideal Cert.Kernel5Ideal.Gen Cert.OutProj Idealize.ShloMosaic Idealize.ShloMosaic.TcCoe Idealize.SL.Sem
open Cert.Ffn (rms)

/-- The body's value at a row and a column. -/
theorem body_apply (y : Vec Ideal S512x1024 .bf16) (w : Vec Ideal S1024x1024 .bf16) (h : Vec Ideal S512x1024 .f32) (g : Vec Ideal S1x1024 .f32) (l : Fin 512) (d : Fin 1024) :
    k0_pay1 y w h g (ix2 l d) = h (ix2 l d) + rms (fun d => ∑ k, y (ix2 l k) * w (ix2 k d)) (fun d => g (ix2 0 d)) d := by
  pointwise [k0_pay1]
  rfl

variable (m : (ℓ : Loc nD τ sig) → Buf (Elt Ideal) ℓ) (c : Dev nD)

/-- The kernel's arguments, entry by entry. -/
def argsK : Args 1024 where
  y b t k := (m ((c : Thread nD τ).loc main_arg0) : FVec Ideal S16x2048x1024 .f32) (ix3 b t k)
  w k d := (m ((c : Thread nD τ).loc main_arg1) : FVec Ideal S1024x1024 .f32) (ix2 k d)
  gain d := (m ((c : Thread nD τ).loc main_arg2) : FVec Ideal S1024 .f32) (ix1 d)
  h b t d := (m ((c : Thread nD τ).loc main_arg3) : FVec Ideal S16x2048x1024 .f32) (ix3 b t d)

theorem y_apply (r : Fin 32768) (k : Fin 1024) :
    (V m c main_v1 : Vec Ideal S32768x1024 .bf16) (ix2 r k) = (argsK m c).y ⟨r.val / 2048, by omega⟩ ⟨r.val % 2048, by omega⟩ k := by
  unfold V argsK
  after_reads_at

theorem w_apply (k : Fin 1024) (d : Fin 1024) : (V m c main_v2 : Vec Ideal S1024x1024 .bf16) (ix2 k d) = (argsK m c).w k d := by
  unfold V argsK
  after_reads_at

theorem gain_apply (d : Fin 1024) : (V m c main_v3 : Vec Ideal S1x1024 .f32) (ix2 0 d) = (argsK m c).gain d := by
  unfold V argsK
  after_reads_at

theorem h_apply (r : Fin 32768) (d : Fin 1024) :
    (V m c main_v4 : Vec Ideal S32768x1024 .f32) (ix2 r d) = (argsK m c).h ⟨r.val / 2048, by omega⟩ ⟨r.val % 2048, by omega⟩ d := by
  unfold V argsK
  after_reads_at

theorem lt_points (t : Fin cfg0.N) : t.val < 64 := lt_of_lt_of_eq t.isLt (show cfg0.N = 64 from N_0)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel

theorem blk0_apply (t : Fin cfg0.N) (l : Fin 512) (k : Fin 1024) :
    (iblk m c 0 t : Vec Ideal S512x1024 .bf16) (ix2 l k) = V m c main_v1 (ix2 ⟨512 * t.val + l.val, by have := lt_points t; omega⟩ k) := by
  blk_ext [iblk, idx0 t]

theorem blk1_apply (t : Fin cfg0.N) (k : Fin 1024) (d : Fin 1024) :
    (iblk m c 1 t : Vec Ideal S1024x1024 .bf16) (ix2 k d) = V m c main_v2 (ix2 k d) := by
  blk_ext [iblk, idx1 t]

theorem blk2_apply (t : Fin cfg0.N) (d : Fin 1024) : (iblk m c 2 t : Vec Ideal S1x1024 .f32) (ix2 0 d) = V m c main_v3 (ix2 0 d) := by
  blk_ext [iblk, idx2 t]

theorem blk3_apply (t : Fin cfg0.N) (l : Fin 512) (d : Fin 1024) :
    (iblk m c 3 t : Vec Ideal S512x1024 .f32) (ix2 l d) = V m c main_v4 (ix2 ⟨512 * t.val + l.val, by have := lt_points t; omega⟩ d) := by
  blk_ext [iblk, idx3 t]

/-- The result array. -/
def outK : FVec Ideal S32768x1024 .f32 := fun i =>
  (argsK m c).outAt ⟨(i 0).val / 2048, by have : (i 0).val < 32768 := (i 0).isLt; omega⟩ ⟨(i 0).val % 2048, by omega⟩ (i 1)

/-- What a grid point writes at a row and a column of its block. -/
theorem point_apply (t : Fin cfg0.N) (l : Fin 512) (d : Fin 1024) :
    out0_4 (iblk m c 0 t) (iblk m c 1 t) (iblk m c 2 t) (iblk m c 3 t) (ix2 l d)
      = outK m c (ix2 ⟨512 * t.val + l.val, by have := lt_points t; omega⟩ d) := by
  have e0 := fun k => (blk0_apply m c t l k).trans (y_apply m c _ k)
  have e1 := fun k d => (blk1_apply m c t k d).trans (w_apply m c k d)
  have e2 := fun d => (blk2_apply m c t d).trans (gain_apply m c d)
  have e3 := (blk3_apply m c t l d).trans (h_apply m c _ d)
  frame_out
  rw [body_apply, e3]
  simp only [e0, e1, e2]
  rfl

/-- The result array after the run. -/
theorem final : (dats m 0 c).arrAt 4 cfg0.N = outK m c := by
  refine (dats m 0 c).arrAt_eq_of_covers 4 (outK m c) (by decide +kernel) fun t hf y => ?_
  blk_simp
  rw [after0_4]
  have e : (win0_4.blk t).view.emb y = (ix2 ⟨512 * t.val + (y 0).val, by have := lt_points t; have : (y 0).val < 512 := (y 0).isLt; omega⟩ (y 1) : S32768x1024.Idx) := by
    have e4 := idx4 t
    funext a
    apply Fin.ext
    match a with
    | ⟨0, _⟩ => show win0_4.index t 0 * 512 + 1 * (y 0).val = 512 * t.val + (y 0).val; rw [e4]; show t.val * 512 + 1 * (y 0).val = _; omega
    | ⟨1, _⟩ => show win0_4.index t 1 * 1024 + 1 * (y 1).val = (y 1).val; rw [e4]; show 0 * 1024 + 1 * (y 1).val = _; omega
  have ey : y = (ix2 (y 0) (y 1) : S512x1024.Idx) := by
    funext a
    match a with
    | ⟨0, _⟩ => rfl
    | ⟨1, _⟩ => rfl
  rw [e]
  exact (congrArg (out0_4 (iblk m c 0 t) (iblk m c 1 t) (iblk m c 2 t) (iblk m c 3 t)) ey).trans (point_apply m c t (y 0) (y 1))

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v5) = outK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Kernel5Ideal.OutProj

namespace Cert.Reference5Ideal.OutProj

open Cert.Reference5Ideal Cert.Reference5Ideal.Gen Cert.OutProj Idealize.ShloMosaic Idealize.ShloMosaic.TcCoe
open Cert.Ffn (rms)

variable {F : FTy → Type} [FloatOps F]

/-- The norm of every row. -/
def normR (x : FVec F S16x2048x1024 .f32) (g : FVec F S1024 .f32) : FVec F S16x2048x1024 .f32 :=
  mulf (mulf x (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf x x) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The projection. -/
def projR (y : FVec F S16x2048x1024 .f32) (w : FVec F S1024x1024 .f32) : FVec F S16x2048x1024 .f32 :=
  Host.dotGeneral dot_S16x2048x1024_S1024x1024_S16x2048x1024_2_0_01_1_n_n none y w

/-- The result, over tokens. -/
def outR (h n : FVec F S16x2048x1024 .f32) : FVec F S32768x1024 .f32 := shapeCast _ (addf h n) shapeCasts_S16x2048x1024_S32768x1024

/-- The result, of the arguments. -/
def resR (m : (ℓ : Loc nD τ sig) → Buf (Elt F) ℓ) (c : Dev nD) : FVec F S32768x1024 .f32 :=
  outR (m ((c.tc : Thread nD τ).loc main_arg3)) (normR (projR (m ((c.tc : Thread nD τ).loc main_arg0)) (m ((c.tc : Thread nD τ).loc main_arg1))) (m ((c.tc : Thread nD τ).loc main_arg2)))

theorem normR_apply (x : FVec Ideal S16x2048x1024 .f32) (g : FVec Ideal S1024 .f32) (b : Fin 16) (t : Fin 2048) (j : Fin 1024) :
    normR x g (ix3 b t j) = rms (fun j => x (ix3 b t j)) (fun j => g (ix1 j)) j := by
  pointwise [normR]
  rfl

theorem projR_apply (y : FVec Ideal S16x2048x1024 .f32) (w : FVec Ideal S1024x1024 .f32) (b : Fin 16) (t : Fin 2048) (j : Fin 1024) :
    projR y w (ix3 b t j) = ∑ k, y (ix3 b t k) * w (ix2 k j) := by
  pointwise [projR]

theorem outR_apply (h n : FVec Ideal S16x2048x1024 .f32) (b : Fin 16) (t : Fin 2048) (j : Fin 1024) :
    outR h n (ix2 ⟨2048 * b.val + t.val, by omega⟩ j) = h (ix3 b t j) + n (ix3 b t j) := by
  pointwise [outR]

/-- The reference's arguments, entry by entry. -/
def argsR (m : (ℓ : Loc nD τ sig) → Buf (Elt Ideal) ℓ) (c : Dev nD) : Args 1024 where
  y b t k := (m ((c.tc : Thread nD τ).loc main_arg0) : FVec Ideal S16x2048x1024 .f32) (ix3 b t k)
  w k d := (m ((c.tc : Thread nD τ).loc main_arg1) : FVec Ideal S1024x1024 .f32) (ix2 k d)
  gain d := (m ((c.tc : Thread nD τ).loc main_arg2) : FVec Ideal S1024 .f32) (ix1 d)
  h b t d := (m ((c.tc : Thread nD τ).loc main_arg3) : FVec Ideal S16x2048x1024 .f32) (ix3 b t d)

/-- The reference's result at token `t` of sequence `b`. -/
theorem res_apply (m : (ℓ : Loc nD τ sig) → Buf (Elt Ideal) ℓ) (c : Dev nD) (b : Fin 16) (t : Fin 2048) (d : Fin 1024) :
    resR m c (ix2 ⟨2048 * b.val + t.val, by omega⟩ d) = (argsR m c).outAt b t d := by
  unfold resR
  rw [outR_apply, normR_apply]
  simp only [projR_apply]
  rfl

end Cert.Reference5Ideal.OutProj

namespace Cert.OutProj.Nsa

open Idealize.ShloMosaic Idealize.SL.Sem Idealize.ShloMosaic.TcCoe

/-- A place of the result is a token of a sequence and a column. -/
theorem place (i : Cert.Kernel5Ideal.S32768x1024.Idx) : ∃ (b : Fin 16) (t : Fin 2048) (d : Fin 1024),
    i = (ix2 ⟨2048 * b.val + t.val, by omega⟩ d : Cert.Kernel5Ideal.S32768x1024.Idx) := by
  have h0 : (i 0).val < 32768 := (i 0).isLt
  refine ⟨⟨(i 0).val / 2048, by omega⟩, ⟨(i 0).val % 2048, by omega⟩, i 1, ?_⟩
  funext a
  apply Fin.ext
  match a with
  | ⟨0, _⟩ => show (i 0).val = 2048 * ((i 0).val / 2048) + (i 0).val % 2048; omega
  | ⟨1, _⟩ => rfl

theorem outK_apply (m : (ℓ : Loc Cert.Kernel5Ideal.nD Cert.Kernel5Ideal.τ Cert.Kernel5Ideal.sig) → Buf (Elt Ideal) ℓ) (c : Dev Cert.Kernel5Ideal.nD)
    (b : Fin 16) (t : Fin 2048) (d : Fin 1024) :
    Cert.Kernel5Ideal.OutProj.outK m c (ix2 ⟨2048 * b.val + t.val, by omega⟩ d) = (Cert.Kernel5Ideal.OutProj.argsK m c).outAt b t d := by
  have eb : ∀ h, (⟨(2048 * b.val + t.val) / 2048, h⟩ : Fin 16) = b := fun h => Fin.ext (by show (2048 * b.val + t.val) / 2048 = b.val; omega)
  have et : ∀ h, (⟨(2048 * b.val + t.val) % 2048, h⟩ : Fin 2048) = t := fun h => Fin.ext (by show (2048 * b.val + t.val) % 2048 = t.val; omega)
  show (Cert.Kernel5Ideal.OutProj.argsK m c).outAt ⟨(2048 * b.val + t.val) / 2048, by omega⟩ ⟨(2048 * b.val + t.val) % 2048, by omega⟩ d = _
  rw [eb, et]

theorem algebraic : Cert.algebraic_Kernel5Ideal_Reference5Ideal := by
  intro m ρ m' ρ' _ hagree
  refine ⟨fun c => Cert.Kernel5Ideal.OutProj.outK m c, Cert.Kernel5Ideal.OutProj.run m ρ, ?_⟩
  refine (θ_run Cert.Reference5Ideal.defs _ _).mono (fun r h c => ⟨(h c).1.trans ?_, (h c).2⟩) (Cert.Reference5Ideal.Value.run (F := Ideal) m' ρ')
  obtain ⟨e0, e1, e2, e3⟩ := hagree c
  have e : Cert.Reference5Ideal.OutProj.argsR m' c = Cert.Kernel5Ideal.OutProj.argsK m c := by
    unfold Cert.Reference5Ideal.OutProj.argsR Cert.Kernel5Ideal.OutProj.argsK
    rw [e0, e1, e2, e3]
  funext i
  obtain ⟨b, t, d, rfl⟩ := place i
  have hr := Cert.Reference5Ideal.OutProj.res_apply m' c b t d
  rw [e] at hr
  exact hr.trans (outK_apply m c b t d).symm

end Cert.OutProj.Nsa

end
-- ==== Proof.NsaIn.Spec.lean ====
/-
  An attention layer's input projection, entry by entry, over the extended reals. Both programs are read in these functions.
-/
module

public import proofs.«01_k».proof.Proof.Ffn.Spec

@[expose] public section

noncomputable section

namespace Cert.NsaIn

open Idealize.ShloMosaic
open Cert.Ffn (rms)

/-- The scores' scale, of a softmax in base 2: the program's 32-bit number. -/
def scale : EReal := Ideal.ofBits FTy.f32 1043900987#32

/-- A sum of products with every second factor scaled is the sum scaled. -/
theorem sum_scale {n : ℕ} (s : EReal) (h0 : 0 ≤ s) (ht : s ≠ ⊤) (f g : Fin n → EReal) : ∑ k, f k * (g k * s) = (∑ k, f k * g k) * s := by
  have key : ∀ S : Finset (Fin n), ∑ k ∈ S, f k * (g k * s) = (∑ k ∈ S, f k * g k) * s := by
    intro S
    induction S using Finset.cons_induction with
    | empty => rw [Finset.sum_empty, Finset.sum_empty, zero_mul]
    | cons a S ha ih => rw [Finset.sum_cons, Finset.sum_cons, ih, EReal.right_distrib_of_nonneg_of_ne_top h0 ht, mul_assoc]
  exact key Finset.univ

/-- The arguments, entry by entry. -/
structure Args where
  h : Fin 16 → Fin 2048 → Fin 1024 → EReal
  gain : Fin 1024 → EReal
  w : Fin 1024 → Fin 2608 → EReal

namespace Args
variable (A : Args) (b : Fin 16) (t : Fin 2048)

/-- The projection of the normalised row. -/
def projAt (n : Fin 2608) : EReal := ∑ k, rms (A.h b t) A.gain k * A.w k n

/-- Entry `e` of group `g` in part `j` of the keys and values: compressed keys and values, then the selection's, then the window's. -/
def kvAt (j : Fin 6) (g : Fin 4) (e : Fin 64) : EReal := A.projAt b t ⟨1024 + 256 * j.val + 64 * g.val + e.val, by omega⟩

/-- Lane `l` of head `u`'s query. -/
def qAt (u : Fin 16) (l : Fin 128) : EReal := if h : l.val < 64 then A.projAt b t ⟨64 * u.val + l.val, by omega⟩ * scale else 0

/-- Lane `l` of a selection key: the key, then its block's number as a row of zeros with a one. -/
def selAt (g : Fin 4) (l : Fin 128) : EReal :=
  if h : l.val < 64 then A.kvAt b t 2 g ⟨l.val, h⟩ else if l.val - 64 = t.val / 64 then 1 else 0

/-- Row `r` of a value, with a one after it. -/
def valAt (j : Fin 6) (g : Fin 4) (r : Fin 80) : EReal :=
  if h : r.val < 64 then A.kvAt b t j g ⟨r.val, h⟩ else if r.val = 64 then 1 else 0

/-- Lane `l` of a window key. -/
def winAt (g : Fin 4) (l : Fin 128) : EReal := if h : l.val < 64 then A.kvAt b t 4 g ⟨l.val, h⟩ else 0

/-- Lane `l` of the compressed branch's keys and values. -/
def cmpAt (g : Fin 4) (l : Fin 128) : EReal := if h : l.val < 64 then A.kvAt b t 0 g ⟨l.val, h⟩ else A.kvAt b t 1 g ⟨l.val - 64, by omega⟩

/-- Lane `l` of the gates' inputs. -/
def gateAt (g : Fin 4) (l : Fin 128) : EReal := if h : l.val < 12 then A.projAt b t ⟨2560 + 12 * g.val + l.val, by omega⟩ else 0

end Args

end Cert.NsaIn

end
-- ==== Proof.NsaIn.Entry.lean ====
/-
  What the launch's arguments hold, read at an index, of the arguments of the program.
-/
module

public import proofs.«01_k».proof.Proof.Gen.Kernel6Ideal.Frame
public import proofs.«01_k».proof.Proof.NsaIn.Spec
public import Idealize.ShloMosaic.Lib.Pointwise
public import Idealize.ShloMosaic.Lib.Claim
public import Idealize.ShloMosaic.Lib.Pipeline.Value
public import Idealize.ShloMosaic.Lib.StableHlo.ReadAt

@[expose] public section

set_option maxRecDepth 16384

noncomputable section

namespace Cert.Kernel6Ideal.NsaIn

open Cert.Kernel6Ideal Cert.Kernel6Ideal.Gen Cert.NsaIn Idealize.ShloMosaic Idealize.ShloMosaic.TcCoe

variable (m : (ℓ : Loc nD τ sig) → Buf (Elt Ideal) ℓ) (c : Dev nD)

/-- The kernel's arguments, entry by entry. -/
def argsK : Args where
  h b t k := (m ((c : Thread nD τ).loc main_arg0) : FVec Ideal S16x2048x1024 .f32) (ix3 b t k)
  gain k := (m ((c : Thread nD τ).loc main_arg1) : FVec Ideal S1024 .f32) (ix1 k)
  w k n := (m ((c : Thread nD τ).loc main_arg2) : FVec Ideal S1024x2608 .f32) (ix2 k n)

theorem h_apply (r : Fin 32768) (k : Fin 1024) :
    (V m c main_v8 : Vec Ideal S32768x1024 .f32) (ix2 r k) = (argsK m c).h ⟨r.val / 2048, by omega⟩ ⟨r.val % 2048, by omega⟩ k := by
  unfold V argsK
  after_reads_at

theorem gain_apply (k : Fin 1024) : (V m c main_v9 : Vec Ideal S1x1024 .f32) (ix2 0 k) = (argsK m c).gain k := by
  unfold V argsK
  after_reads_at

/-- A choice by an equality of two small numbers held as words. -/
theorem pick_eq (a b : ℕ) (ha : a < 128) (hb : b < 64) (x y : EReal) :
    Scalar.select (IntOp.cmpi CmpIPredicate.eq (BitVec.ofNat 32 a) (IntOp.addi (64#32) (BitVec.ofNat 32 b))) x y = if a = 64 + b then x else y := by
  have e : IntOp.addi (64#32) (BitVec.ofNat 32 b) = BitVec.ofNat 32 (64 + b) := by
    apply BitVec.eq_of_toNat_eq
    show (64 + b % 2 ^ 32) % 2 ^ 32 = (64 + b) % 2 ^ 32
    omega
  rw [e]
  by_cases h : a = 64 + b
  · subst h
    simp [Scalar.select, IntOp.cmpi]
  · have hne : BitVec.ofNat 32 a ≠ BitVec.ofNat 32 (64 + b) := fun hh => by
      have := congrArg BitVec.toNat hh
      rw [BitVec.toNat_ofNat, BitVec.toNat_ofNat] at this
      omega
    have hne' : (BitVec.ofNat 32 a == BitVec.ofNat 32 (64 + b)) = false := beq_eq_false_iff_ne.mpr hne
    simp [Scalar.select, IntOp.cmpi, h, hne']

/-- The table added to the selection keys: in a position's row, a one in the lane of its block. -/
theorem block_apply (t : Fin 2048) (l : Fin 128) :
    (V m c main_v7 : Vec Ideal S2048x128 .f32) (ix2 t l) = if l.val = 64 + t.val / 64 then (1 : EReal) else 0 := by
  unfold V
  after_reads_at
  exact pick_eq l.val (t.val / 64) l.isLt (by omega) 1 0

/-- A zero, as the padding reads it. -/
def zeroI : FVec Ideal S_ .f32 := sitofp .f32 (constantI S_ 32 0#32)

/-- The queries' columns, scaled, each head's 64 followed by 64 zeros. -/
def partQ (w : FVec Ideal S1024x2608 .f32) : FVec Ideal S1024x2048 .f32 :=
  shapeCast S1024x2048 (pad S1024x16x128 ![0, 0, 0] ![0, 0, 64] ![0, 0, 0] (shapeCast S1024x16x64 (mulf (extractStridedSlice S1024x1024 ![0, 0] w slices_S1024x2608_S1024x1024_0_0)
    (broadcastInDim S1024x1024 ![] bcast_S_S1024x1024 (constant S_ .f32 0x3E38AA3B#32))) shapeCasts_S1024x1024_S1024x16x64) zeroI pads_S1024x16x64_S1024x16x128_000_000_0640 h_S_) shapeCasts_S1024x16x128_S1024x2048

/-- The keys' and values' columns. -/
def kvCols (w : FVec Ideal S1024x2608 .f32) : FVec Ideal S1024x6x4x64 .f32 :=
  shapeCast S1024x6x4x64 (extractStridedSlice S1024x1536 ![0, 1024] w slices_S1024x2608_S1024x1536_0_1024) shapeCasts_S1024x1536_S1024x6x4x64

/-- One part of them, each group's 64 followed by 64 zeros. -/
def padPart (x : FVec Ideal S1024x1x4x64 .f32) : FVec Ideal S1024x512 .f32 :=
  shapeCast S1024x512 (pad S1024x4x128 ![0, 0, 0] ![0, 0, 64] ![0, 0, 0] (shapeCast S1024x4x64 (shapeCast S1024x256 (shapeCast S1024x4x64 x shapeCasts_S1024x1x4x64_S1024x4x64) shapeCasts_S1024x4x64_S1024x256)
    shapeCasts_S1024x256_S1024x4x64) zeroI pads_S1024x4x64_S1024x4x128_000_000_0640 h_S_) shapeCasts_S1024x4x128_S1024x512

def part2 (w : FVec Ideal S1024x2608 .f32) : FVec Ideal S1024x512 .f32 := padPart (extractStridedSlice S1024x1x4x64 ![0, 2, 0, 0] (kvCols w) slices_S1024x6x4x64_S1024x1x4x64_0_2_0_0)
def part3 (w : FVec Ideal S1024x2608 .f32) : FVec Ideal S1024x512 .f32 := padPart (extractStridedSlice S1024x1x4x64 ![0, 3, 0, 0] (kvCols w) slices_S1024x6x4x64_S1024x1x4x64_0_3_0_0)
def part4 (w : FVec Ideal S1024x2608 .f32) : FVec Ideal S1024x512 .f32 := padPart (extractStridedSlice S1024x1x4x64 ![0, 4, 0, 0] (kvCols w) slices_S1024x6x4x64_S1024x1x4x64_0_4_0_0)
def part5 (w : FVec Ideal S1024x2608 .f32) : FVec Ideal S1024x512 .f32 := padPart (extractStridedSlice S1024x1x4x64 ![0, 5, 0, 0] (kvCols w) slices_S1024x6x4x64_S1024x1x4x64_0_5_0_0)

/-- The compressed branch's columns: a group's keys, then its values. -/
def partC (w : FVec Ideal S1024x2608 .f32) : FVec Ideal S1024x512 .f32 :=
  shapeCast S1024x512 (concatenate S1024x4x128 2 [⟨S1024x4x64, shapeCast S1024x4x64 (extractStridedSlice S1024x1x4x64 ![0, 0, 0, 0] (kvCols w) slices_S1024x6x4x64_S1024x1x4x64_0_0_0_0) shapeCasts_S1024x1x4x64_S1024x4x64⟩,
    ⟨S1024x4x64, shapeCast S1024x4x64 (extractStridedSlice S1024x1x4x64 ![0, 1, 0, 0] (kvCols w) slices_S1024x6x4x64_S1024x1x4x64_0_1_0_0) shapeCasts_S1024x1x4x64_S1024x4x64⟩]
    concatenates_S1024x4x64_S1024x4x64_S1024x4x128_d2) shapeCasts_S1024x4x128_S1024x512

/-- The gates' columns, each group's 12 followed by zeros. -/
def partG (w : FVec Ideal S1024x2608 .f32) : FVec Ideal S1024x512 .f32 :=
  shapeCast S1024x512 (pad S1024x4x128 ![0, 0, 0] ![0, 0, 116] ![0, 0, 0] (shapeCast S1024x4x12 (extractStridedSlice S1024x48 ![0, 2560] w slices_S1024x2608_S1024x48_0_2560) shapeCasts_S1024x48_S1024x4x12)
    zeroI pads_S1024x4x12_S1024x4x128_000_000_01160 h_S_) shapeCasts_S1024x4x128_S1024x512

/-- The launch's columns: seven parts side by side. -/
def wCols (q : FVec Ideal S1024x2048 .f32) (p2 p3 p4 p5 pc pg : FVec Ideal S1024x512 .f32) : FVec Ideal S1024x5120 .f32 :=
  concatenate S1024x5120 1 [⟨S1024x2048, q⟩, ⟨S1024x512, p2⟩, ⟨S1024x512, p3⟩, ⟨S1024x512, p4⟩, ⟨S1024x512, p5⟩, ⟨S1024x512, pc⟩, ⟨S1024x512, pg⟩]
    concatenates_S1024x2048_S1024x512_S1024x512_S1024x512_S1024x512_S1024x512_S1024x512_S1024x5120_d1

set_option maxHeartbeats 1600000 in
theorem w_eq : (V m c main_v53 : Vec Ideal S1024x5120 .bf16) = truncf (F := Ideal) .bf16 (wCols (partQ (m ((c : Thread nD τ).loc main_arg2))) (part2 (m ((c : Thread nD τ).loc main_arg2)))
    (part3 (m ((c : Thread nD τ).loc main_arg2))) (part4 (m ((c : Thread nD τ).loc main_arg2))) (part5 (m ((c : Thread nD τ).loc main_arg2))) (partC (m ((c : Thread nD τ).loc main_arg2)))
    (partG (m ((c : Thread nD τ).loc main_arg2)))) bitsLt_bf16_f32 := by
  unfold V
  after_reads_simp
  rfl

theorem zeroI_apply (i : S_.Idx) : zeroI i = 0 := by
  show (((((0#32 : BitVec 32).toInt : ℤ) : ℝ)) : EReal) = 0
  simp

theorem partQ_apply (w : FVec Ideal S1024x2608 .f32) (i : Fin 1024) (u : Fin 16) (l : Fin 128) :
    partQ w (ix2 i ⟨128 * u.val + l.val, by omega⟩) = if h : l.val < 64 then w (ix2 i ⟨64 * u.val + l.val, by omega⟩) * scale else 0 := by
  pointwise [partQ]
  rw [zeroI_apply]
  by_cases h : l.val < 64
  · rw [dif_pos h, dif_pos h]
    exact congrArg (fun r => w (ix2 i r) * scale) (Fin.ext (by show u.val * 64 + l.val = 64 * u.val + l.val; omega))
  · rw [dif_neg h, dif_neg h]

theorem kvCols_apply (w : FVec Ideal S1024x2608 .f32) (i : Fin 1024) (j : Fin 6) (g : Fin 4) (e : Fin 64) :
    kvCols w (ix4 i j g e) = w (ix2 i ⟨1024 + 256 * j.val + 64 * g.val + e.val, by omega⟩) := by
  pointwise [kvCols]
  exact congrArg (fun r => w (ix2 i r)) (Fin.ext (by show 1024 + (j.val * 256 + g.val * 64 + e.val) = 1024 + 256 * j.val + 64 * g.val + e.val; omega))

theorem padPart_apply (x : FVec Ideal S1024x1x4x64 .f32) (i : Fin 1024) (g : Fin 4) (l : Fin 128) :
    padPart x (ix2 i ⟨128 * g.val + l.val, by omega⟩) = if h : l.val < 64 then x (ix4 i 0 g ⟨l.val, h⟩) else 0 := by
  pointwise [padPart]
  rw [zeroI_apply]

theorem partC_apply (w : FVec Ideal S1024x2608 .f32) (i : Fin 1024) (g : Fin 4) (l : Fin 128) :
    partC w (ix2 i ⟨128 * g.val + l.val, by omega⟩) = if h : l.val < 64 then kvCols w (ix4 i 0 g ⟨l.val, h⟩) else kvCols w (ix4 i 1 g ⟨l.val - 64, by omega⟩) := by
  unfold partC
  generalize kvCols w = x
  pointwise []

theorem partG_apply (w : FVec Ideal S1024x2608 .f32) (i : Fin 1024) (g : Fin 4) (l : Fin 128) :
    partG w (ix2 i ⟨128 * g.val + l.val, by omega⟩) = if h : l.val < 12 then w (ix2 i ⟨2560 + 12 * g.val + l.val, by omega⟩) else 0 := by
  pointwise [partG]
  rw [zeroI_apply]
  by_cases h : l.val < 12
  · rw [dif_pos h, dif_pos h]
    exact congrArg (fun r => w (ix2 i r)) (Fin.ext (by show 2560 + (g.val * 12 + l.val) = 2560 + 12 * g.val + l.val; omega))
  · rw [dif_neg h, dif_neg h]

section
variable (q : FVec Ideal S1024x2048 .f32) (p2 p3 p4 p5 pc pg : FVec Ideal S1024x512 .f32) (i : Fin 1024)

theorem wCols_q (n : Fin 5120) (j : Fin 2048) (hn : n.val = j.val) : wCols q p2 p3 p4 p5 pc pg (ix2 i n) = q (ix2 i j) := by
  pointwise [wCols]
  rw [dif_pos (by omega)]
  exact congrArg (fun r => q (ix2 i r)) (Fin.ext hn)

theorem wCols_p2 (n : Fin 5120) (j : Fin 512) (hn : n.val = 2048 + j.val) : wCols q p2 p3 p4 p5 pc pg (ix2 i n) = p2 (ix2 i j) := by
  pointwise [wCols]
  rw [dif_neg (by omega), dif_pos (by omega)]
  exact congrArg (fun r => p2 (ix2 i r)) (Fin.ext (by show n.val - 2048 = j.val; omega))

theorem wCols_p3 (n : Fin 5120) (j : Fin 512) (hn : n.val = 2560 + j.val) : wCols q p2 p3 p4 p5 pc pg (ix2 i n) = p3 (ix2 i j) := by
  pointwise [wCols]
  rw [dif_neg (by omega), dif_neg (by omega), dif_pos (by omega)]
  exact congrArg (fun r => p3 (ix2 i r)) (Fin.ext (by show n.val - 2048 - 512 = j.val; omega))

theorem wCols_p4 (n : Fin 5120) (j : Fin 512) (hn : n.val = 3072 + j.val) : wCols q p2 p3 p4 p5 pc pg (ix2 i n) = p4 (ix2 i j) := by
  pointwise [wCols]
  rw [dif_neg (by omega), dif_neg (by omega), dif_neg (by omega), dif_pos (by omega)]
  exact congrArg (fun r => p4 (ix2 i r)) (Fin.ext (by show n.val - 2048 - 512 - 512 = j.val; omega))

theorem wCols_p5 (n : Fin 5120) (j : Fin 512) (hn : n.val = 3584 + j.val) : wCols q p2 p3 p4 p5 pc pg (ix2 i n) = p5 (ix2 i j) := by
  pointwise [wCols]
  rw [dif_neg (by omega), dif_neg (by omega), dif_neg (by omega), dif_neg (by omega), dif_pos (by omega)]
  exact congrArg (fun r => p5 (ix2 i r)) (Fin.ext (by show n.val - 2048 - 512 - 512 - 512 = j.val; omega))

theorem wCols_pc (n : Fin 5120) (j : Fin 512) (hn : n.val = 4096 + j.val) : wCols q p2 p3 p4 p5 pc pg (ix2 i n) = pc (ix2 i j) := by
  pointwise [wCols]
  rw [dif_neg (by omega), dif_neg (by omega), dif_neg (by omega), dif_neg (by omega), dif_neg (by omega), dif_pos (by omega)]
  exact congrArg (fun r => pc (ix2 i r)) (Fin.ext (by show n.val - 2048 - 512 - 512 - 512 - 512 = j.val; omega))

theorem wCols_pg (n : Fin 5120) (j : Fin 512) (hn : n.val = 4608 + j.val) : wCols q p2 p3 p4 p5 pc pg (ix2 i n) = pg (ix2 i j) := by
  pointwise [wCols]
  rw [dif_neg (by omega), dif_neg (by omega), dif_neg (by omega), dif_neg (by omega), dif_neg (by omega), dif_neg (by omega)]
  exact congrArg (fun r => pg (ix2 i r)) (Fin.ext (by show n.val - 2048 - 512 - 512 - 512 - 512 - 512 = j.val; omega))

end

section
variable (i : Fin 1024)

/-- The queries' columns. -/
theorem w_q (u : Fin 16) (l : Fin 128) (n : Fin 5120) (hn : n.val = 128 * u.val + l.val) :
    (V m c main_v53 : Vec Ideal S1024x5120 .bf16) (ix2 i n) = if h : l.val < 64 then (argsK m c).w i ⟨64 * u.val + l.val, by omega⟩ * scale else 0 := by
  rw [w_eq]
  exact (wCols_q _ _ _ _ _ _ _ i n ⟨128 * u.val + l.val, by omega⟩ hn).trans (partQ_apply _ i u l)

theorem part2_apply (w : FVec Ideal S1024x2608 .f32) (g : Fin 4) (l : Fin 128) :
    part2 w (ix2 i ⟨128 * g.val + l.val, by omega⟩) = if h : l.val < 64 then w (ix2 i ⟨1024 + 256 * 2 + 64 * g.val + l.val, by omega⟩) else 0 := by
  have e := fun k => kvCols_apply w i 2 g k
  unfold part2
  rw [padPart_apply]
  by_cases h : l.val < 64
  · rw [dif_pos h, dif_pos h]
    refine Eq.trans ?_ (e ⟨l.val, h⟩)
    generalize kvCols w = x
    pointwise []
  · rw [dif_neg h, dif_neg h]

theorem w_kv2 (g : Fin 4) (l : Fin 128) (n : Fin 5120) (hn : n.val = 2048 + 128 * g.val + l.val) :
    (V m c main_v53 : Vec Ideal S1024x5120 .bf16) (ix2 i n) = if h : l.val < 64 then (argsK m c).w i ⟨1024 + 256 * 2 + 64 * g.val + l.val, by omega⟩ else 0 := by
  rw [w_eq]
  exact (wCols_p2 _ _ _ _ _ _ _ i n ⟨128 * g.val + l.val, by omega⟩ (by show n.val = 2048 + (128 * g.val + l.val); omega)).trans (part2_apply i _ g l)

theorem part3_apply (w : FVec Ideal S1024x2608 .f32) (g : Fin 4) (l : Fin 128) :
    part3 w (ix2 i ⟨128 * g.val + l.val, by omega⟩) = if h : l.val < 64 then w (ix2 i ⟨1024 + 256 * 3 + 64 * g.val + l.val, by omega⟩) else 0 := by
  have e := fun k => kvCols_apply w i 3 g k
  unfold part3
  rw [padPart_apply]
  by_cases h : l.val < 64
  · rw [dif_pos h, dif_pos h]
    refine Eq.trans ?_ (e ⟨l.val, h⟩)
    generalize kvCols w = x
    pointwise []
  · rw [dif_neg h, dif_neg h]

theorem w_kv3 (g : Fin 4) (l : Fin 128) (n : Fin 5120) (hn : n.val = 2560 + 128 * g.val + l.val) :
    (V m c main_v53 : Vec Ideal S1024x5120 .bf16) (ix2 i n) = if h : l.val < 64 then (argsK m c).w i ⟨1024 + 256 * 3 + 64 * g.val + l.val, by omega⟩ else 0 := by
  rw [w_eq]
  exact (wCols_p3 _ _ _ _ _ _ _ i n ⟨128 * g.val + l.val, by omega⟩ (by show n.val = 2560 + (128 * g.val + l.val); omega)).trans (part3_apply i _ g l)

theorem part4_apply (w : FVec Ideal S1024x2608 .f32) (g : Fin 4) (l : Fin 128) :
    part4 w (ix2 i ⟨128 * g.val + l.val, by omega⟩) = if h : l.val < 64 then w (ix2 i ⟨1024 + 256 * 4 + 64 * g.val + l.val, by omega⟩) else 0 := by
  have e := fun k => kvCols_apply w i 4 g k
  unfold part4
  rw [padPart_apply]
  by_cases h : l.val < 64
  · rw [dif_pos h, dif_pos h]
    refine Eq.trans ?_ (e ⟨l.val, h⟩)
    generalize kvCols w = x
    pointwise []
  · rw [dif_neg h, dif_neg h]

theorem w_kv4 (g : Fin 4) (l : Fin 128) (n : Fin 5120) (hn : n.val = 3072 + 128 * g.val + l.val) :
    (V m c main_v53 : Vec Ideal S1024x5120 .bf16) (ix2 i n) = if h : l.val < 64 then (argsK m c).w i ⟨1024 + 256 * 4 + 64 * g.val + l.val, by omega⟩ else 0 := by
  rw [w_eq]
  exact (wCols_p4 _ _ _ _ _ _ _ i n ⟨128 * g.val + l.val, by omega⟩ (by show n.val = 3072 + (128 * g.val + l.val); omega)).trans (part4_apply i _ g l)

theorem part5_apply (w : FVec Ideal S1024x2608 .f32) (g : Fin 4) (l : Fin 128) :
    part5 w (ix2 i ⟨128 * g.val + l.val, by omega⟩) = if h : l.val < 64 then w (ix2 i ⟨1024 + 256 * 5 + 64 * g.val + l.val, by omega⟩) else 0 := by
  have e := fun k => kvCols_apply w i 5 g k
  unfold part5
  rw [padPart_apply]
  by_cases h : l.val < 64
  · rw [dif_pos h, dif_pos h]
    refine Eq.trans ?_ (e ⟨l.val, h⟩)
    generalize kvCols w = x
    pointwise []
  · rw [dif_neg h, dif_neg h]

theorem w_kv5 (g : Fin 4) (l : Fin 128) (n : Fin 5120) (hn : n.val = 3584 + 128 * g.val + l.val) :
    (V m c main_v53 : Vec Ideal S1024x5120 .bf16) (ix2 i n) = if h : l.val < 64 then (argsK m c).w i ⟨1024 + 256 * 5 + 64 * g.val + l.val, by omega⟩ else 0 := by
  rw [w_eq]
  exact (wCols_p5 _ _ _ _ _ _ _ i n ⟨128 * g.val + l.val, by omega⟩ (by show n.val = 3584 + (128 * g.val + l.val); omega)).trans (part5_apply i _ g l)

/-- The compressed branch's columns. -/
theorem w_cmp (g : Fin 4) (l : Fin 128) (n : Fin 5120) (hn : n.val = 4096 + 128 * g.val + l.val) :
    (V m c main_v53 : Vec Ideal S1024x5120 .bf16) (ix2 i n)
      = if h : l.val < 64 then (argsK m c).w i ⟨1024 + 256 * 0 + 64 * g.val + l.val, by omega⟩ else (argsK m c).w i ⟨1024 + 256 * 1 + 64 * g.val + (l.val - 64), by omega⟩ := by
  rw [w_eq]
  refine (wCols_pc _ _ _ _ _ _ _ i n ⟨128 * g.val + l.val, by omega⟩ (by show n.val = 4096 + (128 * g.val + l.val); omega)).trans ((partC_apply _ i g l).trans ?_)
  by_cases h : l.val < 64
  · rw [dif_pos h, dif_pos h]
    exact kvCols_apply _ i 0 g ⟨l.val, h⟩
  · rw [dif_neg h, dif_neg h]
    exact kvCols_apply _ i 1 g ⟨l.val - 64, by omega⟩

/-- The gates' columns. -/
theorem w_gate (g : Fin 4) (l : Fin 128) (n : Fin 5120) (hn : n.val = 4608 + 128 * g.val + l.val) :
    (V m c main_v53 : Vec Ideal S1024x5120 .bf16) (ix2 i n) = if h : l.val < 12 then (argsK m c).w i ⟨2560 + 12 * g.val + l.val, by omega⟩ else 0 := by
  rw [w_eq]
  exact (wCols_pg _ _ _ _ _ _ _ i n ⟨128 * g.val + l.val, by omega⟩ (by show n.val = 4608 + (128 * g.val + l.val); omega)).trans (partG_apply _ i g l)

end

end Cert.Kernel6Ideal.NsaIn

end
-- ==== Proof.NsaIn.Body.lean ====
/-
  What the kernel's body leaves in each result's block, read at an index.
-/
module

public import proofs.«01_k».proof.Proof.Gen.Kernel6Ideal.Value
public import proofs.«01_k».proof.Proof.NsaIn.Entry
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Kernel6Ideal.NsaIn

open Cert.Kernel6Ideal Cert.Kernel6Ideal.Gen Cert.NsaIn Idealize.ShloMosaic Idealize.ShloMosaic.TcCoe
open Cert.Ffn (rms)

/-- The projection of a block's rows. -/
theorem proj_apply (h : Vec Ideal S256x1024 .f32) (g : Vec Ideal S1x1024 .f32) (w : Vec Ideal S1024x5120 .bf16) (r : Fin 256) (n : Fin 5120) :
    k0_pay6 h g w (ix2 r n) = ∑ k, rms (fun k => h (ix2 r k)) (fun k => g (ix2 0 k)) k * w (ix2 k n) := by
  pointwise [k0_pay6]
  rfl

/-- The row added to the values: a one in lane 64. -/
theorem one_apply (l : Fin 128) : (k0_pay7 (F := Ideal)) (ix2 0 l) = if l.val = 64 then (1 : EReal) else 0 := by
  pointwise [k0_pay7]
  by_cases hl : l.val = 64
  · rw [if_pos hl, hl]
    show (((BitVec.setWidth 32 (IntOp.cmpi CmpIPredicate.eq (BitVec.ofNat 32 64) 64#32)).toInt : ℝ) : EReal) = 1
    have e : (BitVec.setWidth 32 (IntOp.cmpi CmpIPredicate.eq (BitVec.ofNat 32 64) 64#32)).toInt = 1 := by decide
    rw [e]; norm_num
  · rw [if_neg hl]
    have hne : BitVec.ofNat 32 l.val ≠ 64#32 := fun h => hl (by
      have h' := congrArg BitVec.toNat h
      have h2 : l.val % 2 ^ 32 = 64 % 2 ^ 32 := by simpa only [BitVec.toNat_ofNat] using h'
      omega)
    have hb : (BitVec.ofNat 32 l.val == 64#32) = false := beq_eq_false_iff_ne.mpr hne
    have e : (BitVec.setWidth 32 (IntOp.cmpi CmpIPredicate.eq (BitVec.ofNat 32 l.val) 64#32)) = 0#32 := by
      simp [IntOp.cmpi, hb]
    rw [e]
    show (((0#32 : BitVec 32).toInt : ℝ) : EReal) = 0
    simp

theorem qPiece (v : FVec Ideal S256x5120 .f32) (o : Nat) (hs : S256x5120.Slices ![0, o] S256x128) (x : S1x1x1x128x256.Idx) (n : Fin 5120) (hn : n.val = o + (x 3).val) (r : Fin 256) (hr : r.val = (x 4).val) :
    shapeCast S1x1x1x128x256 (truncf (F := Ideal) .bf16 (transpose S128x256 [1, 0] (extractStridedSlice S256x128 ![0, o] v hs) transposes_S256x128_p1_0_S128x256) bitsLt_bf16_f32) shapeCasts_S128x256_S1x1x1x128x256 x = v (ix2 r n) := by
  have e : x = (ix5 0 0 0 (x 3) (x 4) : S1x1x1x128x256.Idx) := by
    funext a
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => exact Fin.ext (by have : (x 2).val < 1 := (x 2).isLt; show (x 2).val = 0; omega)
    | ⟨3, _⟩ => rfl
    | ⟨4, _⟩ => rfl
  have er : r = x 4 := Fin.ext hr
  have h3 : o + (x 3).val < 5120 := hn ▸ n.isLt
  have en : n = ⟨o + (x 3).val, h3⟩ := Fin.ext hn
  rw [er, en]
  refine (congrArg _ e).trans ?_
  generalize (x 3 : Fin 128) = l at h3 ⊢
  generalize (x 4 : Fin 256) = r'
  pointwise []

theorem hz2 : (![0, 0] : Fin 2 → Nat) = fun _ => 0 := funext fun a => by fin_cases a <;> rfl

variable (x0 : Vec Ideal S256x1024 .f32) (x1 : Vec Ideal S1x1024 .f32) (x2 : Vec Ideal S1024x5120 .bf16) (x3 : Vec Ideal S256x128 .f32)

theorem pay41_eq : k0_pay41 x0 x1 x2 x3 = k0_pay6 x0 x1 x2 := by
  unfold k0_pay41
  rw [View.ld_unit_zero (S := S256x1024) hz2, View.ld_unit_zero (S := S1x1024) hz2, View.ld_unit_zero (S := S1024x5120) hz2]

theorem pay42_eq : k0_pay42 x0 x1 x2 x3 = k0_pay7 (F := Ideal) := rfl

theorem table_ld : View.ld x3 r0_19 = x3 := View.ld_unit_zero (S := S256x128) hz2 _ _

theorem out4_apply (g u : Fin 4) (l : Fin 128) (r : Fin 256) (n : Fin 5120) (hn : n.val = 512 * g.val + 128 * u.val + l.val) :
    out0_4 x0 x1 x2 x3 (ix5 0 g u l r) = k0_pay6 x0 x1 x2 (ix2 r n) := by
  unfold out0_4
  rw [pay41_eq, View.ld_unit_zero (S := S256x1024) hz2, View.ld_unit_zero (S := S1x1024) hz2, View.ld_unit_zero (S := S1024x5120) hz2]
  canon_tiles x h using cover0_4 (F := Ideal) _ _ _ _ _ _ _ _ _ _ _ _ _ _ _ _ _
  · exact qPiece (k0_pay6 x0 x1 x2) 1920 slices_S256x5120_o0_1920_S256x128 x n (by have e1 : g.val = 3 + (x 1).val := h1; have e2 : u.val = 3 + (x 2).val := h2; have e3 : l.val = (x 3).val := h3; omega) r h4
  · exact qPiece (k0_pay6 x0 x1 x2) 1792 slices_S256x5120_o0_1792_S256x128 x n (by have e1 : g.val = 3 + (x 1).val := h1; have e2 : u.val = 2 + (x 2).val := h2; have e3 : l.val = (x 3).val := h3; omega) r h4
  · exact qPiece (k0_pay6 x0 x1 x2) 1664 slices_S256x5120_o0_1664_S256x128 x n (by have e1 : g.val = 3 + (x 1).val := h1; have e2 : u.val = 1 + (x 2).val := h2; have e3 : l.val = (x 3).val := h3; omega) r h4
  · exact qPiece (k0_pay6 x0 x1 x2) 1536 slices_S256x5120_o0_1536_S256x128 x n (by have e1 : g.val = 3 + (x 1).val := h1; have e2 : u.val = (x 2).val := h2; have e3 : l.val = (x 3).val := h3; omega) r h4
  · exact qPiece (k0_pay6 x0 x1 x2) 1408 slices_S256x5120_o0_1408_S256x128 x n (by have e1 : g.val = 2 + (x 1).val := h1; have e2 : u.val = 3 + (x 2).val := h2; have e3 : l.val = (x 3).val := h3; omega) r h4
  · exact qPiece (k0_pay6 x0 x1 x2) 1280 slices_S256x5120_o0_1280_S256x128 x n (by have e1 : g.val = 2 + (x 1).val := h1; have e2 : u.val = 2 + (x 2).val := h2; have e3 : l.val = (x 3).val := h3; omega) r h4
  · exact qPiece (k0_pay6 x0 x1 x2) 1152 slices_S256x5120_o0_1152_S256x128 x n (by have e1 : g.val = 2 + (x 1).val := h1; have e2 : u.val = 1 + (x 2).val := h2; have e3 : l.val = (x 3).val := h3; omega) r h4
  · exact qPiece (k0_pay6 x0 x1 x2) 1024 slices_S256x5120_o0_1024_S256x128 x n (by have e1 : g.val = 2 + (x 1).val := h1; have e2 : u.val = (x 2).val := h2; have e3 : l.val = (x 3).val := h3; omega) r h4
  · exact qPiece (k0_pay6 x0 x1 x2) 896 slices_S256x5120_o0_896_S256x128 x n (by have e1 : g.val = 1 + (x 1).val := h1; have e2 : u.val = 3 + (x 2).val := h2; have e3 : l.val = (x 3).val := h3; omega) r h4
  · exact qPiece (k0_pay6 x0 x1 x2) 768 slices_S256x5120_o0_768_S256x128 x n (by have e1 : g.val = 1 + (x 1).val := h1; have e2 : u.val = 2 + (x 2).val := h2; have e3 : l.val = (x 3).val := h3; omega) r h4
  · exact qPiece (k0_pay6 x0 x1 x2) 640 slices_S256x5120_o0_640_S256x128 x n (by have e1 : g.val = 1 + (x 1).val := h1; have e2 : u.val = 1 + (x 2).val := h2; have e3 : l.val = (x 3).val := h3; omega) r h4
  · exact qPiece (k0_pay6 x0 x1 x2) 512 slices_S256x5120_o0_512_S256x128 x n (by have e1 : g.val = 1 + (x 1).val := h1; have e2 : u.val = (x 2).val := h2; have e3 : l.val = (x 3).val := h3; omega) r h4
  · exact qPiece (k0_pay6 x0 x1 x2) 384 slices_S256x5120_o0_384_S256x128 x n (by have e1 : g.val = (x 1).val := h1; have e2 : u.val = 3 + (x 2).val := h2; have e3 : l.val = (x 3).val := h3; omega) r h4
  · exact qPiece (k0_pay6 x0 x1 x2) 256 slices_S256x5120_o0_256_S256x128 x n (by have e1 : g.val = (x 1).val := h1; have e2 : u.val = 2 + (x 2).val := h2; have e3 : l.val = (x 3).val := h3; omega) r h4
  · exact qPiece (k0_pay6 x0 x1 x2) 128 slices_S256x5120_o0_128_S256x128 x n (by have e1 : g.val = (x 1).val := h1; have e2 : u.val = 1 + (x 2).val := h2; have e3 : l.val = (x 3).val := h3; omega) r h4
  · exact qPiece (k0_pay6 x0 x1 x2) 0 slices_S256x5120_o0_0_S256x128 x n (by have e1 : g.val = (x 1).val := h1; have e2 : u.val = (x 2).val := h2; have e3 : l.val = (x 3).val := h3; omega) r h4

theorem out5_apply (g : Fin 4) (r : Fin 256) (l : Fin 128) (n : Fin 5120) (hn : n.val = 2048 + 128 * g.val + l.val) :
    out0_5 x0 x1 x2 x3 (ix4 0 g r l) = k0_pay6 x0 x1 x2 (ix2 r n) + x3 (ix2 r l) := by
  have e : n = ⟨g.val * 128 + l.val + 2048, by omega⟩ := Fin.ext (by show n.val = g.val * 128 + l.val + 2048; omega)
  rw [e]
  unfold out0_5
  rw [pay41_eq, table_ld, Value.canon5_eq]
  exact congrArg₂ (· + ·) (congrArg _ (funext fun a => Fin.ext (match a with | ⟨0, _⟩ => rfl | ⟨1, _⟩ => rfl))) (congrArg _ (funext fun a => Fin.ext (match a with | ⟨0, _⟩ => rfl | ⟨1, _⟩ => rfl)))

theorem out6_apply (g : Fin 4) (q : Fin 80) (r : Fin 256) (n : Fin 5120) (hn : n.val = 2560 + 128 * g.val + q.val) :
    out0_6 x0 x1 x2 x3 (ix5 0 g 0 q r) = k0_pay6 x0 x1 x2 (ix2 r n) + (if q.val = 64 then 1 else 0) := by
  have e : n = ⟨g.val * 128 + q.val + 2560, by omega⟩ := Fin.ext (by show n.val = g.val * 128 + q.val + 2560; omega)
  rw [e]
  unfold out0_6
  rw [pay41_eq, pay42_eq, Value.canon6_eq]
  exact congrArg₂ (· + ·) (congrArg _ (funext fun a => Fin.ext (match a with | ⟨0, _⟩ => rfl | ⟨1, _⟩ => rfl))) ((congrArg _ (funext fun a => Fin.ext (match a with | ⟨0, _⟩ => rfl | ⟨1, _⟩ => rfl))).trans (one_apply ⟨q.val, by omega⟩))

theorem out7_apply (g : Fin 4) (r : Fin 256) (l : Fin 128) (n : Fin 5120) (hn : n.val = 3072 + 128 * g.val + l.val) :
    out0_7 x0 x1 x2 x3 (ix4 0 g r l) = k0_pay6 x0 x1 x2 (ix2 r n) := by
  have e : n = ⟨g.val * 128 + l.val + 3072, by omega⟩ := Fin.ext (by show n.val = g.val * 128 + l.val + 3072; omega)
  rw [e]
  unfold out0_7
  rw [pay41_eq, Value.canon7_eq]
  exact congrArg (k0_pay6 x0 x1 x2) (funext fun a => Fin.ext (match a with | ⟨0, _⟩ => rfl | ⟨1, _⟩ => rfl))

theorem out8_apply (g : Fin 4) (q : Fin 80) (r : Fin 256) (n : Fin 5120) (hn : n.val = 3584 + 128 * g.val + q.val) :
    out0_8 x0 x1 x2 x3 (ix5 0 g 0 q r) = k0_pay6 x0 x1 x2 (ix2 r n) + (if q.val = 64 then 1 else 0) := by
  have e : n = ⟨g.val * 128 + q.val + 3584, by omega⟩ := Fin.ext (by show n.val = g.val * 128 + q.val + 3584; omega)
  rw [e]
  unfold out0_8
  rw [pay41_eq, pay42_eq, Value.canon8_eq]
  exact congrArg₂ (· + ·) (congrArg _ (funext fun a => Fin.ext (match a with | ⟨0, _⟩ => rfl | ⟨1, _⟩ => rfl))) ((congrArg _ (funext fun a => Fin.ext (match a with | ⟨0, _⟩ => rfl | ⟨1, _⟩ => rfl))).trans (one_apply ⟨q.val, by omega⟩))

theorem out9_apply (r : Fin 256) (l : Fin 512) (n : Fin 5120) (hn : n.val = 4096 + l.val) :
    out0_9 x0 x1 x2 x3 (ix2 r l) = k0_pay6 x0 x1 x2 (ix2 r n) := by
  have e : n = ⟨l.val + 4096, by omega⟩ := Fin.ext (by show n.val = l.val + 4096; omega)
  rw [e]
  unfold out0_9
  rw [pay41_eq, Value.canon9_eq]
  exact congrArg (k0_pay6 x0 x1 x2) (funext fun a => Fin.ext (match a with | ⟨0, _⟩ => rfl | ⟨1, _⟩ => rfl))

theorem out10_apply (r : Fin 256) (l : Fin 512) (n : Fin 5120) (hn : n.val = 4608 + l.val) :
    out0_10 x0 x1 x2 x3 (ix2 r l) = k0_pay6 x0 x1 x2 (ix2 r n) := by
  have e : n = ⟨l.val + 4608, by omega⟩ := Fin.ext (by show n.val = l.val + 4608; omega)
  rw [e]
  unfold out0_10
  rw [pay41_eq, Value.canon10_eq]
  exact congrArg (k0_pay6 x0 x1 x2) (funext fun a => Fin.ext (match a with | ⟨0, _⟩ => rfl | ⟨1, _⟩ => rfl))

end Cert.Kernel6Ideal.NsaIn

end
-- ==== Proof.NsaIn.Point.lean ====
/-
  What each grid point of the attention's input projection writes, and the result arrays after the run.
-/
module

public import proofs.«01_k».proof.Proof.Gen.Kernel6Ideal.Value
public import proofs.«01_k».proof.Proof.NsaIn.Body
public import Idealize.ShloMosaic.Adequacy
public import Idealize.ShloMosaic.Init
public import Idealize.ShloMosaic.Lib.Pointwise
public import Idealize.ShloMosaic.Lib.Claim
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.NsaIn

open Idealize.ShloMosaic

theorem scale_nonneg : 0 ≤ scale := by
  simp [scale, Ideal.ofBits, Ideal.ieee]
  rw [← EReal.coe_mul]
  exact EReal.coe_nonneg.mpr (by positivity)

theorem scale_ne_top : scale ≠ ⊤ := by
  simp [scale, Ideal.ofBits, Ideal.ieee]
  rw [← EReal.coe_mul]
  exact EReal.coe_ne_top _

/-- A sum of products whose second factors are all there or all zero. -/
theorem sum_dite {n : ℕ} {P : Prop} [Decidable P] (f : Fin n → EReal) (a : P → Fin n → EReal) :
    ∑ k, f k * (if h : P then a h k else 0) = if h : P then ∑ k, f k * a h k else 0 := by
  by_cases h : P
  · simp only [dif_pos h]
  · simp only [dif_neg h, mul_zero, Finset.sum_const_zero]

end Cert.NsaIn

namespace Cert.Kernel6Ideal.NsaIn

open Cert.Kernel6Ideal Cert.Kernel6Ideal.Gen Cert.NsaIn Idealize.ShloMosaic Idealize.ShloMosaic.TcCoe Idealize.SL.Sem
open Cert.Ffn (rms)

variable (m : (ℓ : Loc nD τ sig) → Buf (Elt Ideal) ℓ) (c : Dev nD)

theorem lt_points (t : Fin cfg0.N) : t.val < 128 := lt_of_lt_of_eq t.isLt (show cfg0.N = 128 from N_0)

/-- The sequence of a grid point. -/
def seq (t : Fin cfg0.N) : Fin 16 := ⟨t.val / 8, by have := lt_points t; omega⟩

/-- The token of a grid point's row. -/
def tok (t : Fin cfg0.N) (r : Fin 256) : Fin 2048 := ⟨256 * (t.val % 8) + r.val, by omega⟩

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val % 8, 0] := by decide +kernel
theorem idx4 : ∀ t : Fin cfg0.N, win0_4.index t = ![t.val / 8, 0, 0, 0, t.val % 8] := by decide +kernel
theorem idx5 : ∀ t : Fin cfg0.N, win0_5.index t = ![t.val / 8, 0, t.val % 8, 0] := by decide +kernel
theorem idx6 : ∀ t : Fin cfg0.N, win0_6.index t = ![t.val / 8, 0, t.val % 8, 0, 0] := by decide +kernel
theorem idx7 : ∀ t : Fin cfg0.N, win0_7.index t = ![t.val / 8, 0, t.val % 8, 0] := by decide +kernel
theorem idx8 : ∀ t : Fin cfg0.N, win0_8.index t = ![t.val / 8, 0, t.val % 8, 0, 0] := by decide +kernel
theorem idx9 : ∀ t : Fin cfg0.N, win0_9.index t = ![t.val, 0] := by decide +kernel
theorem idx10 : ∀ t : Fin cfg0.N, win0_10.index t = ![t.val, 0] := by decide +kernel

theorem blk0_apply (t : Fin cfg0.N) (r : Fin 256) (k : Fin 1024) :
    (iblk m c 0 t : Vec Ideal S256x1024 .f32) (ix2 r k) = V m c main_v8 (ix2 ⟨256 * t.val + r.val, by have := lt_points t; omega⟩ k) := by
  blk_ext [iblk, idx0 t]

theorem blk1_apply (t : Fin cfg0.N) (k : Fin 1024) : (iblk m c 1 t : Vec Ideal S1x1024 .f32) (ix2 0 k) = V m c main_v9 (ix2 0 k) := by
  blk_ext [iblk, idx1 t]

theorem blk2_apply (t : Fin cfg0.N) (k : Fin 1024) (n : Fin 5120) :
    (iblk m c 2 t : Vec Ideal S1024x5120 .bf16) (ix2 k n) = V m c main_v53 (ix2 k n) := by
  blk_ext [iblk, idx2 t]

theorem blk3_apply (t : Fin cfg0.N) (r : Fin 256) (l : Fin 128) :
    (iblk m c 3 t : Vec Ideal S256x128 .f32) (ix2 r l) = V m c main_v7 (ix2 (tok t r) l) := by
  blk_ext [iblk, idx3 t, tok]

/-- A row of the block is a token. -/
theorem row_apply (t : Fin cfg0.N) (r : Fin 256) (k : Fin 1024) :
    (iblk m c 0 t : Vec Ideal S256x1024 .f32) (ix2 r k) = (argsK m c).h (seq t) (tok t r) k := by
  have e0 := (blk0_apply m c t r k).trans (h_apply m c _ k)
  have eb : ∀ h, (⟨(256 * t.val + r.val) / 2048, h⟩ : Fin 16) = seq t := fun h => Fin.ext (by show (256 * t.val + r.val) / 2048 = t.val / 8; omega)
  have et : ∀ h, (⟨(256 * t.val + r.val) % 2048, h⟩ : Fin 2048) = tok t r := fun h => Fin.ext (by show (256 * t.val + r.val) % 2048 = 256 * (t.val % 8) + r.val; omega)
  refine e0.trans ?_
  show (argsK m c).h ⟨(256 * t.val + r.val) / 2048, by have := lt_points t; omega⟩ ⟨(256 * t.val + r.val) % 2048, by omega⟩ k = _
  rw [eb, et]

/-- The block's projection, at a row and one of the launch's columns. -/
theorem pay_apply (t : Fin cfg0.N) (r : Fin 256) (n : Fin 5120) :
    k0_pay6 (iblk m c 0 t) (iblk m c 1 t) (iblk m c 2 t) (ix2 r n)
      = ∑ k, rms ((argsK m c).h (seq t) (tok t r)) (argsK m c).gain k * (V m c main_v53 : Vec Ideal S1024x5120 .bf16) (ix2 k n) := by
  have e1 := fun k => (blk1_apply m c t k).trans (gain_apply m c k)
  have e2 := fun k => blk2_apply m c t k n
  have e0 := fun k => row_apply m c t r k
  refine (proj_apply (iblk m c 0 t) (iblk m c 1 t) (iblk m c 2 t) r n).trans ?_
  simp only [e0, e1, e2]

theorem pay_q (t : Fin cfg0.N) (r : Fin 256) (u : Fin 16) (l : Fin 128) (n : Fin 5120) (hn : n.val = 128 * u.val + l.val) :
    k0_pay6 (iblk m c 0 t) (iblk m c 1 t) (iblk m c 2 t) (ix2 r n) = (argsK m c).qAt (seq t) (tok t r) u l := by
  have e := fun k => w_q m c k u l n hn
  rw [pay_apply]
  simp only [e]
  rw [sum_dite]
  unfold Args.qAt
  by_cases h : l.val < 64
  · rw [dif_pos h, dif_pos h]
    exact sum_scale scale scale_nonneg scale_ne_top _ _
  · rw [dif_neg h, dif_neg h]

theorem pay_kv2 (t : Fin cfg0.N) (r : Fin 256) (g : Fin 4) (l : Fin 128) (n : Fin 5120) (hn : n.val = 2048 + 128 * g.val + l.val) :
    k0_pay6 (iblk m c 0 t) (iblk m c 1 t) (iblk m c 2 t) (ix2 r n) = if h : l.val < 64 then (argsK m c).kvAt (seq t) (tok t r) 2 g ⟨l.val, h⟩ else 0 := by
  have e := fun k => w_kv2 m c k g l n hn
  rw [pay_apply]
  simp only [e]
  rw [sum_dite]
  rfl

theorem pay_kv3 (t : Fin cfg0.N) (r : Fin 256) (g : Fin 4) (l : Fin 128) (n : Fin 5120) (hn : n.val = 2560 + 128 * g.val + l.val) :
    k0_pay6 (iblk m c 0 t) (iblk m c 1 t) (iblk m c 2 t) (ix2 r n) = if h : l.val < 64 then (argsK m c).kvAt (seq t) (tok t r) 3 g ⟨l.val, h⟩ else 0 := by
  have e := fun k => w_kv3 m c k g l n hn
  rw [pay_apply]
  simp only [e]
  rw [sum_dite]
  rfl

theorem pay_kv4 (t : Fin cfg0.N) (r : Fin 256) (g : Fin 4) (l : Fin 128) (n : Fin 5120) (hn : n.val = 3072 + 128 * g.val + l.val) :
    k0_pay6 (iblk m c 0 t) (iblk m c 1 t) (iblk m c 2 t) (ix2 r n) = if h : l.val < 64 then (argsK m c).kvAt (seq t) (tok t r) 4 g ⟨l.val, h⟩ else 0 := by
  have e := fun k => w_kv4 m c k g l n hn
  rw [pay_apply]
  simp only [e]
  rw [sum_dite]
  rfl

theorem pay_kv5 (t : Fin cfg0.N) (r : Fin 256) (g : Fin 4) (l : Fin 128) (n : Fin 5120) (hn : n.val = 3584 + 128 * g.val + l.val) :
    k0_pay6 (iblk m c 0 t) (iblk m c 1 t) (iblk m c 2 t) (ix2 r n) = if h : l.val < 64 then (argsK m c).kvAt (seq t) (tok t r) 5 g ⟨l.val, h⟩ else 0 := by
  have e := fun k => w_kv5 m c k g l n hn
  rw [pay_apply]
  simp only [e]
  rw [sum_dite]
  rfl

theorem pay_cmp (t : Fin cfg0.N) (r : Fin 256) (g : Fin 4) (l : Fin 128) (n : Fin 5120) (hn : n.val = 4096 + 128 * g.val + l.val) :
    k0_pay6 (iblk m c 0 t) (iblk m c 1 t) (iblk m c 2 t) (ix2 r n) = (argsK m c).cmpAt (seq t) (tok t r) g l := by
  have e := fun k => w_cmp m c k g l n hn
  rw [pay_apply]
  simp only [e]
  unfold Args.cmpAt
  by_cases h : l.val < 64
  · simp only [dif_pos h]
    rfl
  · simp only [dif_neg h]
    rfl

theorem pay_gate (t : Fin cfg0.N) (r : Fin 256) (g : Fin 4) (l : Fin 128) (n : Fin 5120) (hn : n.val = 4608 + 128 * g.val + l.val) :
    k0_pay6 (iblk m c 0 t) (iblk m c 1 t) (iblk m c 2 t) (ix2 r n) = (argsK m c).gateAt (seq t) (tok t r) g l := by
  have e := fun k => w_gate m c k g l n hn
  rw [pay_apply]
  simp only [e]
  rw [sum_dite]
  rfl

/-- The queries, a lane of a head at a token. -/
def out4 (A : Args) : FVec Ideal S16x4x4x128x2048 .bf16 := fun i => A.qAt (i 0) (i 4) ⟨4 * (i 1).val + (i 2).val, by
  have : (i 1).val < 4 := (i 1).isLt
  have : (i 2).val < 4 := (i 2).isLt
  omega⟩ (i 3)

/-- The selection's keys. -/
def out5 (A : Args) : FVec Ideal S16x4x2048x128 .bf16 := fun i => A.selAt (i 0) (i 2) (i 1) (i 3)

/-- The selection's values, by blocks of 256 tokens. -/
def out6 (A : Args) : FVec Ideal S16x4x8x80x256 .bf16 := fun i => A.valAt (i 0) ⟨256 * (i 2).val + (i 4).val, by
  have : (i 2).val < 8 := (i 2).isLt
  have : (i 4).val < 256 := (i 4).isLt
  omega⟩ 3 (i 1) (i 3)

/-- The window's keys. -/
def out7 (A : Args) : FVec Ideal S16x4x2048x128 .bf16 := fun i => A.winAt (i 0) (i 2) (i 1) (i 3)

/-- The window's values, by blocks of 256 tokens. -/
def out8 (A : Args) : FVec Ideal S16x4x8x80x256 .bf16 := fun i => A.valAt (i 0) ⟨256 * (i 2).val + (i 4).val, by
  have : (i 2).val < 8 := (i 2).isLt
  have : (i 4).val < 256 := (i 4).isLt
  omega⟩ 5 (i 1) (i 3)

/-- The compressed branch's keys and values, a row per token. -/
def out9 (A : Args) : FVec Ideal S32768x512 .f32 := fun i =>
  A.cmpAt ⟨(i 0).val / 2048, by have : (i 0).val < 32768 := (i 0).isLt; omega⟩ ⟨(i 0).val % 2048, by omega⟩
    ⟨(i 1).val / 128, by have : (i 1).val < 512 := (i 1).isLt; omega⟩ ⟨(i 1).val % 128, by omega⟩

/-- The gates' inputs, a row per token. -/
def out10 (A : Args) : FVec Ideal S32768x512 .f32 := fun i =>
  A.gateAt ⟨(i 0).val / 2048, by have : (i 0).val < 32768 := (i 0).isLt; omega⟩ ⟨(i 0).val % 2048, by omega⟩
    ⟨(i 1).val / 128, by have : (i 1).val < 512 := (i 1).isLt; omega⟩ ⟨(i 1).val % 128, by omega⟩

/-- A value row with a one after it. -/
theorem val_add (A : Args) (b : Fin 16) (p : Fin 2048) (j : Fin 6) (g : Fin 4) (q : Fin 80) :
    (if h : q.val < 64 then A.kvAt b p j g ⟨q.val, h⟩ else 0) + (if q.val = 64 then (1 : EReal) else 0) = A.valAt b p j g q := by
  unfold Args.valAt
  by_cases h : q.val < 64
  · rw [dif_pos h, dif_pos h, if_neg (by omega), add_zero]
  · rw [dif_neg h, dif_neg h, zero_add]

/-- A key with its block's number after it. -/
theorem sel_add (A : Args) (b : Fin 16) (p : Fin 2048) (g : Fin 4) (l : Fin 128) :
    (if h : l.val < 64 then A.kvAt b p 2 g ⟨l.val, h⟩ else 0) + (if l.val = 64 + p.val / 64 then (1 : EReal) else 0) = A.selAt b p g l := by
  unfold Args.selAt
  by_cases h : l.val < 64
  · rw [dif_pos h, dif_pos h, if_neg (by omega), add_zero]
  · rw [dif_neg h, dif_neg h, zero_add]
    by_cases e : l.val = 64 + p.val / 64
    · rw [if_pos e, if_pos (by omega)]
    · rw [if_neg e, if_neg (by omega)]

theorem point4 (t : Fin cfg0.N) (g u : Fin 4) (l : Fin 128) (r : Fin 256) :
    out0_4 (iblk m c 0 t) (iblk m c 1 t) (iblk m c 2 t) (iblk m c 3 t) (ix5 0 g u l r) = out4 (argsK m c) (ix5 (seq t) g u l (tok t r)) :=
  (out4_apply (iblk m c 0 t) (iblk m c 1 t) (iblk m c 2 t) (iblk m c 3 t) g u l r ⟨512 * g.val + 128 * u.val + l.val, by omega⟩ rfl).trans
    (pay_q m c t r ⟨4 * g.val + u.val, by omega⟩ l _ (by show 512 * g.val + 128 * u.val + l.val = 128 * (4 * g.val + u.val) + l.val; omega))

theorem point5 (t : Fin cfg0.N) (g : Fin 4) (r : Fin 256) (l : Fin 128) :
    out0_5 (iblk m c 0 t) (iblk m c 1 t) (iblk m c 2 t) (iblk m c 3 t) (ix4 0 g r l) = out5 (argsK m c) (ix4 (seq t) g (tok t r) l) := by
  refine (out5_apply (iblk m c 0 t) (iblk m c 1 t) (iblk m c 2 t) (iblk m c 3 t) g r l ⟨2048 + 128 * g.val + l.val, by omega⟩ rfl).trans ?_
  rw [pay_kv2 m c t r g l _ rfl]
  refine Eq.trans (congrArg _ ((blk3_apply m c t r l).trans (block_apply m c (tok t r) l))) ?_
  exact sel_add (argsK m c) (seq t) (tok t r) g l

theorem point6 (t : Fin cfg0.N) (g : Fin 4) (q : Fin 80) (r : Fin 256) :
    out0_6 (iblk m c 0 t) (iblk m c 1 t) (iblk m c 2 t) (iblk m c 3 t) (ix5 0 g 0 q r) = out6 (argsK m c) (ix5 (seq t) g ⟨t.val % 8, by omega⟩ q r) := by
  refine (out6_apply (iblk m c 0 t) (iblk m c 1 t) (iblk m c 2 t) (iblk m c 3 t) g q r ⟨2560 + 128 * g.val + q.val, by omega⟩ rfl).trans ?_
  rw [pay_kv3 m c t r g ⟨q.val, by omega⟩ _ rfl]
  exact val_add (argsK m c) (seq t) (tok t r) 3 g q

theorem point8 (t : Fin cfg0.N) (g : Fin 4) (q : Fin 80) (r : Fin 256) :
    out0_8 (iblk m c 0 t) (iblk m c 1 t) (iblk m c 2 t) (iblk m c 3 t) (ix5 0 g 0 q r) = out8 (argsK m c) (ix5 (seq t) g ⟨t.val % 8, by omega⟩ q r) := by
  refine (out8_apply (iblk m c 0 t) (iblk m c 1 t) (iblk m c 2 t) (iblk m c 3 t) g q r ⟨3584 + 128 * g.val + q.val, by omega⟩ rfl).trans ?_
  rw [pay_kv5 m c t r g ⟨q.val, by omega⟩ _ rfl]
  exact val_add (argsK m c) (seq t) (tok t r) 5 g q

theorem point7 (t : Fin cfg0.N) (g : Fin 4) (r : Fin 256) (l : Fin 128) :
    out0_7 (iblk m c 0 t) (iblk m c 1 t) (iblk m c 2 t) (iblk m c 3 t) (ix4 0 g r l) = out7 (argsK m c) (ix4 (seq t) g (tok t r) l) :=
  (out7_apply (iblk m c 0 t) (iblk m c 1 t) (iblk m c 2 t) (iblk m c 3 t) g r l ⟨3072 + 128 * g.val + l.val, by omega⟩ rfl).trans (pay_kv4 m c t r g l _ rfl)

/-- A row of the flat results is a token. -/
theorem flat_row (t : Fin cfg0.N) (r : Fin 256) (f : Fin 16 → Fin 2048 → EReal) (h : (256 * t.val + r.val) / 2048 < 16) (h' : (256 * t.val + r.val) % 2048 < 2048) :
    f ⟨(256 * t.val + r.val) / 2048, h⟩ ⟨(256 * t.val + r.val) % 2048, h'⟩ = f (seq t) (tok t r) := by
  have eb : (⟨(256 * t.val + r.val) / 2048, h⟩ : Fin 16) = seq t := Fin.ext (by show (256 * t.val + r.val) / 2048 = t.val / 8; omega)
  have et : (⟨(256 * t.val + r.val) % 2048, h'⟩ : Fin 2048) = tok t r := Fin.ext (by show (256 * t.val + r.val) % 2048 = 256 * (t.val % 8) + r.val; omega)
  rw [eb, et]

theorem point9 (t : Fin cfg0.N) (r : Fin 256) (l : Fin 512) :
    out0_9 (iblk m c 0 t) (iblk m c 1 t) (iblk m c 2 t) (iblk m c 3 t) (ix2 r l) = out9 (argsK m c) (ix2 ⟨256 * t.val + r.val, by have := lt_points t; omega⟩ l) := by
  refine (out9_apply (iblk m c 0 t) (iblk m c 1 t) (iblk m c 2 t) (iblk m c 3 t) r l ⟨4096 + l.val, by omega⟩ rfl).trans ?_
  refine (pay_cmp m c t r ⟨l.val / 128, by omega⟩ ⟨l.val % 128, by omega⟩ _ (by show 4096 + l.val = 4096 + 128 * (l.val / 128) + l.val % 128; omega)).trans ?_
  exact (flat_row t r (fun b p => (argsK m c).cmpAt b p ⟨l.val / 128, by omega⟩ ⟨l.val % 128, by omega⟩) _ _).symm

theorem point10 (t : Fin cfg0.N) (r : Fin 256) (l : Fin 512) :
    out0_10 (iblk m c 0 t) (iblk m c 1 t) (iblk m c 2 t) (iblk m c 3 t) (ix2 r l) = out10 (argsK m c) (ix2 ⟨256 * t.val + r.val, by have := lt_points t; omega⟩ l) := by
  refine (out10_apply (iblk m c 0 t) (iblk m c 1 t) (iblk m c 2 t) (iblk m c 3 t) r l ⟨4608 + l.val, by omega⟩ rfl).trans ?_
  refine (pay_gate m c t r ⟨l.val / 128, by omega⟩ ⟨l.val % 128, by omega⟩ _ (by show 4608 + l.val = 4608 + 128 * (l.val / 128) + l.val % 128; omega)).trans ?_
  exact (flat_row t r (fun b p => (argsK m c).gateAt b p ⟨l.val / 128, by omega⟩ ⟨l.val % 128, by omega⟩) _ _).symm

/-- The array of window 4 after the run. -/
theorem final4 : (dats m 0 c).arrAt 4 cfg0.N = out4 (argsK m c) := by
  refine (dats m 0 c).arrAt_eq_of_covers 4 (out4 (argsK m c)) (by decide +kernel) fun t hf y => ?_
  blk_simp
  rw [after0_4]
  have eW := idx4 t
  have b0 : (y 0).val < 1 := (y 0).isLt
  have b1 : (y 1).val < 4 := (y 1).isLt
  have b2 : (y 2).val < 4 := (y 2).isLt
  have b3 : (y 3).val < 128 := (y 3).isLt
  have b4 : (y 4).val < 256 := (y 4).isLt
  have e : (win0_4.blk t).view.emb y = (ix5 (seq t) (y 1) (y 2) (y 3) (tok t (y 4)) : S16x4x4x128x2048.Idx) := by
    funext a
    apply Fin.ext
    match a with
    | ⟨0, _⟩ => show win0_4.index t 0 * 1 + 1 * (y 0).val = t.val / 8; rw [eW]; show t.val / 8 * 1 + 1 * (y 0).val = _; omega
    | ⟨1, _⟩ => show win0_4.index t 1 * 4 + 1 * (y 1).val = (y 1).val; rw [eW]; show 0 * 4 + 1 * (y 1).val = _; omega
    | ⟨2, _⟩ => show win0_4.index t 2 * 4 + 1 * (y 2).val = (y 2).val; rw [eW]; show 0 * 4 + 1 * (y 2).val = _; omega
    | ⟨3, _⟩ => show win0_4.index t 3 * 128 + 1 * (y 3).val = (y 3).val; rw [eW]; show 0 * 128 + 1 * (y 3).val = _; omega
    | ⟨4, _⟩ => show win0_4.index t 4 * 256 + 1 * (y 4).val = 256 * (t.val % 8) + (y 4).val; rw [eW]; show t.val % 8 * 256 + 1 * (y 4).val = _; omega
  have ey : y = (ix5 0 (y 1) (y 2) (y 3) (y 4) : S1x4x4x128x256.Idx) := by
    funext a
    match a with
    | ⟨0, _⟩ => exact Fin.ext (by have : (y 0).val < 1 := (y 0).isLt; show (y 0).val = 0; omega)
    | ⟨1, _⟩ => rfl
    | ⟨2, _⟩ => rfl
    | ⟨3, _⟩ => rfl
    | ⟨4, _⟩ => rfl
  rw [e]
  exact (congrArg (out0_4 (iblk m c 0 t) (iblk m c 1 t) (iblk m c 2 t) (iblk m c 3 t)) ey).trans (point4 m c t (y 1) (y 2) (y 3) (y 4))

/-- The array of window 5 after the run. -/
theorem final5 : (dats m 0 c).arrAt 5 cfg0.N = out5 (argsK m c) := by
  refine (dats m 0 c).arrAt_eq_of_covers 5 (out5 (argsK m c)) (by decide +kernel) fun t hf y => ?_
  blk_simp
  rw [after0_5]
  have eW := idx5 t
  have b0 : (y 0).val < 1 := (y 0).isLt
  have b1 : (y 1).val < 4 := (y 1).isLt
  have b2 : (y 2).val < 256 := (y 2).isLt
  have b3 : (y 3).val < 128 := (y 3).isLt
  have e : (win0_5.blk t).view.emb y = (ix4 (seq t) (y 1) (tok t (y 2)) (y 3) : S16x4x2048x128.Idx) := by
    funext a
    apply Fin.ext
    match a with
    | ⟨0, _⟩ => show win0_5.index t 0 * 1 + 1 * (y 0).val = t.val / 8; rw [eW]; show t.val / 8 * 1 + 1 * (y 0).val = _; omega
    | ⟨1, _⟩ => show win0_5.index t 1 * 4 + 1 * (y 1).val = (y 1).val; rw [eW]; show 0 * 4 + 1 * (y 1).val = _; omega
    | ⟨2, _⟩ => show win0_5.index t 2 * 256 + 1 * (y 2).val = 256 * (t.val % 8) + (y 2).val; rw [eW]; show t.val % 8 * 256 + 1 * (y 2).val = _; omega
    | ⟨3, _⟩ => show win0_5.index t 3 * 128 + 1 * (y 3).val = (y 3).val; rw [eW]; show 0 * 128 + 1 * (y 3).val = _; omega
  have ey : y = (ix4 0 (y 1) (y 2) (y 3) : S1x4x256x128.Idx) := by
    funext a
    match a with
    | ⟨0, _⟩ => exact Fin.ext (by have : (y 0).val < 1 := (y 0).isLt; show (y 0).val = 0; omega)
    | ⟨1, _⟩ => rfl
    | ⟨2, _⟩ => rfl
    | ⟨3, _⟩ => rfl
  rw [e]
  exact (congrArg (out0_5 (iblk m c 0 t) (iblk m c 1 t) (iblk m c 2 t) (iblk m c 3 t)) ey).trans (point5 m c t (y 1) (y 2) (y 3))

/-- The array of window 7 after the run. -/
theorem final7 : (dats m 0 c).arrAt 7 cfg0.N = out7 (argsK m c) := by
  refine (dats m 0 c).arrAt_eq_of_covers 7 (out7 (argsK m c)) (by decide +kernel) fun t hf y => ?_
  blk_simp
  rw [after0_7]
  have eW := idx7 t
  have b0 : (y 0).val < 1 := (y 0).isLt
  have b1 : (y 1).val < 4 := (y 1).isLt
  have b2 : (y 2).val < 256 := (y 2).isLt
  have b3 : (y 3).val < 128 := (y 3).isLt
  have e : (win0_7.blk t).view.emb y = (ix4 (seq t) (y 1) (tok t (y 2)) (y 3) : S16x4x2048x128.Idx) := by
    funext a
    apply Fin.ext
    match a with
    | ⟨0, _⟩ => show win0_7.index t 0 * 1 + 1 * (y 0).val = t.val / 8; rw [eW]; show t.val / 8 * 1 + 1 * (y 0).val = _; omega
    | ⟨1, _⟩ => show win0_7.index t 1 * 4 + 1 * (y 1).val = (y 1).val; rw [eW]; show 0 * 4 + 1 * (y 1).val = _; omega
    | ⟨2, _⟩ => show win0_7.index t 2 * 256 + 1 * (y 2).val = 256 * (t.val % 8) + (y 2).val; rw [eW]; show t.val % 8 * 256 + 1 * (y 2).val = _; omega
    | ⟨3, _⟩ => show win0_7.index t 3 * 128 + 1 * (y 3).val = (y 3).val; rw [eW]; show 0 * 128 + 1 * (y 3).val = _; omega
  have ey : y = (ix4 0 (y 1) (y 2) (y 3) : S1x4x256x128.Idx) := by
    funext a
    match a with
    | ⟨0, _⟩ => exact Fin.ext (by have : (y 0).val < 1 := (y 0).isLt; show (y 0).val = 0; omega)
    | ⟨1, _⟩ => rfl
    | ⟨2, _⟩ => rfl
    | ⟨3, _⟩ => rfl
  rw [e]
  exact (congrArg (out0_7 (iblk m c 0 t) (iblk m c 1 t) (iblk m c 2 t) (iblk m c 3 t)) ey).trans (point7 m c t (y 1) (y 2) (y 3))

/-- The array of window 6 after the run. -/
theorem final6 : (dats m 0 c).arrAt 6 cfg0.N = out6 (argsK m c) := by
  refine (dats m 0 c).arrAt_eq_of_covers 6 (out6 (argsK m c)) (by decide +kernel) fun t hf y => ?_
  blk_simp
  rw [after0_6]
  have eW := idx6 t
  have b0 : (y 0).val < 1 := (y 0).isLt
  have b1 : (y 1).val < 4 := (y 1).isLt
  have b2 : (y 2).val < 1 := (y 2).isLt
  have b3 : (y 3).val < 80 := (y 3).isLt
  have b4 : (y 4).val < 256 := (y 4).isLt
  have e : (win0_6.blk t).view.emb y = (ix5 (seq t) (y 1) ⟨t.val % 8, by omega⟩ (y 3) (y 4) : S16x4x8x80x256.Idx) := by
    funext a
    apply Fin.ext
    match a with
    | ⟨0, _⟩ => show win0_6.index t 0 * 1 + 1 * (y 0).val = t.val / 8; rw [eW]; show t.val / 8 * 1 + 1 * (y 0).val = _; omega
    | ⟨1, _⟩ => show win0_6.index t 1 * 4 + 1 * (y 1).val = (y 1).val; rw [eW]; show 0 * 4 + 1 * (y 1).val = _; omega
    | ⟨2, _⟩ => show win0_6.index t 2 * 1 + 1 * (y 2).val = t.val % 8; rw [eW]; show t.val % 8 * 1 + 1 * (y 2).val = _; omega
    | ⟨3, _⟩ => show win0_6.index t 3 * 80 + 1 * (y 3).val = (y 3).val; rw [eW]; show 0 * 80 + 1 * (y 3).val = _; omega
    | ⟨4, _⟩ => show win0_6.index t 4 * 256 + 1 * (y 4).val = (y 4).val; rw [eW]; show 0 * 256 + 1 * (y 4).val = _; omega
  have ey : y = (ix5 0 (y 1) 0 (y 3) (y 4) : S1x4x1x80x256.Idx) := by
    funext a
    match a with
    | ⟨0, _⟩ => exact Fin.ext (by have : (y 0).val < 1 := (y 0).isLt; show (y 0).val = 0; omega)
    | ⟨1, _⟩ => rfl
    | ⟨2, _⟩ => exact Fin.ext (by have : (y 2).val < 1 := (y 2).isLt; show (y 2).val = 0; omega)
    | ⟨3, _⟩ => rfl
    | ⟨4, _⟩ => rfl
  rw [e]
  exact (congrArg (out0_6 (iblk m c 0 t) (iblk m c 1 t) (iblk m c 2 t) (iblk m c 3 t)) ey).trans (point6 m c t (y 1) (y 3) (y 4))

/-- The array of window 8 after the run. -/
theorem final8 : (dats m 0 c).arrAt 8 cfg0.N = out8 (argsK m c) := by
  refine (dats m 0 c).arrAt_eq_of_covers 8 (out8 (argsK m c)) (by decide +kernel) fun t hf y => ?_
  blk_simp
  rw [after0_8]
  have eW := idx8 t
  have b0 : (y 0).val < 1 := (y 0).isLt
  have b1 : (y 1).val < 4 := (y 1).isLt
  have b2 : (y 2).val < 1 := (y 2).isLt
  have b3 : (y 3).val < 80 := (y 3).isLt
  have b4 : (y 4).val < 256 := (y 4).isLt
  have e : (win0_8.blk t).view.emb y = (ix5 (seq t) (y 1) ⟨t.val % 8, by omega⟩ (y 3) (y 4) : S16x4x8x80x256.Idx) := by
    funext a
    apply Fin.ext
    match a with
    | ⟨0, _⟩ => show win0_8.index t 0 * 1 + 1 * (y 0).val = t.val / 8; rw [eW]; show t.val / 8 * 1 + 1 * (y 0).val = _; omega
    | ⟨1, _⟩ => show win0_8.index t 1 * 4 + 1 * (y 1).val = (y 1).val; rw [eW]; show 0 * 4 + 1 * (y 1).val = _; omega
    | ⟨2, _⟩ => show win0_8.index t 2 * 1 + 1 * (y 2).val = t.val % 8; rw [eW]; show t.val % 8 * 1 + 1 * (y 2).val = _; omega
    | ⟨3, _⟩ => show win0_8.index t 3 * 80 + 1 * (y 3).val = (y 3).val; rw [eW]; show 0 * 80 + 1 * (y 3).val = _; omega
    | ⟨4, _⟩ => show win0_8.index t 4 * 256 + 1 * (y 4).val = (y 4).val; rw [eW]; show 0 * 256 + 1 * (y 4).val = _; omega
  have ey : y = (ix5 0 (y 1) 0 (y 3) (y 4) : S1x4x1x80x256.Idx) := by
    funext a
    match a with
    | ⟨0, _⟩ => exact Fin.ext (by have : (y 0).val < 1 := (y 0).isLt; show (y 0).val = 0; omega)
    | ⟨1, _⟩ => rfl
    | ⟨2, _⟩ => exact Fin.ext (by have : (y 2).val < 1 := (y 2).isLt; show (y 2).val = 0; omega)
    | ⟨3, _⟩ => rfl
    | ⟨4, _⟩ => rfl
  rw [e]
  exact (congrArg (out0_8 (iblk m c 0 t) (iblk m c 1 t) (iblk m c 2 t) (iblk m c 3 t)) ey).trans (point8 m c t (y 1) (y 3) (y 4))

/-- The array of window 9 after the run. -/
theorem final9 : (dats m 0 c).arrAt 9 cfg0.N = out9 (argsK m c) := by
  refine (dats m 0 c).arrAt_eq_of_covers 9 (out9 (argsK m c)) (by decide +kernel) fun t hf y => ?_
  blk_simp
  rw [after0_9]
  have eW := idx9 t
  have b0 : (y 0).val < 256 := (y 0).isLt
  have b1 : (y 1).val < 512 := (y 1).isLt
  have e : (win0_9.blk t).view.emb y = (ix2 ⟨256 * t.val + (y 0).val, by have := lt_points t; omega⟩ (y 1) : S32768x512.Idx) := by
    funext a
    apply Fin.ext
    match a with
    | ⟨0, _⟩ => show win0_9.index t 0 * 256 + 1 * (y 0).val = 256 * t.val + (y 0).val; rw [eW]; show t.val * 256 + 1 * (y 0).val = _; omega
    | ⟨1, _⟩ => show win0_9.index t 1 * 512 + 1 * (y 1).val = (y 1).val; rw [eW]; show 0 * 512 + 1 * (y 1).val = _; omega
  have ey : y = (ix2 (y 0) (y 1) : S256x512.Idx) := by
    funext a
    match a with
    | ⟨0, _⟩ => rfl
    | ⟨1, _⟩ => rfl
  rw [e]
  exact (congrArg (out0_9 (iblk m c 0 t) (iblk m c 1 t) (iblk m c 2 t) (iblk m c 3 t)) ey).trans (point9 m c t (y 0) (y 1))

/-- The array of window 10 after the run. -/
theorem final10 : (dats m 0 c).arrAt 10 cfg0.N = out10 (argsK m c) := by
  refine (dats m 0 c).arrAt_eq_of_covers 10 (out10 (argsK m c)) (by decide +kernel) fun t hf y => ?_
  blk_simp
  rw [after0_10]
  have eW := idx10 t
  have b0 : (y 0).val < 256 := (y 0).isLt
  have b1 : (y 1).val < 512 := (y 1).isLt
  have e : (win0_10.blk t).view.emb y = (ix2 ⟨256 * t.val + (y 0).val, by have := lt_points t; omega⟩ (y 1) : S32768x512.Idx) := by
    funext a
    apply Fin.ext
    match a with
    | ⟨0, _⟩ => show win0_10.index t 0 * 256 + 1 * (y 0).val = 256 * t.val + (y 0).val; rw [eW]; show t.val * 256 + 1 * (y 0).val = _; omega
    | ⟨1, _⟩ => show win0_10.index t 1 * 512 + 1 * (y 1).val = (y 1).val; rw [eW]; show 0 * 512 + 1 * (y 1).val = _; omega
  have ey : y = (ix2 (y 0) (y 1) : S256x512.Idx) := by
    funext a
    match a with
    | ⟨0, _⟩ => rfl
    | ⟨1, _⟩ => rfl
  rw [e]
  exact (congrArg (out0_10 (iblk m c 0 t) (iblk m c 1 t) (iblk m c 2 t) (iblk m c 3 t)) ey).trans (point10 m c t (y 0) (y 1))

/-- The run, with its results named. -/
theorem run (ρ : Dev nD → PrngReg) : θ_run defs (onTc (τ := τ) (main (F := Ideal))) ⟨m, fun _ => 0, ρ⟩ fun r => ∀ c : Dev nD,
      r.2.mem ((c : Thread nD τ).loc main_v54_0) = out4 (argsK m c)
      ∧ r.2.mem ((c : Thread nD τ).loc main_v54_1) = out5 (argsK m c)
      ∧ r.2.mem ((c : Thread nD τ).loc main_v54_2) = out6 (argsK m c)
      ∧ r.2.mem ((c : Thread nD τ).loc main_v54_3) = out7 (argsK m c)
      ∧ r.2.mem ((c : Thread nD τ).loc main_v54_4) = out8 (argsK m c)
      ∧ r.2.mem ((c : Thread nD τ).loc main_v54_5) = out9 (argsK m c)
      ∧ r.2.mem ((c : Thread nD τ).loc main_v54_6) = out10 (argsK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c),
    (h c).2.1.trans (final5 m c),
    (h c).2.2.1.trans (final6 m c),
    (h c).2.2.2.1.trans (final7 m c),
    (h c).2.2.2.2.1.trans (final8 m c),
    (h c).2.2.2.2.2.1.trans (final9 m c),
    (h c).2.2.2.2.2.2.1.trans (final10 m c),
    (h c).2.2.2.2.2.2.2⟩) (Value.run_blocks m ρ)

end Cert.Kernel6Ideal.NsaIn

end
-- ==== Proof.NsaIn.Ref.lean ====
/-
  What the reference of the attention's input projection computes, read at an index.
-/
module

public import proofs.«01_k».proof.Proof.Gen.Reference6Ideal.Run
public import proofs.«01_k».proof.Proof.NsaIn.Spec
public import Idealize.ShloMosaic.Lib.Pointwise
public import Idealize.ShloMosaic.Lib.Claim
public import Idealize.ShloMosaic.Lib.StableHlo.ReadAt

@[expose] public section

set_option maxRecDepth 16384

noncomputable section

namespace Cert.Reference6Ideal.NsaIn

open Cert.Reference6Ideal Cert.Reference6Ideal.Gen Cert.NsaIn Idealize.ShloMosaic Idealize.ShloMosaic.TcCoe
open Cert.Ffn (rms)

variable {F : FTy → Type} [FloatOps F]

/-- The norm of every row. -/
def normR (x : FVec F S16x2048x1024 .f32) (g : FVec F S1024 .f32) : FVec F S16x2048x1024 .f32 :=
  mulf (mulf x (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf x x) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The projection. -/
def projR (x : FVec F S16x2048x1024 .f32) (w : FVec F S1024x2608 .f32) : FVec F S16x2048x2608 .f32 :=
  Host.dotGeneral dot_S16x2048x1024_S1024x2608_S16x2048x2608_2_0_01_1_n_n none x w

/-- The padding's zero. -/
def zeroR : FVec F S_ .f32 := sitofp .f32 (constantI S_ 32 0#32)

/-- The queries, scaled, padded to 128 lanes, tokens last. -/
def queriesR (p : FVec F S16x2048x2608 .f32) : FVec F S16x4x4x128x2048 .bf16 :=
  truncf .bf16 (transpose S16x4x4x128x2048 [0, 2, 3, 4, 1] (pad S16x2048x4x4x128 ![0, 0, 0, 0, 0] ![0, 0, 0, 0, 64] ![0, 0, 0, 0, 0]
    (mulf (shapeCast S16x2048x4x4x64 (extractStridedSlice S16x2048x1024 ![0, 0, 0] p slices_S16x2048x2608_S16x2048x1024_0_0_0) shapeCasts_S16x2048x1024_S16x2048x4x4x64)
      (broadcastInDim S16x2048x4x4x64 ![] bcast_S_S16x2048x4x4x64 (constant S_ .f32 0x3E38AA3B#32)))
    zeroR pads_S16x2048x4x4x64_S16x2048x4x4x128_000_000_000_000_0640 h_S_) transposes_S16x2048x4x4x128_S16x4x4x128x2048_0_2_3_4_1) bitsLt_bf16_f32

/-- The keys and values of the three branches. -/
def kvR (p : FVec F S16x2048x2608 .f32) : FVec F S16x2048x6x4x64 .f32 :=
  shapeCast S16x2048x6x4x64 (extractStridedSlice S16x2048x1536 ![0, 0, 1024] p slices_S16x2048x2608_S16x2048x1536_0_0_1024) shapeCasts_S16x2048x1536_S16x2048x6x4x64

def kv0R (x : FVec F S16x2048x6x4x64 .f32) : FVec F S16x2048x4x64 .f32 := shapeCast S16x2048x4x64 (extractStridedSlice S16x2048x1x4x64 ![0, 0, 0, 0, 0] x slices_S16x2048x6x4x64_S16x2048x1x4x64_0_0_0_0_0) shapeCasts_S16x2048x1x4x64_S16x2048x4x64
def kv1R (x : FVec F S16x2048x6x4x64 .f32) : FVec F S16x2048x4x64 .f32 := shapeCast S16x2048x4x64 (extractStridedSlice S16x2048x1x4x64 ![0, 0, 1, 0, 0] x slices_S16x2048x6x4x64_S16x2048x1x4x64_0_0_1_0_0) shapeCasts_S16x2048x1x4x64_S16x2048x4x64
def kv2R (x : FVec F S16x2048x6x4x64 .f32) : FVec F S16x2048x4x64 .f32 := shapeCast S16x2048x4x64 (extractStridedSlice S16x2048x1x4x64 ![0, 0, 2, 0, 0] x slices_S16x2048x6x4x64_S16x2048x1x4x64_0_0_2_0_0) shapeCasts_S16x2048x1x4x64_S16x2048x4x64
def kv3R (x : FVec F S16x2048x6x4x64 .f32) : FVec F S16x2048x4x64 .f32 := shapeCast S16x2048x4x64 (extractStridedSlice S16x2048x1x4x64 ![0, 0, 3, 0, 0] x slices_S16x2048x6x4x64_S16x2048x1x4x64_0_0_3_0_0) shapeCasts_S16x2048x1x4x64_S16x2048x4x64
def kv4R (x : FVec F S16x2048x6x4x64 .f32) : FVec F S16x2048x4x64 .f32 := shapeCast S16x2048x4x64 (extractStridedSlice S16x2048x1x4x64 ![0, 0, 4, 0, 0] x slices_S16x2048x6x4x64_S16x2048x1x4x64_0_0_4_0_0) shapeCasts_S16x2048x1x4x64_S16x2048x4x64
def kv5R (x : FVec F S16x2048x6x4x64 .f32) : FVec F S16x2048x4x64 .f32 := shapeCast S16x2048x4x64 (extractStridedSlice S16x2048x1x4x64 ![0, 0, 5, 0, 0] x slices_S16x2048x6x4x64_S16x2048x1x4x64_0_0_5_0_0) shapeCasts_S16x2048x1x4x64_S16x2048x4x64

/-- Every token's block number, a row of zeros with a one. -/
def blockR : FVec F S16x2048x4x64 .f32 :=
  id (shapeCast S16x2048x4x64 (broadcastInDim S16x32x64x4x64 ![0, 1, 2, 3, 4] bcast_S1x32x1x1x64_S16x32x64x4x64_0_1_2_3_4 (broadcastInDim S1x32x1x1x64 ![1, 4] bcast_S32x64_S1x32x1x1x64_1_4
    (select (cmpi .eq (broadcastInDim S32x64 ![0, 1] bcast_S32x1_S32x64_0_1 (broadcastInDim S32x1 ![0] bcast_S32_S32x1_0 (iotaInDim S32 32 0)))
      (broadcastInDim S32x64 ![0, 1] bcast_S1x64_S32x64_0_1 (broadcastInDim S1x64 ![1] bcast_S64_S1x64_1 (iotaInDim S64 32 0))))
      (broadcastInDim S32x64 ![] bcast_S_S32x64 (constant S_ .f32 0x3F800000#32)) (broadcastInDim S32x64 ![] bcast_S_S32x64 (constant S_ .f32 0x00000000#32))))) shapeCasts_S16x32x64x4x64_S16x2048x4x64)

/-- The selection's keys, each with its block's number. -/
def selKeysR (k b : FVec F S16x2048x4x64 .f32) : FVec F S16x4x2048x128 .bf16 :=
  truncf .bf16 (transpose S16x4x2048x128 [0, 2, 1, 3] (concatenate S16x2048x4x128 3 [⟨S16x2048x4x64, k⟩, ⟨S16x2048x4x64, b⟩] concatenates_S16x2048x4x64_S16x2048x4x64_S16x2048x4x128_d3)
    transposes_S16x2048x4x128_S16x4x2048x128_0_2_1_3) bitsLt_bf16_f32

/-- Values with a one after them, by blocks of 256 tokens, tokens last. -/
def valuesR (x : FVec F S16x2048x4x64 .f32) : FVec F S16x4x8x80x256 .bf16 :=
  truncf .bf16 (transpose S16x4x8x80x256 [0, 3, 1, 4, 2] (shapeCast S16x8x256x4x80 (concatenate S16x2048x4x80 3 [⟨S16x2048x4x64, x⟩,
    ⟨S16x2048x4x16, (pad S16x2048x4x16 ![0, 0, 0, 0] ![0, 0, 0, 15] ![0, 0, 0, 0] (broadcastInDim S16x2048x4x1 ![] bcast_S_S16x2048x4x1 (constant S_ .f32 0x3F800000#32)) zeroR pads_S16x2048x4x1_S16x2048x4x16_000_000_000_0150 h_S_)⟩]
    concatenates_S16x2048x4x64_S16x2048x4x16_S16x2048x4x80_d3) shapeCasts_S16x2048x4x80_S16x8x256x4x80) transposes_S16x8x256x4x80_S16x4x8x80x256_0_3_1_4_2) bitsLt_bf16_f32

/-- The window's keys, padded to 128 lanes. -/
def winKeysR (k : FVec F S16x2048x4x64 .f32) : FVec F S16x4x2048x128 .bf16 :=
  truncf .bf16 (transpose S16x4x2048x128 [0, 2, 1, 3] (pad S16x2048x4x128 ![0, 0, 0, 0] ![0, 0, 0, 64] ![0, 0, 0, 0] k zeroR pads_S16x2048x4x64_S16x2048x4x128_000_000_000_0640 h_S_)
    transposes_S16x2048x4x128_S16x4x2048x128_0_2_1_3) bitsLt_bf16_f32

/-- The compressed branch's keys and values. -/
def compR (k v : FVec F S16x2048x4x64 .f32) : FVec F S32768x512 .f32 :=
  shapeCast S32768x512 (concatenate S16x2048x4x128 3 [⟨S16x2048x4x64, k⟩, ⟨S16x2048x4x64, v⟩] concatenates_S16x2048x4x64_S16x2048x4x64_S16x2048x4x128_d3) shapeCasts_S16x2048x4x128_S32768x512

/-- The gates' inputs, padded to 128 lanes. -/
def gatesR (p : FVec F S16x2048x2608 .f32) : FVec F S32768x512 .f32 :=
  shapeCast S32768x512 (pad S16x2048x4x128 ![0, 0, 0, 0] ![0, 0, 0, 116] ![0, 0, 0, 0] (shapeCast S16x2048x4x12 (extractStridedSlice S16x2048x48 ![0, 0, 2560] p slices_S16x2048x2608_S16x2048x48_0_0_2560) shapeCasts_S16x2048x48_S16x2048x4x12)
    zeroR pads_S16x2048x4x12_S16x2048x4x128_000_000_000_01160 h_S_) shapeCasts_S16x2048x4x128_S32768x512

theorem zeroR_apply (i : S_.Idx) : (zeroR (F := Ideal)) i = 0 := by
  show (((((0#32 : BitVec 32).toInt : ℤ) : ℝ)) : EReal) = 0
  simp

theorem normR_apply (x : FVec Ideal S16x2048x1024 .f32) (g : FVec Ideal S1024 .f32) (b : Fin 16) (t : Fin 2048) (j : Fin 1024) :
    normR x g (ix3 b t j) = rms (fun j => x (ix3 b t j)) (fun j => g (ix1 j)) j := by
  pointwise [normR]
  rfl

theorem projR_apply (x : FVec Ideal S16x2048x1024 .f32) (w : FVec Ideal S1024x2608 .f32) (b : Fin 16) (t : Fin 2048) (n : Fin 2608) :
    projR x w (ix3 b t n) = ∑ k, x (ix3 b t k) * w (ix2 k n) := by
  pointwise [projR]

/-- A choice by an equality of two small numbers held as words. -/
theorem pick_eq (a b : ℕ) (ha : a < 64) (hb : b < 64) (x y : EReal) :
    Scalar.select (IntOp.cmpi CmpIPredicate.eq (BitVec.ofNat 32 a) (BitVec.ofNat 32 b)) x y = if b = a then x else y := by
  by_cases h : b = a
  · subst h
    rw [if_pos rfl]
    simp [Scalar.select, IntOp.cmpi]
  · rw [if_neg h]
    have hne : BitVec.ofNat 32 a ≠ BitVec.ofNat 32 b := fun h' => h (by
      have h2 := congrArg BitVec.toNat h'
      have h3 : a % 2 ^ 32 = b % 2 ^ 32 := by simpa only [BitVec.toNat_ofNat] using h2
      omega)
    have hb' : (BitVec.ofNat 32 a == BitVec.ofNat 32 b) = false := beq_eq_false_iff_ne.mpr hne
    simp [Scalar.select, IntOp.cmpi, hb']

variable (p : FVec Ideal S16x2048x2608 .f32) (b : Fin 16) (t : Fin 2048) (g : Fin 4)

theorem queriesR_apply (u : Fin 4) (l : Fin 128) :
    queriesR p (ix5 b g u l t) = if h : l.val < 64 then p (ix3 b t ⟨64 * (4 * g.val + u.val) + l.val, by omega⟩) * scale else 0 := by
  pointwise [queriesR]
  rw [zeroR_apply]
  by_cases h : l.val < 64
  · rw [dif_pos h, dif_pos h]
    exact congrArg (fun r => p (ix3 b t r) * scale) (Fin.ext (by show g.val * 256 + u.val * 64 + l.val = 64 * (4 * g.val + u.val) + l.val; omega))
  · rw [dif_neg h, dif_neg h]

theorem kvR_apply (j : Fin 6) (e : Fin 64) : kvR p (ix5 b t j g e) = p (ix3 b t ⟨1024 + 256 * j.val + 64 * g.val + e.val, by omega⟩) := by
  pointwise [kvR]
  exact congrArg (fun r => p (ix3 b t r)) (Fin.ext (by show 1024 + (j.val * 256 + g.val * 64 + e.val) = 1024 + 256 * j.val + 64 * g.val + e.val; omega))

theorem kv0R_apply (x : FVec Ideal S16x2048x6x4x64 .f32) (e : Fin 64) : kv0R x (ix4 b t g e) = x (ix5 b t 0 g e) := by pointwise [kv0R]
theorem kv1R_apply (x : FVec Ideal S16x2048x6x4x64 .f32) (e : Fin 64) : kv1R x (ix4 b t g e) = x (ix5 b t 1 g e) := by pointwise [kv1R]
theorem kv2R_apply (x : FVec Ideal S16x2048x6x4x64 .f32) (e : Fin 64) : kv2R x (ix4 b t g e) = x (ix5 b t 2 g e) := by pointwise [kv2R]
theorem kv3R_apply (x : FVec Ideal S16x2048x6x4x64 .f32) (e : Fin 64) : kv3R x (ix4 b t g e) = x (ix5 b t 3 g e) := by pointwise [kv3R]
theorem kv4R_apply (x : FVec Ideal S16x2048x6x4x64 .f32) (e : Fin 64) : kv4R x (ix4 b t g e) = x (ix5 b t 4 g e) := by pointwise [kv4R]
theorem kv5R_apply (x : FVec Ideal S16x2048x6x4x64 .f32) (e : Fin 64) : kv5R x (ix4 b t g e) = x (ix5 b t 5 g e) := by pointwise [kv5R]

theorem blockR_apply (e : Fin 64) : (blockR (F := Ideal)) (ix4 b t g e) = if e.val = t.val / 64 then 1 else 0 := by
  pointwise [blockR, id]
  exact pick_eq (t.val / 64) e.val (by omega) e.isLt 1 0

theorem selKeysR_apply (k s : FVec Ideal S16x2048x4x64 .f32) (l : Fin 128) :
    selKeysR k s (ix4 b g t l) = if h : l.val < 64 then k (ix4 b t g ⟨l.val, h⟩) else s (ix4 b t g ⟨l.val - 64, by omega⟩) := by
  pointwise [selKeysR]

theorem valuesR_apply (x : FVec Ideal S16x2048x4x64 .f32) (n : Fin 8) (q : Fin 80) (i : Fin 256) :
    valuesR x (ix5 b g n q i) = if h : q.val < 64 then x (ix4 b ⟨256 * n.val + i.val, by omega⟩ g ⟨q.val, h⟩) else if q.val = 64 then 1 else 0 := by
  pointwise [valuesR]
  by_cases h : q.val < 64
  · rw [dif_pos h, dif_pos h]
    exact congrArg (fun r => x (ix4 b r g ⟨q.val, h⟩)) (Fin.ext (by show n.val * 256 + i.val = 256 * n.val + i.val; omega))
  · rw [dif_neg h, dif_neg h, zeroR_apply]
    by_cases e : q.val = 64
    · rw [dif_pos ⟨by omega, by omega⟩, if_pos e]
    · rw [dif_neg (by omega), if_neg e]

theorem winKeysR_apply (k : FVec Ideal S16x2048x4x64 .f32) (l : Fin 128) :
    winKeysR k (ix4 b g t l) = if h : l.val < 64 then k (ix4 b t g ⟨l.val, h⟩) else 0 := by
  pointwise [winKeysR]
  rw [zeroR_apply]

theorem compR_apply (k v : FVec Ideal S16x2048x4x64 .f32) (l : Fin 128) :
    compR k v (ix2 ⟨2048 * b.val + t.val, by omega⟩ ⟨128 * g.val + l.val, by omega⟩)
      = if h : l.val < 64 then k (ix4 b t g ⟨l.val, h⟩) else v (ix4 b t g ⟨l.val - 64, by omega⟩) := by
  pointwise [compR]

theorem gatesR_apply (l : Fin 128) :
    gatesR p (ix2 ⟨2048 * b.val + t.val, by omega⟩ ⟨128 * g.val + l.val, by omega⟩)
      = if h : l.val < 12 then p (ix3 b t ⟨2560 + 12 * g.val + l.val, by omega⟩) else 0 := by
  pointwise [gatesR]
  rw [zeroR_apply]
  by_cases h : l.val < 12
  · rw [dif_pos h, dif_pos h]
    exact congrArg (fun r => p (ix3 b t r)) (Fin.ext (by show 2560 + (g.val * 12 + l.val) = 2560 + 12 * g.val + l.val; omega))
  · rw [dif_neg h, dif_neg h]

end Cert.Reference6Ideal.NsaIn

end
-- ==== Proof.NsaIn.Claim.lean ====
/-
  The attention's input projection: kernel and reference leave the same seven results.
-/
module

public import proofs.«01_k».proof.Defs
public import proofs.«01_k».proof.Proof.NsaIn.Point
public import proofs.«01_k».proof.Proof.NsaIn.Ref
public import Idealize.ShloMosaic.Adequacy
public import Idealize.ShloMosaic.Init

@[expose] public section

set_option maxRecDepth 16384

noncomputable section

namespace Cert.NsaIn

open Cert.Reference6Ideal.NsaIn Idealize.ShloMosaic Idealize.SL.Sem Idealize.ShloMosaic.TcCoe
open Cert.Kernel6Ideal.NsaIn (out4 out5 out6 out7 out8 out9 out10)
open Cert.Reference6Ideal (S16x2048x1024 S1024 S1024x2608 S16x2048x2608 S16x4x4x128x2048 S16x4x2048x128 S16x4x8x80x256 S32768x512)

/-! Two arrays equal at every index, with the index spelt out. -/

theorem ext_q {x y : FVec Ideal S16x4x4x128x2048 .bf16} (h : ∀ (b : Fin 16) (g u : Fin 4) (l : Fin 128) (t : Fin 2048), x (ix5 b g u l t) = y (ix5 b g u l t)) : x = y := by
  funext i
  have e : i = (ix5 (i 0) (i 1) (i 2) (i 3) (i 4) : S16x4x4x128x2048.Idx) := by
    funext a
    match a with
    | ⟨0, _⟩ => rfl
    | ⟨1, _⟩ => rfl
    | ⟨2, _⟩ => rfl
    | ⟨3, _⟩ => rfl
    | ⟨4, _⟩ => rfl
  rw [e]
  exact h (i 0) (i 1) (i 2) (i 3) (i 4)

theorem ext_k {x y : FVec Ideal S16x4x2048x128 .bf16} (h : ∀ (b : Fin 16) (g : Fin 4) (t : Fin 2048) (l : Fin 128), x (ix4 b g t l) = y (ix4 b g t l)) : x = y := by
  funext i
  have e : i = (ix4 (i 0) (i 1) (i 2) (i 3) : S16x4x2048x128.Idx) := by
    funext a
    match a with
    | ⟨0, _⟩ => rfl
    | ⟨1, _⟩ => rfl
    | ⟨2, _⟩ => rfl
    | ⟨3, _⟩ => rfl
  rw [e]
  exact h (i 0) (i 1) (i 2) (i 3)

theorem ext_v {x y : FVec Ideal S16x4x8x80x256 .bf16} (h : ∀ (b : Fin 16) (g : Fin 4) (n : Fin 8) (q : Fin 80) (i : Fin 256), x (ix5 b g n q i) = y (ix5 b g n q i)) : x = y := by
  funext i
  have e : i = (ix5 (i 0) (i 1) (i 2) (i 3) (i 4) : S16x4x8x80x256.Idx) := by
    funext a
    match a with
    | ⟨0, _⟩ => rfl
    | ⟨1, _⟩ => rfl
    | ⟨2, _⟩ => rfl
    | ⟨3, _⟩ => rfl
    | ⟨4, _⟩ => rfl
  rw [e]
  exact h (i 0) (i 1) (i 2) (i 3) (i 4)

theorem ext_flat {x y : FVec Ideal S32768x512 .f32} (h : ∀ (b : Fin 16) (t : Fin 2048) (g : Fin 4) (l : Fin 128),
    x (ix2 ⟨2048 * b.val + t.val, by omega⟩ ⟨128 * g.val + l.val, by omega⟩) = y (ix2 ⟨2048 * b.val + t.val, by omega⟩ ⟨128 * g.val + l.val, by omega⟩)) : x = y := by
  funext i
  have h0 : (i 0).val < 32768 := (i 0).isLt
  have h1 : (i 1).val < 512 := (i 1).isLt
  have e : i = (ix2 ⟨2048 * ((i 0).val / 2048) + (i 0).val % 2048, by omega⟩ ⟨128 * ((i 1).val / 128) + (i 1).val % 128, by omega⟩ : S32768x512.Idx) := by
    funext a
    apply Fin.ext
    match a with
    | ⟨0, _⟩ => show (i 0).val = 2048 * ((i 0).val / 2048) + (i 0).val % 2048; omega
    | ⟨1, _⟩ => show (i 1).val = 128 * ((i 1).val / 128) + (i 1).val % 128; omega
  rw [e]
  exact h ⟨(i 0).val / 2048, by omega⟩ ⟨(i 0).val % 2048, by omega⟩ ⟨(i 1).val / 128, by omega⟩ ⟨(i 1).val % 128, by omega⟩

/-- A function of a token and a lane at a flat place. -/
theorem flat_at (f : Fin 16 → Fin 2048 → Fin 4 → Fin 128 → EReal) (b : Fin 16) (t : Fin 2048) (g : Fin 4) (l : Fin 128)
    (h1 : (2048 * b.val + t.val) / 2048 < 16) (h2 : (2048 * b.val + t.val) % 2048 < 2048) (h3 : (128 * g.val + l.val) / 128 < 4) (h4 : (128 * g.val + l.val) % 128 < 128) :
    f ⟨(2048 * b.val + t.val) / 2048, h1⟩ ⟨(2048 * b.val + t.val) % 2048, h2⟩ ⟨(128 * g.val + l.val) / 128, h3⟩ ⟨(128 * g.val + l.val) % 128, h4⟩ = f b t g l := by
  have e1 : (⟨(2048 * b.val + t.val) / 2048, h1⟩ : Fin 16) = b := Fin.ext (by show (2048 * b.val + t.val) / 2048 = b.val; omega)
  have e2 : (⟨(2048 * b.val + t.val) % 2048, h2⟩ : Fin 2048) = t := Fin.ext (by show (2048 * b.val + t.val) % 2048 = t.val; omega)
  have e3 : (⟨(128 * g.val + l.val) / 128, h3⟩ : Fin 4) = g := Fin.ext (by show (128 * g.val + l.val) / 128 = g.val; omega)
  have e4 : (⟨(128 * g.val + l.val) % 128, h4⟩ : Fin 128) = l := Fin.ext (by show (128 * g.val + l.val) % 128 = l.val; omega)
  rw [e1, e2, e3, e4]

section

variable (a0 : FVec Ideal S16x2048x1024 .f32) (a1 : FVec Ideal S1024 .f32) (a2 : FVec Ideal S1024x2608 .f32)

/-- The reference's arguments, entry by entry. -/
def argsR : Args where
  h b t k := a0 (ix3 b t k)
  gain k := a1 (ix1 k)
  w k n := a2 (ix2 k n)

/-- The reference's projection. -/
def pR : FVec Ideal S16x2048x2608 .f32 := projR (normR a0 a1) a2

theorem pR_apply (b : Fin 16) (t : Fin 2048) (n : Fin 2608) : pR a0 a1 a2 (ix3 b t n) = (argsR a0 a1 a2).projAt b t n := by
  unfold pR
  rw [projR_apply]
  simp only [normR_apply]
  rfl

theorem kvR_at (b : Fin 16) (t : Fin 2048) (j : Fin 6) (g : Fin 4) (e : Fin 64) : kvR (pR a0 a1 a2) (ix5 b t j g e) = (argsR a0 a1 a2).kvAt b t j g e :=
  (kvR_apply (pR a0 a1 a2) b t g j e).trans (pR_apply a0 a1 a2 b t _)

theorem res4 : queriesR (pR a0 a1 a2) = out4 (argsR a0 a1 a2) := by
  refine ext_q fun b g u l t => ?_
  refine (queriesR_apply (pR a0 a1 a2) b t g u l).trans ?_
  simp only [pR_apply]
  rfl

theorem res5 : selKeysR (kv2R (kvR (pR a0 a1 a2))) blockR = out5 (argsR a0 a1 a2) := by
  refine ext_k fun b g t l => ?_
  refine (selKeysR_apply b t g _ _ l).trans ?_
  simp only [kv2R_apply, kvR_at, blockR_apply]
  rfl

theorem res6 : valuesR (kv3R (kvR (pR a0 a1 a2))) = out6 (argsR a0 a1 a2) := by
  refine ext_v fun b g n q i => ?_
  refine (valuesR_apply b g _ n q i).trans ?_
  simp only [kv3R_apply, kvR_at]
  rfl

theorem res7 : winKeysR (kv4R (kvR (pR a0 a1 a2))) = out7 (argsR a0 a1 a2) := by
  refine ext_k fun b g t l => ?_
  refine (winKeysR_apply b t g _ l).trans ?_
  simp only [kv4R_apply, kvR_at]
  rfl

theorem res8 : valuesR (kv5R (kvR (pR a0 a1 a2))) = out8 (argsR a0 a1 a2) := by
  refine ext_v fun b g n q i => ?_
  refine (valuesR_apply b g _ n q i).trans ?_
  simp only [kv5R_apply, kvR_at]
  rfl

theorem res9 : compR (kv0R (kvR (pR a0 a1 a2))) (kv1R (kvR (pR a0 a1 a2))) = out9 (argsR a0 a1 a2) := by
  refine ext_flat fun b t g l => ?_
  refine (compR_apply b t g _ _ l).trans ?_
  simp only [kv0R_apply, kv1R_apply, kvR_at]
  exact (flat_at (fun b t g l => (argsR a0 a1 a2).cmpAt b t g l) b t g l (by omega) (by omega) (by omega) (by omega)).symm

theorem res10 : gatesR (pR a0 a1 a2) = out10 (argsR a0 a1 a2) := by
  refine ext_flat fun b t g l => ?_
  refine (gatesR_apply (pR a0 a1 a2) b t g l).trans ?_
  simp only [pR_apply]
  exact (flat_at (fun b t g l => (argsR a0 a1 a2).gateAt b t g l) b t g l (by omega) (by omega) (by omega) (by omega)).symm

end

theorem algebraic : Cert.algebraic_Kernel6Ideal_Reference6Ideal := by
  intro m ρ m' ρ' _ hagree
  refine ⟨fun c => out4 (Cert.Kernel6Ideal.NsaIn.argsK m c), fun c => out5 (Cert.Kernel6Ideal.NsaIn.argsK m c), fun c => out6 (Cert.Kernel6Ideal.NsaIn.argsK m c), fun c => out7 (Cert.Kernel6Ideal.NsaIn.argsK m c), fun c => out8 (Cert.Kernel6Ideal.NsaIn.argsK m c), fun c => out9 (Cert.Kernel6Ideal.NsaIn.argsK m c), fun c => out10 (Cert.Kernel6Ideal.NsaIn.argsK m c),
    Cert.Kernel6Ideal.NsaIn.run m ρ, ?_⟩
  refine (θ_run Cert.Reference6Ideal.defs _ _).mono (fun r h c => ?_) (Cert.Reference6Ideal.Value.run (F := Ideal) m' ρ')
  obtain ⟨e0, e1, e2⟩ := hagree c
  have e : argsR (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)) = Cert.Kernel6Ideal.NsaIn.argsK m c := by
    unfold argsR Cert.Kernel6Ideal.NsaIn.argsK
    rw [e0, e1, e2]
  exact ⟨(h c).1.trans ((res4 _ _ _).trans (congrArg out4 e)),
    (h c).2.1.trans ((res5 _ _ _).trans (congrArg out5 e)),
    (h c).2.2.1.trans ((res6 _ _ _).trans (congrArg out6 e)),
    (h c).2.2.2.1.trans ((res7 _ _ _).trans (congrArg out7 e)),
    (h c).2.2.2.2.1.trans ((res8 _ _ _).trans (congrArg out8 e)),
    (h c).2.2.2.2.2.1.trans ((res9 _ _ _).trans (congrArg out9 e)),
    (h c).2.2.2.2.2.2.1.trans ((res10 _ _ _).trans (congrArg out10 e)),
    (h c).2.2.2.2.2.2.2⟩

end Cert.NsaIn

end
-- ==== Proof.lean ====
/-
  The claims of this directory, put together: for each of the six programs its frames, that idealizing preserves it, and its value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_steps
public import proofs.«01_k».proof.Proof.Gen.KernelIdeal.Value
public import proofs.«01_k».proof.Proof.Gen.ReferenceIdeal.Run
public import proofs.«01_k».proof.Proof.Gen.ReferenceIdeal.Step
public import proofs.«01_k».proof.Proof.Ssd.Claim
public import proofs.«01_k».proof.Proof.Ffn.Claim
public import proofs.«01_k».proof.Proof.SsdIn.Claim
public import proofs.«01_k».proof.Proof.OutProj.Ssd
public import proofs.«01_k».proof.Proof.OutProj.Nsa
public import proofs.«01_k».proof.Proof.NsaIn.Claim
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Cert.Kernel

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_steps.Gen.facts,
  fun m ρ _ => Cert.Kernel.Gen.frame m ρ,
  fun m ρ _ => Cert.KernelIdeal.Gen.frame m ρ,
  fun m ρ _ => Cert.KernelIdeal.Gen.frame m ρ,
  Cert.Ssd.frame_reference, Cert.Ssd.frame_reference_pre,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  IdealRules.named_const.statement Cert.KernelIdeal.κ "mask" .f32 0xF149F2CA#32 ⊥ rfl,
  Cert.Ssd.algebraic, trivial, Cert.Ffn.algebraic,
  trivial, Cert.SsdIn.algebraic, trivial, Cert.OutProj.Ssd.algebraic, trivial, Cert.OutProj.Nsa.algebraic,
  trivial, Cert.NsaIn.algebraic⟩

end Cert.Proof

end
